-- ==== Defs.lean ====
def Pre_Gather [hPre_rows_exist : Cert.Pre_rows_exist.Facts] (m : (ℓ : Loc Cert.Gather.nD Cert.Gather.τ Cert.Gather.sig) → Buf (Elt Bits) ℓ) : Prop :=
  ∀ c : Dev Cert.Gather.nD,
    (Cert.Pre_rows_exist.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_exist : Cert.Pre_rows_exist.Facts] (m : (ℓ : Loc Cert.GatherIdeal.nD Cert.GatherIdeal.τ Cert.GatherIdeal.sig) → Buf (Elt Ideal) ℓ) : Prop :=
  ∀ c : Dev Cert.GatherIdeal.nD,
    (Cert.Pre_rows_exist.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal [hPre_rows_exist : Cert.Pre_rows_exist.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_rows_exist.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_rows_exist : Cert.Pre_rows_exist.Facts] (m : (ℓ : Loc Cert.GatherRef.nD Cert.GatherRef.τ Cert.GatherRef.sig) → Buf (Elt Bits) ℓ) : Prop :=
  ∀ c : Dev Cert.GatherRef.nD,
    (Cert.Pre_rows_exist.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Gather [hGather : Cert.Gather.Facts] [hPre_rows_exist : Cert.Pre_rows_exist.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_exist : Cert.Pre_rows_exist.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] [hPre_rows_exist : Cert.Pre_rows_exist.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_rows_exist : Cert.Pre_rows_exist.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_rows_exist : Cert.Pre_rows_exist.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v5)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v5) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v8) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def bitexact_Gather_GatherRef [hGather : Cert.Gather.Facts] [hGatherRef : Cert.GatherRef.Facts] [hPre_rows_exist : Cert.Pre_rows_exist.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v5)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v5) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v8) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hGather : Cert.Gather.Facts) (hGatherIdeal : Cert.GatherIdeal.Facts) (hGatherRefIdeal : Cert.GatherRefIdeal.Facts) (hGatherRef : Cert.GatherRef.Facts) (hKernelIdeal : Cert.KernelIdeal.Facts) (hReferenceIdeal : Cert.ReferenceIdeal.Facts) (hPre_rows_exist : Cert.Pre_rows_exist.Facts) (hPre_finite : Cert.Pre_finite.Facts),
    quiescent_Gather (hGather := hGather) (hPre_rows_exist := hPre_rows_exist)
    ∧ quiescent_GatherIdeal (hGatherIdeal := hGatherIdeal) (hPre_rows_exist := hPre_rows_exist)
    ∧ quiescent_GatherRefIdeal (hGatherRefIdeal := hGatherRefIdeal) (hPre_rows_exist := hPre_rows_exist)
    ∧ quiescent_GatherRef (hGatherRef := hGatherRef) (hPre_rows_exist := hPre_rows_exist)
    ∧ quiescent_KernelIdeal (hKernelIdeal := hKernelIdeal) (hPre_finite := hPre_finite)
    ∧ quiescent_ReferenceIdeal (hReferenceIdeal := hReferenceIdeal) (hPre_finite := hPre_finite)
    ∧ preserves_Gather_GatherIdeal
    ∧ algebraic_GatherIdeal_GatherRefIdeal (hGatherIdeal := hGatherIdeal) (hGatherRefIdeal := hGatherRefIdeal) (hPre_rows_exist := hPre_rows_exist)
    ∧ bitexact_Gather_GatherRef (hGather := hGather) (hGatherRef := hGatherRef) (hPre_rows_exist := hPre_rows_exist)
    ∧ algebraic_KernelIdeal_ReferenceIdeal (hKernelIdeal := hKernelIdeal) (hReferenceIdeal := hReferenceIdeal) (hPre_finite := hPre_finite)
-- ==== Pre_finite.lean ====
abbrev S4x16384x3 : Shape := ⟨3, ![4, 16384, 3]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel

variable [Facts]

def fn {F : FTy → Type} [FloatOps F] (main_arg0 : FVec F S4x16384x3 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  main_v3
-- ==== Pre_rows_exist.lean ====
abbrev S65536 : Shape := ⟨1, ![65536]⟩
abbrev S4x16384x3 : Shape := ⟨3, ![4, 16384, 3]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S4x16384x3 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 65536#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Gather.lean ====
abbrev S65536 : Shape := ⟨1, ![65536]⟩
abbrev S4x16384x3 : Shape := ⟨3, ![4, 16384, 3]⟩
abbrev S65536x3 : Shape := ⟨2, ![65536, 3]⟩
abbrev S_ : Shape := ⟨0, ![]⟩
abbrev S65536x13 : Shape := ⟨2, ![65536, 13]⟩
abbrev S65536x16 : Shape := ⟨2, ![65536, 16]⟩
abbrev S2048 : Shape := ⟨1, ![2048]⟩
abbrev S2048x16 : Shape := ⟨2, ![2048, 16]⟩
abbrev S4x512x32x3 : Shape := ⟨4, ![4, 512, 32, 3]⟩

abbrev nBuf : Table → Nat
  | .hbm => 9
  | .local .scVector .vmem => 2
  | _ => 0

abbrev bufTy : (tb : Table) → Fin (nBuf tb) → BufTy
  | .hbm, ⟨0, _⟩ => ⟨S65536, .i32⟩
  | .hbm, ⟨1, _⟩ => ⟨S4x16384x3, .f32⟩
  | .hbm, ⟨2, _⟩ => ⟨S65536x3, .f32⟩
  | .hbm, ⟨3, _⟩ => ⟨S_, .f32⟩
  | .hbm, ⟨4, _⟩ => ⟨S65536x13, .f32⟩
  | .hbm, ⟨5, _⟩ => ⟨S65536x16, .f32⟩
  | .hbm, ⟨6, _⟩ => ⟨S65536x16, .f32⟩
  | .hbm, ⟨7, _⟩ => ⟨S65536x3, .f32⟩
  | .hbm, ⟨8, _⟩ => ⟨S4x512x32x3, .f32⟩
  | .local .scVector .vmem, ⟨0, _⟩ => ⟨S2048, .i32⟩
  | .local .scVector .vmem, ⟨1, _⟩ => ⟨S2048x16, .f32⟩
  | _, _ => ⟨S65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S65536 : Shape := ⟨1, ![65536]⟩
abbrev S4x16384x3 : Shape := ⟨3, ![4, 16384, 3]⟩
abbrev S65536x3 : Shape := ⟨2, ![65536, 3]⟩
abbrev S_ : Shape := ⟨0, ![]⟩
abbrev S65536x1 : Shape := ⟨2, ![65536, 1]⟩
abbrev S4x512x32x3 : Shape := ⟨4, ![4, 512, 32, 3]⟩

abbrev nBuf : Space → Nat
  | .hbm => 13
  | .vmem => 0
  | .smem => 0
  | _ => 0

abbrev bufTy : (tb : Table) → Fin (tcTables nBuf tb) → BufTy
  | .hbm, ⟨0, _⟩ => ⟨S65536, .i32⟩
  | .hbm, ⟨1, _⟩ => ⟨S4x16384x3, .f32⟩
  | .hbm, ⟨2, _⟩ => ⟨S65536x3, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x3, .f32⟩
  | .hbm, ⟨12, _⟩ => ⟨S4x512x32x3, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelIdeal.lean ====
abbrev S4x16384x3 : Shape := ⟨3, ![4, 16384, 3]⟩
abbrev S4x16384x1 : Shape := ⟨3, ![4, 16384, 1]⟩
abbrev S4x16384 : Shape := ⟨2, ![4, 16384]⟩
abbrev S4x8x2048 : Shape := ⟨3, ![4, 8, 2048]⟩
abbrev S4x1x512 : Shape := ⟨3, ![4, 1, 512]⟩
abbrev S1x8x2048 : Shape := ⟨3, ![1, 8, 2048]⟩
abbrev S1x1x512 : Shape := ⟨3, ![1, 1, 512]⟩
abbrev S8x2048 : Shape := ⟨2, ![8, 2048]⟩
abbrev S1x512 : Shape := ⟨2, ![1, 512]⟩
abbrev S1x1 : Shape := ⟨2, ![1, 1]⟩
abbrev S8 : Shape := ⟨1, ![8]⟩
abbrev S8x1 : Shape := ⟨2, ![8, 1]⟩
abbrev S1 : Shape := ⟨1, ![1]⟩
abbrev S4x512 : Shape := ⟨2, ![4, 512]⟩
abbrev S4x64x8x1 : Shape := ⟨4, ![4, 64, 8, 1]⟩
abbrev S4x128x128 : Shape := ⟨3, ![4, 128, 128]⟩
abbrev S4x512x32 : Shape := ⟨3, ![4, 512, 32]⟩
abbrev S1x128x128 : Shape := ⟨3, ![1, 128, 128]⟩
abbrev S1x1x8x1 : Shape := ⟨4, ![1, 1, 8, 1]⟩
abbrev S1x8x32 : Shape := ⟨3, ![1, 8, 32]⟩
abbrev S8x128x128 : Shape := ⟨3, ![8, 128, 128]⟩
abbrev S8x128 : Shape := ⟨2, ![8, 128]⟩
abbrev S8x1x1 : Shape := ⟨3, ![8, 1, 1]⟩
abbrev S8x32 : Shape := ⟨2, ![8, 32]⟩
abbrev S8x1x128 : Shape := ⟨3, ![8, 1, 128]⟩
abbrev S1x8x128 : Shape := ⟨3, ![1, 8, 128]⟩
abbrev S1x1x1 : Shape := ⟨3, ![1, 1, 1]⟩
abbrev S65536 : Shape := ⟨1, ![65536]⟩
abbrev S65536x3 : Shape := ⟨2, ![65536, 3]⟩
abbrev S_ : Shape := ⟨0, ![]⟩
abbrev S65536x13 : Shape := ⟨2, ![65536, 13]⟩
abbrev S65536x16 : Shape := ⟨2, ![65536, 16]⟩
abbrev S2048 : Shape := ⟨1, ![2048]⟩
abbrev S2048x16 : Shape := ⟨2, ![2048, 16]⟩
abbrev S4x512x32x3 : Shape := ⟨4, ![4, 512, 32, 3]⟩

abbrev nBuf : Table → Nat
  | .hbm => 31
  | .local .tc .vmem => 35
  | .local .scVector .vmem => 2
  | _ => 0

abbrev bufTy : (tb : Table) → Fin (nBuf tb) → BufTy
  | .hbm, ⟨0, _⟩ => ⟨S4x16384x3, .f32⟩
  | .hbm, ⟨1, _⟩ => ⟨S4x16384x1, .f32⟩
  | .hbm, ⟨2, _⟩ => ⟨S4x16384, .f32⟩
  | .hbm, ⟨3, _⟩ => ⟨S4x16384x1, .f32⟩
  | .hbm, ⟨4, _⟩ => ⟨S4x16384, .f32⟩
  | .hbm, ⟨5, _⟩ => ⟨S4x16384x1, .f32⟩
  | .hbm, ⟨6, _⟩ => ⟨S4x16384, .f32⟩
  | .hbm, ⟨7, _⟩ => ⟨S4x8x2048, .f32⟩
  | .hbm, ⟨8, _⟩ => ⟨S4x8x2048, .f32⟩
  | .hbm, ⟨9, _⟩ => ⟨S4x8x2048, .f32⟩
  | .hbm, ⟨10, _⟩ => ⟨S4x1x512, .f32⟩
  | .hbm, ⟨11, _⟩ => ⟨S4x1x512, .f32⟩
  | .hbm, ⟨12, _⟩ => ⟨S4x1x512, .f32⟩
  | .hbm, ⟨13, _⟩ => ⟨S4x512, .f32⟩
  | .hbm, ⟨14, _⟩ => ⟨S4x512, .f32⟩
  | .hbm, ⟨15, _⟩ => ⟨S4x512, .f32⟩
  | .hbm, ⟨16, _⟩ => ⟨S4x64x8x1, .f32⟩
  | .hbm, ⟨17, _⟩ => ⟨S4x64x8x1, .f32⟩
  | .hbm, ⟨18, _⟩ => ⟨S4x64x8x1, .f32⟩
  | .hbm, ⟨19, _⟩ => ⟨S4x128x128, .f32⟩
  | .hbm, ⟨20, _⟩ => ⟨S4x128x128, .f32⟩
  | .hbm, ⟨21, _⟩ => ⟨S4x128x128, .f32⟩
  | .hbm, ⟨22, _⟩ => ⟨S4x512x32, .i32⟩
  | .hbm, ⟨23, _⟩ => ⟨S65536, .i32⟩
  | .hbm, ⟨24, _⟩ => ⟨S65536x3, .f32⟩
  | .hbm, ⟨25, _⟩ => ⟨S_, .f32⟩
  | .hbm, ⟨26, _⟩ => ⟨S65536x13, .f32⟩
  | .hbm, ⟨27, _⟩ => ⟨S65536x16, .f32⟩
  | .hbm, ⟨28, _⟩ => ⟨S65536x16, .f32⟩
  | .hbm, ⟨29, _⟩ => ⟨S65536x3, .f32⟩
  | .hbm, ⟨30, _⟩ => ⟨S4x512x32x3, .f32⟩
  | .local .tc .vmem, ⟨0, _⟩ => ⟨S1x8x2048, .f32⟩
  | .local .tc .vmem, ⟨1, _⟩ => ⟨S1x8x2048, .f32⟩
  | .local .tc .vmem, ⟨2, _⟩ => ⟨S1x8x2048, .f32⟩
  | .local .tc .vmem, ⟨3, _⟩ => ⟨S1x8x2048, .f32⟩
  | .local .tc .vmem, ⟨4, _⟩ => ⟨S1x8x2048, .f32⟩
  | .local .tc .vmem, ⟨5, _⟩ => ⟨S1x8x2048, .f32⟩
  | .local .tc .vmem, ⟨6, _⟩ => ⟨S1x1x512, .f32⟩
  | .local .tc .vmem, ⟨7, _⟩ => ⟨S1x1x512, .f32⟩
  | .local .tc .vmem, ⟨8, _⟩ => ⟨S1x1x512, .f32⟩
  | .local .tc .vmem, ⟨9, _⟩ => ⟨S1x1x512, .f32⟩
  | .local .tc .vmem, ⟨10, _⟩ => ⟨S1x1x512, .f32⟩
  | .local .tc .vmem, ⟨11, _⟩ => ⟨S1x1x512, .f32⟩
  | .local .tc .vmem, ⟨12, _⟩ => ⟨S8x2048, .f32⟩
  | .local .tc .vmem, ⟨13, _⟩ => ⟨S1x128x128, .f32⟩
  | .local .tc .vmem, ⟨14, _⟩ => ⟨S1x128x128, .f32⟩
  | .local .tc .vmem, ⟨15, _⟩ => ⟨S1x128x128, .f32⟩
  | .local .tc .vmem, ⟨16, _⟩ => ⟨S1x128x128, .f32⟩
  | .local .tc .vmem, ⟨17, _⟩ => ⟨S1x128x128, .f32⟩
  | .local .tc .vmem, ⟨18, _⟩ => ⟨S1x128x128, .f32⟩
  | .local .tc .vmem, ⟨19, _⟩ => ⟨S1x1x8x1, .f32⟩
  | .local .tc .vmem, ⟨20, _⟩ => ⟨S1x1x8x1, .f32⟩
  | .local .tc .vmem, ⟨21, _⟩ => ⟨S1x1x8x1, .f32⟩
  | .local .tc .vmem, ⟨22, _⟩ => ⟨S1x1x8x1, .f32⟩
  | .local .tc .vmem, ⟨23, _⟩ => ⟨S1x1x8x1, .f32⟩
  | .local .tc .vmem, ⟨24, _⟩ => ⟨S1x1x8x1, .f32⟩
  | .local .tc .vmem, ⟨25, _⟩ => ⟨S1x8x32, .i32⟩
  | .local .tc .vmem, ⟨26, _⟩ => ⟨S1x8x32, .i32⟩
  | .local .tc .vmem, ⟨27, _⟩ => ⟨S8x128x128, .f32⟩
  | .local .tc .vmem, ⟨28, _⟩ => ⟨S8x128, .f32⟩
  | .local .tc .vmem, ⟨29, _⟩ => ⟨S8x128, .i32⟩
  | .local .tc .vmem, ⟨30, _⟩ => ⟨S8x128, .f32⟩
  | .local .tc .vmem, ⟨31, _⟩ => ⟨S8x128, .i32⟩
  | .local .tc .vmem, ⟨32, _⟩ => ⟨S8x128, .f32⟩
  | .local .tc .vmem, ⟨33, _⟩ => ⟨S8x128, .i32⟩
  | .local .tc .vmem, ⟨34, _⟩ => ⟨S8x128, .i32⟩
  | .local .scVector .vmem, ⟨0, _⟩ => ⟨S2048, .i32⟩
  | .local .scVector .vmem, ⟨1, _⟩ => ⟨S2048x16, .f32⟩
  | _, _ => ⟨S4x16384x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9_0 : Ref sig .tc := ⟨.hbm, 10, rfl⟩
abbrev main_v9_1 : Ref sig .tc := ⟨.hbm, 11, rfl⟩
abbrev main_v9_2 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v20_scv : Ref sig .scVector := ⟨.hbm, 23, rfl⟩
abbrev main_v23_scv : Ref sig .scVector := ⟨.hbm, 27, rfl⟩
abbrev main_v24_scv : Ref sig .scVector := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc1_scratch3 : Ref sig .tc := ⟨.vmem, 30, rfl⟩
abbrev cc1_scratch4 : Ref sig .tc := ⟨.vmem, 31, rfl⟩
abbrev cc1_scratch5 : Ref sig .tc := ⟨.vmem, 32, rfl⟩
abbrev cc1_scratch6 : Ref sig .tc := ⟨.vmem, 33, rfl⟩
abbrev cc1_scratch7 : Ref sig .tc := ⟨.vmem, 34, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_11 : BitVec 32 := 0#32
  let c512_i32 : BitVec 32 := 512#32
  let v18 : BitVec 32 := Scalar.addi c0_i32_11 c512_i32
  let c1_i32 : BitVec 32 := 1#32
  ⟨c0_i32_11, v18, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 64], ![false, false]⟩

@[reducible] def k1_t1_loop : Scf.Loop 32 :=
  let c0_i32_58 : BitVec 32 := 0#32
  let c32_i32 : BitVec 32 := 32#32
  let v146 : BitVec 32 := Scalar.addi c0_i32_58 c32_i32
  let c1_i32 : BitVec 32 := 1#32
  ⟨c0_i32_58, v146, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x8x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x8x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x8x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x32 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16384x3 : Shape := ⟨3, ![4, 16384, 3]⟩
abbrev S_ : Shape := ⟨0, ![]⟩
abbrev S4x512 : Shape := ⟨2, ![4, 512]⟩
abbrev S4x16384 : Shape := ⟨2, ![4, 16384]⟩
abbrev S4 : Shape := ⟨1, ![4]⟩
abbrev S1 : Shape := ⟨1, ![1]⟩
abbrev S4x1 : Shape := ⟨2, ![4, 1]⟩
abbrev S4x2 : Shape := ⟨2, ![4, 2]⟩
abbrev S4x3 : Shape := ⟨2, ![4, 3]⟩
abbrev S4x1x3 : Shape := ⟨3, ![4, 1, 3]⟩
abbrev S4x512x1 : Shape := ⟨3, ![4, 512, 1]⟩
abbrev S4x512x2 : Shape := ⟨3, ![4, 512, 2]⟩
abbrev S4x512x3 : Shape := ⟨3, ![4, 512, 3]⟩
abbrev S4x1x16384 : Shape := ⟨3, ![4, 1, 16384]⟩
abbrev S4x512x16384 : Shape := ⟨3, ![4, 512, 16384]⟩
abbrev S4x512x32 : Shape := ⟨3, ![4, 512, 32]⟩
abbrev S4x1x1 : Shape := ⟨3, ![4, 1, 1]⟩
abbrev S65536 : Shape := ⟨1, ![65536]⟩
abbrev S65536x3 : Shape := ⟨2, ![65536, 3]⟩
abbrev S65536x1 : Shape := ⟨2, ![65536, 1]⟩
abbrev S4x512x32x3 : Shape := ⟨4, ![4, 512, 32, 3]⟩

abbrev nBuf : Space → Nat
  | .hbm => 123
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S_, .i32⟩
  | .hbm, ⟨2, _⟩ => ⟨S4x512, .i32⟩
  | .hbm, ⟨3, _⟩ => ⟨S_, .f32⟩
  | .hbm, ⟨4, _⟩ => ⟨S4x16384, .f32⟩
  | .hbm, ⟨5, _⟩ => ⟨S_, .i32⟩
  | .hbm, ⟨6, _⟩ => ⟨S4, .i32⟩
  | .hbm, ⟨7, _⟩ => ⟨S_, .i32⟩
  | .hbm, ⟨8, _⟩ => ⟨S_, .i32⟩
  | .hbm, ⟨9, _⟩ => ⟨S4x16384x3, .f32⟩
  | .hbm, ⟨10, _⟩ => ⟨S_, .i32⟩
  | .hbm, ⟨11, _⟩ => ⟨S_, .i32⟩
  | .hbm, ⟨12, _⟩ => ⟨S4x512, .i32⟩
  | .hbm, ⟨13, _⟩ => ⟨S4x16384, .f32⟩
  | .hbm, ⟨14, _⟩ => ⟨S4, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S4x512, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S4x1, .i32⟩
  | .hbm, ⟨43, _⟩ => ⟨S4x1, .i32⟩
  | .hbm, ⟨44, _⟩ => ⟨S4x2, .i32⟩
  | .hbm, ⟨45, _⟩ => ⟨S4x3, .f32⟩
  | .hbm, ⟨46, _⟩ => ⟨S4x1x3, .f32⟩
  | .hbm, ⟨47, _⟩ => ⟨S4x16384x3, .f32⟩
  | .hbm, ⟨48, _⟩ => ⟨S4x16384x3, .f32⟩
  | .hbm, ⟨49, _⟩ => ⟨S4x16384x3, .f32⟩
  | .hbm, ⟨50, _⟩ => ⟨S_, .f32⟩
  | .hbm, ⟨51, _⟩ => ⟨S4x16384, .f32⟩
  | .hbm, ⟨52, _⟩ => ⟨S4x16384, .f32⟩
  | .hbm, ⟨53, _⟩ => ⟨S4x16384, .i32⟩
  | .hbm, ⟨54, _⟩ => ⟨S_, .f32⟩
  | .hbm, ⟨55, _⟩ => ⟨S_, .i32⟩
  | .hbm, ⟨56, _⟩ => ⟨S4, .f32⟩
  | .hbm, ⟨57, _⟩ => ⟨S4, .i32⟩
  | .hbm, ⟨58, _⟩ => ⟨S_, .i32⟩
  | .hbm, ⟨59, _⟩ => ⟨S_, .i32⟩
  | .hbm, ⟨60, _⟩ => ⟨S4, .i32⟩
  | .hbm, ⟨61, _⟩ => ⟨S4x1, .i32⟩
  | .hbm, ⟨62, _⟩ => ⟨S_, .i32⟩
  | .hbm, ⟨63, _⟩ => ⟨S4x1, .i32⟩
  | .hbm, ⟨64, _⟩ => ⟨S4x1, .i1⟩
  | .hbm, ⟨65, _⟩ => ⟨S_, .i32⟩
  | .hbm, ⟨66, _⟩ => ⟨S4x1, .i32⟩
  | .hbm, ⟨67, _⟩ => ⟨S4x1, .i32⟩
  | .hbm, ⟨68, _⟩ => ⟨S4x1, .i32⟩
  | .hbm, ⟨69, _⟩ => ⟨S_, .i32⟩
  | .hbm, ⟨70, _⟩ => ⟨S4x512, .i32⟩
  | .hbm, ⟨71, _⟩ => ⟨S4x512, .i1⟩
  | .hbm, ⟨72, _⟩ => ⟨S_, .i32⟩
  | .hbm, ⟨73, _⟩ => ⟨S4x512, .i32⟩
  | .hbm, ⟨74, _⟩ => ⟨S4x512, .i32⟩
  | .hbm, ⟨75, _⟩ => ⟨S4x512, .i32⟩
  | .hbm, ⟨76, _⟩ => ⟨S4x512, .i32⟩
  | .hbm, ⟨77, _⟩ => ⟨S4x512x1, .i32⟩
  | .hbm, ⟨78, _⟩ => ⟨S4x512x1, .i32⟩
  | .hbm, ⟨79, _⟩ => ⟨S4x512x2, .i32⟩
  | .hbm, ⟨80, _⟩ => ⟨S4x512x3, .f32⟩
  | .hbm, ⟨81, _⟩ => ⟨S4x512x3, .f32⟩
  | .hbm, ⟨82, _⟩ => ⟨S_, .f32⟩
  | .hbm, ⟨83, _⟩ => ⟨S4x512, .f32⟩
  | .hbm, ⟨84, _⟩ => ⟨S4x512x1, .f32⟩
  | .hbm, ⟨85, _⟩ => ⟨S4x16384x3, .f32⟩
  | .hbm, ⟨86, _⟩ => ⟨S_, .f32⟩
  | .hbm, ⟨87, _⟩ => ⟨S4x16384, .f32⟩
  | .hbm, ⟨88, _⟩ => ⟨S4x1x16384, .f32⟩
  | .hbm, ⟨89, _⟩ => ⟨S4x512x16384, .f32⟩
  | .hbm, ⟨90, _⟩ => ⟨S4x512x16384, .f32⟩
  | .hbm, ⟨91, _⟩ => ⟨S4x512x16384, .f32⟩
  | .hbm, ⟨92, _⟩ => ⟨S4x512x16384, .f32⟩
  | .hbm, ⟨93, _⟩ => ⟨S_, .f32⟩
  | .hbm, ⟨94, _⟩ => ⟨S4x512x16384, .f32⟩
  | .hbm, ⟨95, _⟩ => ⟨S4x512x16384, .f32⟩
  | .hbm, ⟨96, _⟩ => ⟨S4x512x16384, .f32⟩
  | .hbm, ⟨97, _⟩ => ⟨S_, .f32⟩
  | .hbm, ⟨98, _⟩ => ⟨S4x512x16384, .f32⟩
  | .hbm, ⟨99, _⟩ => ⟨S4x512x16384, .f32⟩
  | .hbm, ⟨100, _⟩ => ⟨S4x512x16384, .f32⟩
  | .hbm, ⟨101, _⟩ => ⟨S4x512x16384, .f32⟩
  | .hbm, ⟨102, _⟩ => ⟨S4x512x32, .f32⟩
  | .hbm, ⟨103, _⟩ => ⟨S4x512x32, .i32⟩
  | .hbm, ⟨104, _⟩ => ⟨S4, .i32⟩
  | .hbm, ⟨105, _⟩ => ⟨S_, .i32⟩
  | .hbm, ⟨106, _⟩ => ⟨S4, .i32⟩
  | .hbm, ⟨107, _⟩ => ⟨S4, .i32⟩
  | .hbm, ⟨108, _⟩ => ⟨S4x1x1, .i32⟩
  | .hbm, ⟨109, _⟩ => ⟨S4x512x32, .i32⟩
  | .hbm, ⟨110, _⟩ => ⟨S4x512x32, .i32⟩
  | .hbm, ⟨111, _⟩ => ⟨S65536, .i32⟩
  | .hbm, ⟨112, _⟩ => ⟨S65536x3, .f32⟩
  | .hbm, ⟨113, _⟩ => ⟨S_, .i32⟩
  | .hbm, ⟨114, _⟩ => ⟨S65536, .i32⟩
  | .hbm, ⟨115, _⟩ => ⟨S65536, .i1⟩
  | .hbm, ⟨116, _⟩ => ⟨S_, .i32⟩
  | .hbm, ⟨117, _⟩ => ⟨S65536, .i32⟩
  | .hbm, ⟨118, _⟩ => ⟨S65536, .i32⟩
  | .hbm, ⟨119, _⟩ => ⟨S65536, .i32⟩
  | .hbm, ⟨120, _⟩ => ⟨S65536x1, .i32⟩
  | .hbm, ⟨121, _⟩ => ⟨S65536x3, .f32⟩
  | .hbm, ⟨122, _⟩ => ⟨S4x512x32x3, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_19 : Ref sig .tc := ⟨.hbm, 15, rfl⟩
abbrev main_while0c_v54 : Ref sig .tc := ⟨.hbm, 16, rfl⟩
abbrev main_while0b_c_19 : Ref sig .tc := ⟨.hbm, 17, rfl⟩
abbrev main_while0b_v54 : Ref sig .tc := ⟨.hbm, 18, rfl⟩
abbrev main_while0b_c_20 : Ref sig .tc := ⟨.hbm, 19, rfl⟩
abbrev main_while0b_v55 : Ref sig .tc := ⟨.hbm, 20, rfl⟩
abbrev main_while0b_c_21 : Ref sig .tc := ⟨.hbm, 21, rfl⟩
abbrev main_while0b_v56 : Ref sig .tc := ⟨.hbm, 22, rfl⟩
abbrev main_while0b_v57 : Ref sig .tc := ⟨.hbm, 23, rfl⟩
abbrev main_while0b_v58 : Ref sig .tc := ⟨.hbm, 24, rfl⟩
abbrev main_while0b_v59 : Ref sig .tc := ⟨.hbm, 25, rfl⟩
abbrev main_while0b_v60 : Ref sig .tc := ⟨.hbm, 26, rfl⟩
abbrev main_while0b_v61 : Ref sig .tc := ⟨.hbm, 27, rfl⟩
abbrev main_while0b_c_22 : Ref sig .tc := ⟨.hbm, 28, rfl⟩
abbrev main_while0b_v62 : Ref sig .tc := ⟨.hbm, 29, rfl⟩
abbrev main_while0b_v63 : Ref sig .tc := ⟨.hbm, 30, rfl⟩
abbrev main_while0b_c_23 : Ref sig .tc := ⟨.hbm, 31, rfl⟩
abbrev main_while0b_v64 : Ref sig .tc := ⟨.hbm, 32, rfl⟩
abbrev main_while0b_v65 : Ref sig .tc := ⟨.hbm, 33, rfl⟩
abbrev main_while0b_v66 : Ref sig .tc := ⟨.hbm, 34, rfl⟩
abbrev main_while0b_c_24 : Ref sig .tc := ⟨.hbm, 35, rfl⟩
abbrev main_while0b_v67 : Ref sig .tc := ⟨.hbm, 36, rfl⟩
abbrev main_while0b_v68 : Ref sig .tc := ⟨.hbm, 37, rfl⟩
abbrev main_while0b_c_25 : Ref sig .tc := ⟨.hbm, 38, rfl⟩
abbrev main_while0b_v69 : Ref sig .tc := ⟨.hbm, 39, rfl⟩
abbrev main_while0b_v70 : Ref sig .tc := ⟨.hbm, 40, rfl⟩
abbrev main_while0b_v71 : Ref sig .tc := ⟨.hbm, 41, rfl⟩
abbrev main_while0b_v72 : Ref sig .tc := ⟨.hbm, 42, rfl⟩
abbrev main_while0b_v73 : Ref sig .tc := ⟨.hbm, 43, rfl⟩
abbrev main_while0b_v74 : Ref sig .tc := ⟨.hbm, 44, rfl⟩
abbrev main_while0b_v75 : Ref sig .tc := ⟨.hbm, 45, rfl⟩
abbrev main_while0b_v76 : Ref sig .tc := ⟨.hbm, 46, rfl⟩
abbrev main_while0b_v77 : Ref sig .tc := ⟨.hbm, 47, rfl⟩
abbrev main_while0b_v78 : Ref sig .tc := ⟨.hbm, 48, rfl⟩
abbrev main_while0b_v79 : Ref sig .tc := ⟨.hbm, 49, rfl⟩
abbrev main_while0b_cst_26 : Ref sig .tc := ⟨.hbm, 50, rfl⟩
abbrev main_while0b_v80 : Ref sig .tc := ⟨.hbm, 51, rfl⟩
abbrev main_while0b_v81 : Ref sig .tc := ⟨.hbm, 52, rfl⟩
abbrev main_while0b_call0_v0 : Ref sig .tc := ⟨.hbm, 53, rfl⟩
abbrev main_while0b_call0_cst : Ref sig .tc := ⟨.hbm, 54, rfl⟩
abbrev main_while0b_call0_c : Ref sig .tc := ⟨.hbm, 55, rfl⟩
abbrev main_while0b_call0_v1_0 : Ref sig .tc := ⟨.hbm, 56, rfl⟩
abbrev main_while0b_v82 : Ref sig .tc := ⟨.hbm, 57, rfl⟩
abbrev main_while0b_c_27 : Ref sig .tc := ⟨.hbm, 58, rfl⟩
abbrev main_while0b_v83 : Ref sig .tc := ⟨.hbm, 59, rfl⟩
abbrev main_v4 : Ref sig .tc := ⟨.hbm, 60, rfl⟩
abbrev main_v5 : Ref sig .tc := ⟨.hbm, 61, rfl⟩
abbrev main_c_3 : Ref sig .tc := ⟨.hbm, 62, rfl⟩
abbrev main_v6 : Ref sig .tc := ⟨.hbm, 63, rfl⟩
abbrev main_v7 : Ref sig .tc := ⟨.hbm, 64, rfl⟩
abbrev main_c_4 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_c_5 : Ref sig .tc := ⟨.hbm, 69, rfl⟩
abbrev main_v11 : Ref sig .tc := ⟨.hbm, 70, rfl⟩
abbrev main_v12 : Ref sig .tc := ⟨.hbm, 71, rfl⟩
abbrev main_c_6 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_8 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_9 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_10 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_values : Ref sig .tc := ⟨.hbm, 102, rfl⟩
abbrev main_indices : Ref sig .tc := ⟨.hbm, 103, rfl⟩
abbrev main_v38 : Ref sig .tc := ⟨.hbm, 104, rfl⟩
abbrev main_c_11 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_12 : Ref sig .tc := ⟨.hbm, 113, rfl⟩
abbrev main_v46 : Ref sig .tc := ⟨.hbm, 114, rfl⟩
abbrev main_v47 : Ref sig .tc := ⟨.hbm, 115, rfl⟩
abbrev main_c_13 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩

abbrev nD : Nat := 1
abbrev τ : Topo := Topo.v7x

variable {F : FTy → Type} [FloatOps F]

abbrev main_while0_count : Scf.Loop 32 := ⟨0#32, 512#32, 1#32⟩
-- ==== Proof.Picked.lean ====
/-
  What a row gather computes, apart from any program: `picked idx table` has at row `j` the row of `table` that word `j` of
  `idx` names (`picked_apply` for a word that is a row number), and the numbering of the tiles: the two cores' sixteen tiles
  each are the 32 numbers `2 * s + c` (`bigSep_tiles`).
-/
module

public import Idealize.ShloMosaic.Lib.SparseCore.Quiescent
public import Idealize.ShloMosaic.Lib.ReduceAll

@[expose] public section

noncomputable section

namespace Cert.Proof

open Idealize.ShloMosaic
open Idealize.SL Idealize.SL.RA Idealize.SL.BI

/-- The index vector's shape and the shape of the table of `w`-word rows. -/
abbrev Words : Shape := ⟨1, ![65536]⟩
abbrev Rows (w : ℕ) : Shape := ⟨2, ![65536, w]⟩

/-- The element of an index vector at position `r`, and the element `(r, k)` of a table. -/
abbrev at1 (r : Fin 65536) : Words.Idx := fun | ⟨0, _⟩ => r
abbrev at2 {w : ℕ} (r : Fin 65536) (k : Fin w) : (Rows w).Idx := fun | ⟨0, _⟩ => r | ⟨1, _⟩ => k

/-- The row of a table a word names; row 0 for a word that names none. -/
def rowOfWord (v : BitVec 32) : Fin 65536 := if h : v.toNat < 65536 then ⟨v.toNat, h⟩ else 0

/-- The rows of `table` that the words of `idx` name. -/
def picked {α : Type} {w : ℕ} (idx : Words.Idx → BitVec 32) (table : (Rows w).Idx → α) : (Rows w).Idx → α :=
  fun j => table (at2 (rowOfWord (idx (at1 (j 0)))) (j 1))

theorem rowOfWord_val {v : BitVec 32} (h : v.toNat < 65536) : (rowOfWord v).val = v.toNat := by
  unfold rowOfWord; rw [dif_pos h]

/-- `picked` at an element, the element it reads given by its two coordinates. -/
theorem picked_apply {α : Type} {w : ℕ} {idx : Words.Idx → BitVec 32} (hin : ∀ k, (idx k).toNat < 65536) (table : (Rows w).Idx → α)
    {j i : (Rows w).Idx} {k : Words.Idx} (hk : (k 0).val = (j 0).val) (h0 : (i 0).val = (idx k).toNat) (h1 : (i 1).val = (j 1).val) :
    picked idx table j = table i := by
  have e : at1 (j 0) = k := by
    funext a; match a with | ⟨0, _⟩ => exact Fin.ext hk.symm
  unfold picked
  rw [e]
  congr 1
  funext a
  match a with
  | ⟨0, _⟩ => exact Fin.ext ((rowOfWord_val (hin k)).trans h0.symm)
  | ⟨1, _⟩ => exact Fin.ext h1.symm

/-- Tile `s` of core `c` is number `2 * s + c`. -/
def tileNo (c : Fin 2) (s : Fin 16) : Fin 32 := ⟨2 * s.val + c.val, by omega⟩

/-- The tiles and their numbers. -/
def tileEquiv : Fin 2 × Fin 16 ≃ Fin 32 where
  toFun p := tileNo p.1 p.2
  invFun w := (⟨w.val % 2, by omega⟩, ⟨w.val / 2, by omega⟩)
  left_inv p := by
    refine Prod.ext (Fin.ext ?_) (Fin.ext ?_) <;> show _ = _ <;> simp only [tileNo] <;> omega
  right_inv w := Fin.ext (by simp only [tileNo]; omega)

/-- A separating conjunction over the tiles' numbers is the one over the cores' of those over their tiles. -/
theorem bigSep_tiles {M : Type _} [URA M] (Φ : Fin 32 → sProp M) :
    bigSep Finset.univ Φ = bigSep Finset.univ fun c : Fin 2 => bigSep Finset.univ fun s : Fin 16 => Φ (tileNo c s) := by
  rw [bigSep_univ_equiv tileEquiv Φ, bigSep_univ_prod]; rfl

end Cert.Proof

end
-- ==== Proof.Tiles.lean ====
/-
  The SparseCore call of the gather program, on its own arrays: each of the 32 tiles fetches its 2048 words of the index
  vector, gathers the rows of the table they name, and writes them to its 2048 rows of the output. For any contents of the
  three arrays with every word a row number, the call leaves the output at `picked idx table` and the operands as they were.

  A tile takes a 32nd share of the index vector and of the table, whole, and its own rows of the output (`task`); it brings
  them back, the rows at the picked ones. A core takes what its sixteen tiles take. The launch's set-up (configuration,
  resource algebra, handshake payload) is the usual one of a launch with one call.
-/
module

public import proofs.«01_k».proof.Defs
public import proofs.«01_k».proof.Proof.Picked
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Tiles

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays, as the TensorCore and as a tile name them -/

abbrev idxRef : Ref sig .tc := main_arg0
abbrev tabRef : Ref sig .tc := main_v2
abbrev outRef : Ref sig .tc := main_v3
abbrev iLoc (d : Dev nD) : Loc nD τ sig := (SparseCore.T d).loc idxRef
abbrev tLoc (d : Dev nD) : Loc nD τ sig := (SparseCore.T d).loc tabRef
abbrev oLoc (d : Dev nD) : Loc nD τ sig := (SparseCore.T d).loc outRef

abbrev iV : Memref sig .scVector .hbm S65536 .i32 := Memref.whole main_arg0_scv
abbrev tV : Memref sig .scVector .hbm S65536x16 .f32 := Memref.whole main_v2_scv
abbrev oV : Memref sig .scVector .hbm S65536x16 .f32 := Memref.whole main_v3_scv
abbrev sV : Memref sig .scVector .vmem S2048 .i32 := Memref.whole cc0_scratch0
abbrev rV : Memref sig .scVector .vmem S2048x16 .f32 := Memref.whole cc0_scratch1

/-- Tile `w`'s rows of the output: its 2048, the `w`-th of 32 equal parts. -/
theorem parts : 32 ∣ S65536x16.size 0 := ⟨2048, rfl⟩
abbrev rowsOf (w : Fin 32) : Rect S65536x16 := Rect.part (s := S65536x16) (a₀ := 0) parts w
abbrev rowSet (w : Fin 32) : Finset S65536x16.Idx := ((oV).view.slice (rowsOf w)).set

/-- The share of the operands a tile reads under. -/
abbrev tileShare (w : Fin 32) : PosShare TreeShare := Idealize.ShloMosaic.pieceOf fullShare 32 (by decide) w

variable (fi : (d : Dev nD) → Buf (Elt F) (iLoc d)) (ft : (d : Dev nD) → Buf (Elt F) (tLoc d)) (fo : (d : Dev nD) → Buf (Elt F) (oLoc d))

/-- What the call leaves in the output. -/
abbrev result (d : Dev nD) : Buf (Elt F) (oLoc d) := picked (α := Elt F .f32) (w := 16) (fi d) (ft d)

/-- What tile `w` takes and brings back, its output rows holding those of `f`. -/
abbrev task (d : Dev nD) (w : Fin 32) (f : Buf (Elt F) (oLoc d)) : sProp 𝕄 :=
  iprop((iLoc d ↦{tileShare w} fi d) ∗ (tLoc d ↦{tileShare w} ft d) ∗ oLoc d ↦[rowSet w]{fullShare} f)

/-- The number of the call's tile `(c, i)`. -/
abbrev no (c : Fin ((K (F := F)).nCore 0)) (i : Fin ((K (F := F)).nSub 0)) : Fin 32 := tileNo c i

variable [FloatOps F]

def P : (K (F := F)).Pay (nD := nD) (Val := Elt F) (Name := ℕ) (U := UU) where
  st := fun q d c => match q with | 0 => bigSep Finset.univ fun i : Fin ((K (F := F)).nSub 0) => task fi ft d (no c i) (fo d)
  dn := fun q d c => match q with | 0 => bigSep Finset.univ fun i : Fin ((K (F := F)).nSub 0) => task fi ft d (no c i) (result fi ft d)
  go := fun q d c i => match q with | 0 => task fi ft d (no c i) (fo d)
  td := fun q d c i => match q with | 0 => task fi ft d (no c i) (result fi ft d)
  x := fun _ _ => iprop(emp)

instance P_storable : (P (F := F) fi ft fo).IsStorable where
  st q d c := match q with
    | 0 => (inferInstance : BI.Storable (upEmb : UEmb _ 𝕄) (bigSep Finset.univ fun i : Fin ((K (F := F)).nSub 0) => task fi ft d (no c i) (fo d)))
  dn q d c := match q with
    | 0 => (inferInstance : BI.Storable (upEmb : UEmb _ 𝕄) (bigSep Finset.univ fun i : Fin ((K (F := F)).nSub 0) => task fi ft d (no c i) (result fi ft d)))
  go q d c i := match q with | 0 => (inferInstance : BI.Storable (upEmb : UEmb _ 𝕄) (task fi ft d (no c i) (fo d)))
  td q d c i := match q with | 0 => (inferInstance : BI.Storable (upEmb : UEmb _ 𝕄) (task fi ft d (no c i) (result fi ft d)))

/-- Every word of the index vector is a row number. -/
def InRange : Prop := ∀ (d : Dev nD) (j : S65536.Idx), (fi d j : BitVec 32).toNat < 65536

/-! ## One tile -/

section Tile

variable (d : Dev nD) (L : grid0.Coords)

abbrev cV (L : grid0.Coords) : Fin τ.nSC := (L 0).castLE hcore0
abbrev jV (L : grid0.Coords) : Fin τ.nSub := (L 1).castLE hsub0
/-- The tile at grid point `L`, its number, and its windows: its words, its rows, the whole table. -/
abbrev thr (d : Dev nD) (L : grid0.Coords) : Thread nD τ := V d (cV L) (jV L)
abbrev noL (L : grid0.Coords) : Fin 32 := tileNo (L 0) (L 1)
abbrev wordsK (L : grid0.Coords) : Memref sig .scVector .hbm S2048 .i32 := (iV).slice (Rect.unit (s := S65536) (k0_off1 L) S2048.size (k0_off1_inb L)) (fun _ => rfl)
abbrev rowsK (L : grid0.Coords) : Memref sig .scVector .hbm S2048x16 .f32 := (oV).slice (Rect.unit (s := S65536x16) (k0_off2 L) S2048x16.size (k0_off2_inb L)) (fun _ => rfl)
abbrev tableK : Memref sig .scVector .hbm S65536x16 .f32 := (tV).slice (Rect.unit (s := S65536x16) ![0, 0] S65536x16.size inb_S65536x16_S65536x16_0_0) (fun _ => rfl)

omit [FloatOps F] in
theorem rowsOf_eq : Rect.unit (s := S65536x16) (k0_off2 L) S2048x16.size (k0_off2_inb L) = rowsOf (noL L) := by
  unfold rowsOf Rect.part Rect.block
  congr 1 <;> funext a
  · rw [k0_off2_eq]
    match a with
    | 0 =>
      have e : (noL L).val = 2 * (L 1).val + (L 0).val := rfl
      simp [Shape.partIx, Shape.partSize, e]; omega
    | 1 => simp [Shape.partIx, Shape.partSize]
  · match a with
    | 0 => simp [Shape.partSize]
    | 1 => simp [Shape.partSize]

omit [FloatOps F] in
theorem set_rowsK : (rowsK L).view.set = rowSet (noL L) := by
  show ((oV).view.slice (Rect.unit (s := S65536x16) (k0_off2 L) S2048x16.size (k0_off2_inb L))).set = _
  rw [rowsOf_eq]

omit [FloatOps F] in
theorem pts_rowsK (f : Buf (Elt F) (oLoc d)) :
    ((rowsK L).view.loc (thr d L) ↦[(rowsK L).view.set]{fullShare} f : sProp 𝕄) = oLoc d ↦[rowSet (noL L)]{fullShare} f := by
  rw [set_rowsK]

/-- The three semaphores a tile's transfers count on, and its two scratch arrays, out of all that is its own. -/
abbrev gCell (d : Dev nD) (L : grid0.Coords) : GSem nD τ sig := (thr d L, .dma cc0_scratch2.sem)
abbrev aCell (d : Dev nD) (L : grid0.Coords) : GSem nD τ sig := (thr d L, .dma cc0_scoped0.sem)
abbrev bCell (d : Dev nD) (L : grid0.Coords) : GSem nD τ sig := (thr d L, .dma cc0_scoped1.sem)

omit [FloatOps F] in
theorem sems_V :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  unfold SparseCore.Cfg.ownSems0
  rw [SparseCore.bigSep_erase' ((mem_ownCells (g := gCell d L)).mpr ⟨rfl, by
      show (SemLoc.dma cc0_scratch2.sem : SemLoc sig).isScoped .scVector = true; decide⟩),
    SparseCore.bigSep_erase' (Finset.mem_erase.mpr ⟨by simp [gCell, aCell]; decide, (mem_ownCells (g := aCell d L)).mpr ⟨rfl, by
      show (SemLoc.dma cc0_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc0_scoped1.sem : SemLoc sig).isScoped .scVector = true; decide⟩⟩⟩)]

omit [FloatOps F] in
theorem bufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Word `x` of what the tile fetched is word `2048 w + x` of the index vector. -/
theorem fetched (fs : Buf (Elt F) ((thr d L).loc cc0_scratch0)) (x : S2048.Idx) :
    (sV).view.read (Elt F) (View.write (Elt F) (sV).view fs ((wordsK L).view.read (Elt F) (fi d)) Finset.univ) x
      = fi d ((wordsK L).view.emb x) := by
  rw [View.write_whole_univ]
  simp only [Memref.view_whole, View.read_whole]
  exact (View.read_apply _ _).trans (cast_eq _ _)

omit [FloatOps F] in
theorem fetched_lt (hin : InRange fi) (fs : Buf (Elt F) ((thr d L).loc cc0_scratch0)) (pay : S2048.Idx → Elt F .i32)
    (hpay : pay = (wordsK L).view.read (Elt F) (fi d)) :
    ∀ x, ((sV).view.read (Elt F) (View.write (Elt F) (sV).view fs pay Finset.univ) x : BitVec 32).toNat < S65536x16.size gathers_S65536x16_S2048x16.axis := by
  subst hpay; intro x
  rw [fetched]
  exact hin d _

/-- Row `y 0` of what the tile gathered, put at its row of the output, is the picked row. -/
theorem gathered (hin : InRange fi) (fs : Buf (Elt F) ((thr d L).loc cc0_scratch0)) (fr : Buf (Elt F) ((thr d L).loc cc0_scratch1))
    (hlt : ∀ x, ((sV).view.read (Elt F) (View.write (Elt F) (sV).view fs ((wordsK L).view.read (Elt F) (fi d)) Finset.univ) x : BitVec 32).toNat
      < S65536x16.size gathers_S65536x16_S2048x16.axis) (y : S2048x16.Idx) :
    (rV).view.read (Elt F) (View.write (Elt F) (rV).view fr
      (SparseCore.gatherPayload gathers_S65536x16_S2048x16 ((tableK).view.read (Elt F) (ft d))
        (SparseCore.rows ((sV).view.read (Elt F) (View.write (Elt F) (sV).view fs ((wordsK L).view.read (Elt F) (fi d)) Finset.univ)) rfl hlt))
      Finset.univ) y = result fi ft d ((rowsK L).view.emb y) := by
  rw [View.write_whole_univ]
  simp only [Memref.view_whole, View.read_whole]
  unfold SparseCore.gatherPayload
  refine ((View.read_apply _ _).trans (cast_eq _ _)).trans ?_
  have hr := congrFun (k0_off2_eq L) 0
  have hw := congrFun (k0_off1_eq L) 0
  set r := SparseCore.rows ((sV).view.read (Elt F) (View.write (Elt F) (sV).view fs ((wordsK L).view.read (Elt F) (fi d)) Finset.univ))
    (rfl : S2048.numel = _) hlt with hrdef
  set x : S2048.Idx := S2048.rowMajor.symm ((y 0).cast rfl) with hx
  have hx0 : (x 0).val = (y 0).val := by
    have e := Shape.rowMajor_val_one x
    rw [hx, Equiv.apply_symm_apply] at e
    exact e.symm
  refine (picked_apply (k := (wordsK L).view.emb x) (hin d) (ft d) ?_ ?_ ?_).symm
  · show k0_off1 L 0 + 1 * (x 0).val = k0_off2 L 0 + 1 * (y 0).val
    rw [hr, hw, hx0]; rfl
  · have e := gathers_S65536x16_S2048x16.idx_axis r y
    have e0 : ((gathers_S65536x16_S2048x16).idx r y 0).val = (r (y 0)).val := congrArg Fin.val e
    show 0 + 1 * ((gathers_S65536x16_S2048x16).idx r y 0).val = _
    rw [Nat.zero_add, Nat.one_mul, e0, hrdef]
    show ((sV).view.read (Elt F) _ x : BitVec 32).toNat = _
    rw [fetched]
  · have e := gathers_S65536x16_S2048x16.idx_of_ne r y 1 (by decide)
    show 0 + 1 * ((gathers_S65536x16_S2048x16).idx r y 1).val = k0_off2 L 1 + 1 * (y 1).val
    rw [e, congrFun (k0_off2_eq L) 1]; rfl

set_option maxHeartbeats 4000000 in
/-- The task of the tile at `L`: the words fetched, the rows gathered, the rows written out, each transfer waited for. -/
theorem tile_body (hF : (K (F := F)).Facts) (hin : InRange fi) (O : CellTallies nD τ sig (HIx 1)) (W : Waits sig (HIx 1)) (hO : ∀ g, O g none = 0) :
    iprop(levAts (K (F := F)).L (K (F := F)).lev ∗ emp
        ∗ task fi ft d (noL L) (fo d)
        ∗ scopedBufs (thr d L) ∗ scopedSems0 (thr d L) ∗ owes (thr d L) O W)
      ⊢ wp frame (wpE (defs₀ (F := F)) 𝒱₀ (thr d L) none) Set.univ
          (cc0_gather_k L iV (Memref.isWhole_whole _) tV (Memref.isWhole_whole _) oV (Memref.isWhole_whole _)
            sV (Memref.isWhole_whole _) rV (Memref.isWhole_whole _) cc0_scratch2 cc0_scoped0 cc0_scoped1)
          fun _ => iprop(task fi ft d (noL L) (result fi ft d)
            ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  rw [(K (F := F)).scopedBufs_V hF d (cV L) (jV L), SparseCore.Cfg.scopedSems0_V (Val := Elt F) d (cV L) (jV L), sems_V, bufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (iLoc d ↦{tileShare (noL L)} fi d : sProp 𝕄) = ((iV).view.loc (thr d L) ↦{tileShare (noL L)} fi d) from rfl)) $$ Hi
  ihave Ht' := (Entails.of_eq (show (tLoc d ↦{tileShare (noL L)} ft d : sProp 𝕄) = ((tV).view.loc (thr d L) ↦{tileShare (noL L)} ft d) from rfl)) $$ Ht
  ihave Ho' := (Entails.of_eq (pts_rowsK (F := F) d L _).symm) $$ Ho
  ihave Hs' := (Entails.of_eq (show ((thr d L).loc cc0_scratch0 ↦{fullShare} fs : sProp 𝕄) = ((sV).view.loc (thr d L) ↦{fullShare} fs) from rfl)) $$ Hs
  ihave Hr' := (Entails.of_eq (show ((thr d L).loc cc0_scratch1 ↦{fullShare} fr : sProp 𝕄) = ((rV).view.loc (thr d L) ↦{fullShare} fr) from rfl)) $$ Hr
  sl_exec
  iapply (SparseCore.wp_gatherFromWhole countersEmb 𝒱₀ (thr d L) none (hg := gathers_S65536x16_S2048x16) (default : HIx 1)
      (rV).view.dmaCredit (SparseCore.sum_rowCredit_eq_dmaCredit _ _ fun _ => rfl) (by decide) (fetched_lt fi d L hin fs _ rfl)) $$ [Ht' Hr' Hs' HsemG]
  · isplitl [Ht']; · iexact Ht'
    isplitl [Hr']; · iexact Hr'
    isplitl [Hs']; · iexact Hs'
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Ht', Hs'⟩, HsemG, HO⟩
  sl_exec
  sl_step
  isplitl [Hi' Ht' Ho']
  · isplitl [Hi']; · iexact Hi'
    isplitl [Ht']; · iexact Ht'
    iapply (Entails.of_eq (pts_rowsK (F := F) d L _))
    iapply (Entails.of_eq (pointsTo_congr (ℓ := (rowsK L).view.loc (thr d L)) (I := (rowsK L).view.set) (q := fullShare) (fun i hi => by
      obtain ⟨y, -, rfl⟩ := Finset.mem_map.mp hi
      exact ((cast_eq _ _).symm.trans (congrFun (View.read_writes_whole (rowsK L).view (fo d) (tile_body.sl.dma0_1 fi ft d L hin fs fr)) y)).trans
        (gathered fi ft d L hin fs fr _ y)))); iexact Ho'
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange fi) : (K (F := F)).TileObl (D (F := F)) 𝒱 (P fi ft fo) v₀ 0 := by
  intro d c i O W hO _ _
  simp only [show (P fi ft fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi ft fo d (coordsV ⟨_, hci.1⟩ ⟨_, hci.2⟩) hF hin O W hO).trans (wp_mono frame _ _ fun _ => obl_post)

end Tile

/-! ## The tasks split and join -/

/-- A core takes its tiles' tasks and brings them back. -/
theorem vecSplit : (K (F := F)).VecSplit' (P fi ft fo) 0 := by
  intro d c
  show (bigSep Finset.univ fun i : Fin ((K (F := F)).nSub 0) => task fi ft d (no c i) (fo d)) ⊢ |={Set.univ}=> iprop(
      (bigSep Finset.univ fun i : Fin ((K (F := F)).nSub 0) => task fi ft d (no c i) (fo d))
      ∗ ((bigSep Finset.univ fun i : Fin ((K (F := F)).nSub 0) => task fi ft d (no c i) (result fi ft d))
          -∗ bigSep Finset.univ fun i : Fin ((K (F := F)).nSub 0) => task fi ft d (no c i) (result fi ft d)))
  iintro H; imodintro
  isplitl [H]; · iexact H
  iintro H; iexact H

omit [FloatOps F] in
theorem rowSet_eq (w : Fin 32) : rowSet w = (rowsOf w).set := by
  show ((View.whole (main_v3_scv : Ref sig .scVector)).slice (rowsOf w)).set = _
  rw [View.set_slice]; exact Finset.map_refl

omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint parts h

omit [FloatOps F] in
theorem rows_cover : (Finset.univ : Finset (Fin 32)).biUnion rowSet = Finset.univ :=
  (Finset.biUnion_congr rfl fun i _ => rowSet_eq i).trans (Rect.biUnion_part parts)

omit [FloatOps F] in
theorem pts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

omit [FloatOps F] in
/-- The three arrays whole are the 32 tasks. -/
theorem tasks_eq (d : Dev nD) (f : Buf (Elt F) (oLoc d)) :
    (bigSep Finset.univ fun c : Fin ((K (F := F)).nCore 0) => bigSep Finset.univ fun i : Fin ((K (F := F)).nSub 0) => task fi ft d (no c i) f)
      = (iprop((iLoc d ↦{fullShare} fi d) ∗ (tLoc d ↦{fullShare} ft d) ∗ oLoc d ↦{fullShare} f) : sProp 𝕄) := by
  refine (bigSep_tiles (fun w => task fi ft d w f)).symm.trans ?_
  rw [bigSep_sep', bigSep_sep', pts_rows]
  congr 1
  · exact (pointsTo_piecesOf Finset.univ (fi d) (by decide) fullShare).symm
  · congr 1
    exact (pointsTo_piecesOf Finset.univ (ft d) (by decide) fullShare).symm

theorem st0_eq (d : Dev nD) : (bigSep Finset.univ fun c : Fin ((K (F := F)).nCore 0) => (P fi ft fo).st 0 d c)
    = iprop((iLoc d ↦{fullShare} fi d) ∗ (tLoc d ↦{fullShare} ft d) ∗ oLoc d ↦{fullShare} fo d) := tasks_eq fi ft d (fo d)
theorem dn0_eq (d : Dev nD) : (bigSep Finset.univ fun c : Fin ((K (F := F)).nCore 0) => (P fi ft fo).dn 0 d c)
    = iprop((iLoc d ↦{fullShare} fi d) ∗ (tLoc d ↦{fullShare} ft d) ∗ oLoc d ↦{fullShare} result fi ft d) := tasks_eq fi ft d (result fi ft d)

/-! ## The launch element of the certificate's ghost state -/

def u₀ : UU := (initOf (K (F := F)).hsCells (K (F := F)).hsToks, 1)

omit [FloatOps F] in
theorem none_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi ft fo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_each]; iempintro
  rw [show (bigSep Finset.univ fun thr : Thread nD τ => bigSep Finset.univ fun q : Fin 1 => (P (F := F) fi ft fo).x q thr) = bigSep Finset.univ fun _ => iprop(emp) from
    bigSep_congr fun _ _ => bigSep_univ_of_subsingleton (0 : Fin 1), none_each]
  iempintro

end Cert.Proof.Tiles

end
-- ==== Proof.GatherRun.lean ====
/-
  The gather program's run. Before the SparseCore call `@main` lays the points out as the rows of a table, 13 zero columns
  behind the three coordinates; after it, it drops the 13 columns again and shapes the rows as the result.
-/
module

public import proofs.«01_k».proof.Proof.Tiles

@[expose] public section

noncomputable section

namespace Cert.Proof.Tiles

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main on the TensorCore -/

abbrev a0 : DevRef τ sig := Proc.devRef .tc (main_arg0 : Ref sig .tc)
abbrev a1 : DevRef τ sig := Proc.devRef .tc (main_arg1 : Ref sig .tc)
abbrev ac : DevRef τ sig := Proc.devRef .tc (main_cst : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)
abbrev r5 : DevRef τ sig := Proc.devRef .tc (main_v5 : Ref sig .tc)

/-- The operations before the call, and those behind it. -/
abbrev opsBefore : List (HloOp τ sig (Elt F)) :=
  [reshape main_arg1 main_v0 (rfl : (.f32 : EltTy) = .f32) shapeCasts_S4x16384x3_S65536x3,
    nullary main_cst (constant S_ .f32 0x00000000#32),
    unary main_cst main_v1 (broadcastInDim S65536x13 ![] bcast_S_S65536x13),
    binary main_v0 main_v1 main_v2
      (fun a b => concatenate S65536x16 1 [⟨S65536x3, a⟩, ⟨S65536x13, b⟩] concatenates_S65536x3_S65536x13_S65536x16_d1)]
abbrev opsAfter : List (HloOp τ sig (Elt F)) :=
  [unary main_v3 main_v4 (extractStridedSlice S65536x3 ![0, 0] · slices_S65536x16_S65536x3_0_0),
    reshape main_v4 main_v5 (rfl : (.f32 : EltTy) = .f32) shapeCasts_S65536x3_S4x512x32x3]

theorem main_eq (d : Dev nD) : main (F := F) d = (seq opsBefore >>= fun _ => (sc.run d 0 >>= fun _ => (seq opsAfter >>= fun _ => pure ⟨⟩))) := rfl

/-- The program's nine arrays. -/
abbrev S9 : Finset (DevRef τ sig) := {a0, a1, ac, r0, r1, r2, r3, r4, r5}

omit [FloatOps F] in
theorem held_S9 (d : Dev nD) (W : Valuation τ sig (Elt F)) :
    (held (T d) S9 W : sProp 𝕄)
      = iprop((iLoc d ↦{fullShare} W a0) ∗ ((SparseCore.T d).loc main_arg1 ↦{fullShare} W a1) ∗ ((SparseCore.T d).loc main_cst ↦{fullShare} W ac)
          ∗ ((SparseCore.T d).loc main_v0 ↦{fullShare} W r0) ∗ ((SparseCore.T d).loc main_v1 ↦{fullShare} W r1)
          ∗ (tLoc d ↦{fullShare} W r2) ∗ (oLoc d ↦{fullShare} W r3) ∗ ((SparseCore.T d).loc main_v4 ↦{fullShare} W r4)
          ∗ (SparseCore.T d).loc main_v5 ↦{fullShare} W r5) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays' contents at launch. -/
def V0 (d : Dev nD) : Valuation τ sig (Elt F) := fun b => m (d, b)

omit [FloatOps F] in
theorem unscoped_held (d : Dev nD) : (unscopedBufs d (fun b => m ((SparseCore.T d).loc b)) : sProp 𝕄) = held (T d) S9 (V0 m d) := by
  rw [held_S9]
  unfold unscopedBufs
  rw [show (Finset.univ.filter fun b : Ref sig .tc => ¬ b.isScoped)
      = {main_arg0, main_arg1, main_cst, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The points' array and the result's. -/
abbrev xLoc (d : Dev nD) : Loc nD τ sig := (SparseCore.T d).loc (main_arg1 : Ref sig .tc)
abbrev yLoc (d : Dev nD) : Loc nD τ sig := (SparseCore.T d).loc (main_v5 : Ref sig .tc)

/-- The words, the points, and the table the words are looked up in: the points' rows, the pad behind them. -/
abbrev words (d : Dev nD) : Buf (Elt F) (iLoc d) := m (iLoc d)
abbrev points (d : Dev nD) : Buf (Elt F) (xLoc d) := m (xLoc d)
def tableOf (x : S4x16384x3.Idx → Elt F .f32) : S65536x16.Idx → Elt F .f32 :=
  concatenate S65536x16 1 [⟨S65536x3, shapeCast S65536x3 x shapeCasts_S4x16384x3_S65536x3⟩,
    ⟨S65536x13, broadcastInDim S65536x13 ![] bcast_S_S65536x13 (constant (F := F) S_ .f32 0x00000000#32)⟩] concatenates_S65536x3_S65536x13_S65536x16_d1
abbrev table (d : Dev nD) : Buf (Elt F) (tLoc d) := tableOf (F := F) (points m d)
abbrev before (d : Dev nD) : Buf (Elt F) (oLoc d) := m (oLoc d)
/-- The result: the picked rows' first three columns. -/
def out (d : Dev nD) : Buf (Elt F) (yLoc d) :=
  shapeCast S4x512x32x3 (extractStridedSlice S65536x3 ![0, 0] (result (words m) (table m) d) slices_S65536x16_S65536x3_0_0) shapeCasts_S65536x3_S4x512x32x3

def V1 (d : Dev nD) : Valuation τ sig (Elt F) := after opsBefore (V0 m d)
def V2 (d : Dev nD) : Valuation τ sig (Elt F) := Function.update (V1 m d) r3 (result (words m) (table m) d)
def V3 (d : Dev nD) : Valuation τ sig (Elt F) := after opsAfter (V2 m d)

theorem V1_a0 (d : Dev nD) : V1 m d a0 = words m d := by unfold V1; after_results <;> rfl
theorem V1_a1 (d : Dev nD) : V1 m d a1 = points m d := by unfold V1; after_results <;> rfl
theorem V1_r2 (d : Dev nD) : V1 m d r2 = table m d := by unfold V1; after_results <;> rfl
theorem V1_r3 (d : Dev nD) : V1 m d r3 = before m d := by unfold V1; after_results <;> rfl
theorem V2_ne (d : Dev nD) {b : DevRef τ sig} (h : b ≠ r3) : V2 m d b = V1 m d b := Function.update_of_ne h _ _
theorem V2_r3 (d : Dev nD) : V2 m d r3 = result (words m) (table m) d := Function.update_self _ _ _
theorem V3_a0 (d : Dev nD) : V3 m d a0 = words m d := by
  refine Eq.trans ?_ ((V2_ne m d (show a0 ≠ r3 by decide)).trans (V1_a0 m d))
  unfold V3; after_results <;> rfl
theorem V3_a1 (d : Dev nD) : V3 m d a1 = points m d := by
  refine Eq.trans ?_ ((V2_ne m d (show a1 ≠ r3 by decide)).trans (V1_a1 m d))
  unfold V3; after_results <;> rfl
theorem V3_r5 (d : Dev nD) : V3 m d r5 = out m d := by
  unfold out; rw [← V2_r3]; unfold V3; after_results <;> rfl

theorem hBefore : ∀ op ∈ (opsBefore : List (HloOp τ sig (Elt F))), op.bufs ⊆ S9 := by
  intro op h
  simp only [List.mem_cons, List.not_mem_nil, or_false] at h
  rcases h with rfl | rfl | rfl | rfl
  · exact show ({a1, r0} : Finset (DevRef τ sig)) ⊆ S9 by decide
  · exact show ({ac} : Finset (DevRef τ sig)) ⊆ S9 by decide
  · exact show ({ac, r1} : Finset (DevRef τ sig)) ⊆ S9 by decide
  · exact show ({r0, r1, r2} : Finset (DevRef τ sig)) ⊆ S9 by decide
theorem hAfter : ∀ op ∈ (opsAfter : List (HloOp τ sig (Elt F))), op.bufs ⊆ S9 := by
  intro op h
  simp only [List.mem_cons, List.not_mem_nil, or_false] at h
  rcases h with rfl | rfl
  · exact show ({r3, r4} : Finset (DevRef τ sig)) ⊆ S9 by decide
  · exact show ({r4, r5} : Finset (DevRef τ sig)) ⊆ S9 by decide
theorem fBefore : ∀ op ∈ (opsBefore : List (HloOp τ sig (Elt F))), op.fresh = ∅ := by
  intro op h
  simp only [List.mem_cons, List.not_mem_nil, or_false] at h
  rcases h with rfl | rfl | rfl | rfl <;> rfl
theorem fAfter : ∀ op ∈ (opsAfter : List (HloOp τ sig (Elt F))), op.fresh = ∅ := by
  intro op h
  simp only [List.mem_cons, List.not_mem_nil, or_false] at h
  rcases h with rfl | rfl <;> rfl

/-- What @main leaves the claims. -/
abbrev FIN (d : Dev nD) : sProp 𝕄 :=
  iprop((iLoc d ↦{fullShare} words m d) ∗ (xLoc d ↦{fullShare} points m d) ∗ yLoc d ↦{fullShare} out m d)

abbrev pay : (K (F := F)).Pay (nD := nD) (Val := Elt F) (Name := ℕ) (U := UU) := P (words m) (table m) (before m)

/-- @main on device `d`'s TensorCore: the table laid out, the call, the rows cut and shaped. -/
theorem hmain (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S9 _ opsBefore hBefore fBefore (V0 m d)) $$ [Hb Hheld]
  · isplitl [Hb] <;> iassumption
  iintro ⟨Hb, Hheld⟩
  ihave Hh := (Entails.of_eq (held_S9 (F := F) d (after opsBefore (V0 m d)))) $$ Hheld
  rw [show after opsBefore (V0 m d) = V1 m d from rfl, V1_a0, V1_a1, V1_r2, V1_r3]
  icases Hh with ⟨Hi, Hx, Hc, H0, H1, Ht, Ho, H4, H5⟩
  rw [wp_bind]
  iapply ((K (F := F)).wp_run (D (F := F)) 𝒱 (EH := EH) (P := pay m) κ d 0) $$ [Hst Hi Ht Ho Hb Hx Hc H0 H1 H4 H5 Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq (words m) (table m) (before m) d)) $$ Hdn
  icases Hdn' with ⟨Hi, Ht, Ho⟩
  iapply (wp_seq 𝒱 none Set.univ d S9 _ opsAfter hAfter fAfter (V2 m d)) $$ [Hb Hi Hx Hc H0 H1 Ht Ho H4 H5]
  · isplitl [Hb]; · iexact Hb
    iapply (Entails.of_eq (held_S9 (F := F) d (V2 m d)).symm)
    rw [V2_r3, V2_ne m d (show a0 ≠ r3 by decide), V2_ne m d (show a1 ≠ r3 by decide), V2_ne m d (show ac ≠ r3 by decide),
      V2_ne m d (show r0 ≠ r3 by decide), V2_ne m d (show r1 ≠ r3 by decide), V2_ne m d (show r2 ≠ r3 by decide),
      V2_ne m d (show r4 ≠ r3 by decide), V2_ne m d (show r5 ≠ r3 by decide), V1_a0, V1_a1, V1_r2]
    isplitl [Hi]; · iexact Hi
    isplitl [Hx]; · iexact Hx
    isplitl [Hc]; · iexact Hc
    isplitl [H0]; · iexact H0
    isplitl [H1]; · iexact H1
    isplitl [Ht]; · iexact Ht
    isplitl [Ho]; · iexact Ho
    isplitl [H4]; · iexact H4
    iexact H5
  iintro ⟨Hb, Hheld⟩
  ihave Hh := (Entails.of_eq (held_S9 (F := F) d (after opsAfter (V2 m d)))) $$ Hheld
  rw [show after opsAfter (V2 m d) = V3 m d from rfl, V3_a0, V3_a1, V3_r5]
  icases Hh with ⟨Hi, Hx, -, -, -, -, -, -, H5⟩
  rw [wp_pure]; imodintro
  isplitl [Hst]; · iexact Hst
  isplitr [Hb Hts]
  · isplitl [Hi]; · iexact Hi
    isplitl [Hx]; · iexact Hx
    iexact H5
  isplitl [Hb] <;> iassumption

/-- What the claims read of device `d`'s final state. -/
def fq (d : Dev nD) (s' : Phys nD τ sig (Elt F)) : Prop :=
  s'.mem.mem (yLoc d) = out m d ∧ s'.mem.mem (iLoc d) = words m d ∧ s'.mem.mem (xLoc d) = points m d

theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := words m d))) $$ [HSI Hi]
  · isplitl [HSI] <;> iassumption
  icases H with ⟨%h1, HSI, -⟩
  ihave H := (persistent_entails_right (SI_pointsTo_agree (st := s') (ℓ := xLoc d) (I := Finset.univ) (q := fullShare) (f := points m d))) $$ [HSI Hx]
  · isplitl [HSI] <;> iassumption
  icases H with ⟨%h2, HSI, -⟩
  ihave H := (SI_pointsTo_agree (st := s') (ℓ := yLoc d) (I := Finset.univ) (q := fullShare) (f := out m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (yLoc c) = out m c ∧ r.2.mem (iLoc c) = words m c ∧ r.2.mem (xLoc c) = points m c)
    ∧ r.2.sem = fun _ => 0

theorem run_main [∀ e, Nonempty (Elt F e)] (hin : InRange (words m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (words m) (table m) (before m) facts hin)
    (fun q _ => match q with | 0 => SparseCore.Cfg.VecSplit.of_plain (vecSplit (words m) (table m) (before m)))
    m ρ main (fun _ => iprop(emp)) (FIN m) (u₀ (F := F)) (sep_elim_left.trans (hu₀ (words m) (table m) (before m))) (hmain m ρ) (fq m) (hfin m) (QC m) (fun _ h hz => ⟨h, hz⟩)

end Cert.Proof.Tiles

end
-- ==== Proof.RowTake.lean ====
/-
  A gather on the host that takes whole rows of a table: the start indices are a column of row numbers, the row axis is
  collapsed and start-indexed, the columns are the one offset axis. Row `p` of the result is the table's row number `p`, read
  as a signed word and clamped into the table; with every number a row of the table, it is `picked`.
-/
module

public import proofs.«01_k».proof.Proof.Picked
public import Idealize.ShloMosaic.Lib.StableHlo.Run

@[expose] public section

noncomputable section

namespace Cert.Proof

open Idealize.ShloMosaic

/-- Row `p` of a column of row numbers. -/
abbrev colAt {n : ℕ} (p : Fin n) : (⟨2, ![n, 1]⟩ : Shape).Idx := fun | ⟨0, _⟩ => p | ⟨1, _⟩ => (0 : Fin 1)

theorem gather_rows {α : Type} {N n k w : ℕ} (d : GatherDims ⟨2, ![N, k]⟩ ⟨2, ![n, 1]⟩ ⟨2, ![n, k]⟩)
    (hoff : d.offsetDims = [1]) (hcoll : d.collapsedSliceDims = [0]) (hob : d.operandBatchingDims = [])
    (hsim : d.startIndexMap = [0]) (hivd : d.indexVectorDim = 1)
    (x : (⟨2, ![N, k]⟩ : Shape).Idx → α) (idx : IVec ⟨2, ![n, 1]⟩ w) (j : (⟨2, ![n, k]⟩ : Shape).Idx) (i : (⟨2, ![N, k]⟩ : Shape).Idx)
    (h0 : (i 0).val = min (idx (colAt (j 0))).toInt.toNat (N - 1)) (h1 : (i 1).val = (j 1).val) :
    Host.gather d x idx j = x i := by
  unfold Host.gather
  congr 1
  funext a
  apply Fin.ext
  have hnb : ∀ a, a ∉ d.operandBatchingDims := fun a => by rw [hob]; exact List.not_mem_nil
  have hkept : d.sKept = [1] := by
    show Shape.kept _ (d.collapsedSliceDims ++ d.operandBatchingDims) = [1]
    rw [hcoll, hob]; rfl
  simp only [GatherDims.operandIdx, GatherDims.batchCoord_eq_zero _ _ _ (hnb a), Nat.add_zero]
  match a with
  | ⟨0, _⟩ =>
    have hk : (0 : Fin 2) ∉ d.sKept := by rw [hkept]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    refine Eq.trans ?_ h0.symm
    show d.start j idx 0 + d.offCoord j 0 = _
    rw [GatherDims.offCoord_eq_zero _ _ _ hk, Nat.add_zero, GatherDims.start, dif_pos hm]
    show min (idx _).toInt.toNat (N - d.sliceSizes 0) = _
    rw [hsl]
    congr 4
    funext b
    match b with
    | ⟨0, _⟩ =>
      unfold GatherDims.siIdx
      rw [dif_neg (by rw [hivd]; simp)]
      unfold GatherDims.siCoord
      apply Fin.ext
      simp only [Fin.val_cast]
      have hb : d.batchDims = [0] := by show Shape.kept _ d.offsetDims = [0]; rw [hoff]; rfl
      have e : ∀ X : Fin 2, X ∈ d.batchDims → (j X).val = (j 0).val := fun X hX => by
        rw [hb] at hX; rw [List.mem_singleton.mp hX]
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [hkept]; exact List.mem_singleton.mpr rfl
    have hm : (1 : Fin 2) ∉ d.startIndexMap := by rw [hsim]; simp
    refine Eq.trans ?_ h1.symm
    show d.start j idx 1 + d.offCoord j 1 = _
    rw [GatherDims.start, dif_neg hm, Nat.zero_add, GatherDims.offCoord, dif_pos hk]
    have e : ∀ X : Fin 2, X ∈ d.offsetDims → (j X).val = (j 1).val := fun X hX => by
      rw [hoff] at hX; rw [List.mem_singleton.mp hX]
    exact e _ (List.getElem_mem _)

/-- A word below 2³¹ read signed is the word read unsigned. -/
theorem toInt_toNat_of_lt {v : BitVec 32} (h : v.toNat < 65536) : v.toInt.toNat = v.toNat := by
  rw [BitVec.toInt_eq_toNat_cond]; split <;> omega

/-- The rows taken are `picked` when every number is a row of the table. -/
theorem gather_picked {α : Type} {k : ℕ} (d : GatherDims ⟨2, ![65536, k]⟩ ⟨2, ![65536, 1]⟩ ⟨2, ![65536, k]⟩)
    (hoff : d.offsetDims = [1]) (hcoll : d.collapsedSliceDims = [0]) (hob : d.operandBatchingDims = [])
    (hsim : d.startIndexMap = [0]) (hivd : d.indexVectorDim = 1)
    (x : (Rows k).Idx → α) (idx : IVec ⟨2, ![65536, 1]⟩ 32) (v : Words.Idx → BitVec 32) (hv : ∀ p, idx (colAt p) = v (at1 p))
    (hin : ∀ p, (v p).toNat < 65536) :
    Host.gather d x idx = picked v x := by
  funext j
  refine gather_rows d hoff hcoll hob hsim hivd x idx j (at2 (rowOfWord (v (at1 (j 0)))) (j 1)) ?_ rfl
  show (rowOfWord (v (at1 (j 0)))).val = _
  have h := hin (at1 (j 0))
  have e : (idx (colAt (j 0))).toInt.toNat = (v (at1 (j 0))).toNat := (congrArg (fun u : BitVec 32 => u.toInt.toNat) (hv (j 0))).trans (toInt_toNat_of_lt h)
  rw [rowOfWord_val h]
  exact (min_eq_left (e ▸ Nat.le_sub_one_of_lt h)).symm ▸ e.symm

end Cert.Proof

end
-- ==== Proof.GatherValue.lean ====
/-
  The gather program against its reference. The kernel's result is the picked rows of the padded table, the pad dropped again;
  the reference's is the picked rows of the points' table. They are the same array, at the machine's floats and at the ideal's.
-/
module

public import proofs.«01_k».proof.Proof.GatherRun
public import proofs.«01_k».proof.Proof.RowTake
public import proofs.«01_k».proof.Proof.Gen.Gather
public import proofs.«01_k».proof.Proof.Gen.GatherRef.Run
public import proofs.«01_k».proof.Proof.Gen.GatherRefIdeal.Run
public import proofs.«01_k».proof.Proof.Gen.Pre_rows_exist
public import Idealize.ShloMosaic.Lib.ReduceAll
public import Idealize.ShloMosaic.Lib.Pipeline.Value

@[expose] public section

noncomputable section

namespace Cert.Proof

open Idealize.ShloMosaic Idealize.SL.Sem
open Cert.GatherIdeal Cert.GatherIdeal.Gen

variable {F : FTy → Type} [FloatOps F]

/-- The precondition gives every word as a row number. -/
theorem rows_of_pre (idx : IVec Cert.Pre_rows_exist.S65536 32) (x : FVec F Cert.Pre_rows_exist.S4x16384x3 .f32)
    (h : Cert.Pre_rows_exist.fn (F := F) idx x = fun _ => 1#1) (j : Cert.Pre_rows_exist.S65536.Idx) : (idx j).toNat < 65536 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 65536#32) = 1#1 → v.toNat < 65536 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  haveI : Subsingleton Cert.Pre_rows_exist.S_.Idx := ⟨fun a b => funext fun i => i.elim0⟩
  have e := congrFun h (fun i => i.elim0)
  unfold Cert.Pre_rows_exist.fn at e
  have e' := Host.reduce_andi_all _ _ _ _ _ e j
  exact key _ e'

/-- Dropping the pad of the picked rows leaves the picked rows of the points' table. -/
theorem cut_picked (idx : Words.Idx → BitVec 32) (x : S4x16384x3.Idx → Elt F .f32) :
    extractStridedSlice S65536x3 ![0, 0] (picked (w := 16) idx (Tiles.tableOf (F := F) x)) slices_S65536x16_S65536x3_0_0
      = picked (w := 3) idx (shapeCast S65536x3 x shapeCasts_S4x16384x3_S65536x3) := by
  funext j
  refine (extractStridedSlice_apply ![0, 0] _ _ j (at2 (j 0) (Fin.castLE (n := 3) (m := 16) (by decide) (j 1))) (fun a => ?_)).trans ?_
  · match a with
    | ⟨0, _⟩ => exact (Nat.zero_add _).symm
    | ⟨1, _⟩ => exact (Nat.zero_add _).symm
  · unfold picked Tiles.tableOf
    refine concatenate_pair_apply_left (t := S65536x16) (s₁ := S65536x3) (s₂ := S65536x13) 1 _ _ concatenates_S65536x3_S65536x13_S65536x16_d1 _ rfl
      (at2 (w := 3) (rowOfWord (idx (at1 (j 0)))) (j 1)) (fun b => ?_)
    match b with
    | ⟨0, _⟩ => rfl
    | ⟨1, _⟩ => rfl

/-- The reference's numbers, negative ones counted from the end, are the words themselves when every word is a row number. -/
theorem wrapped (v : BitVec 32) (h : v.toNat < 65536) :
    Scalar.select (IntOp.cmpi .slt v 0#32) (IntOp.addi v 65536#32) v = v := by
  have ofBool_eq_one (p : Bool) : (BitVec.ofBool p = 1#1) ↔ p = true := by cases p <;> decide
  unfold Scalar.select
  rw [if_neg]
  show ¬ (IntOp.cmpi .slt v 0#32 = 1#1)
  simp only [IntOp.cmpi, ofBool_eq_one, BitVec.slt_eq_decide, decide_eq_true_eq, BitVec.toInt_eq_toNat_cond,
      BitVec.toNat_ofNat, Nat.reducePow, Nat.reduceMod]
  omega

/-- The reference's result is the kernel's. -/
theorem reference_value (idx : Words.Idx → BitVec 32) (x : S4x16384x3.Idx → Elt F .f32) (hin : ∀ p, (idx p).toNat < 65536) :
    shapeCast S4x512x32x3 (Host.gather Cert.GatherRefIdeal.gather_S65536x3_S65536x1_S65536x3_1_0_n_n_0_1_13
        (shapeCast Cert.GatherRefIdeal.S65536x3 x Cert.GatherRefIdeal.Gen.shapeCasts_S4x16384x3_S65536x3)
        (broadcastInDim Cert.GatherRefIdeal.S65536x1 ![0] Cert.GatherRefIdeal.Gen.bcast_S65536_S65536x1_0
          (select (cmpi .slt idx (broadcastInDim Cert.GatherRefIdeal.S65536 ![] Cert.GatherRefIdeal.Gen.bcast_S_S65536 (constantI Cert.GatherRefIdeal.S_ 32 0#32)))
            (addi idx (broadcastInDim Cert.GatherRefIdeal.S65536 ![] Cert.GatherRefIdeal.Gen.bcast_S_S65536 (constantI Cert.GatherRefIdeal.S_ 32 65536#32))) idx)))
        Cert.GatherRefIdeal.Gen.shapeCasts_S65536x3_S4x512x32x3
      = shapeCast S4x512x32x3 (extractStridedSlice S65536x3 ![0, 0] (picked (w := 16) idx (Tiles.tableOf (F := F) x)) slices_S65536x16_S65536x3_0_0)
          shapeCasts_S65536x3_S4x512x32x3 := by
  rw [cut_picked, gather_picked (k := 3) Cert.GatherRefIdeal.gather_S65536x3_S65536x1_S65536x3_1_0_n_n_0_1_13 rfl rfl rfl rfl rfl _ _ idx (fun p => ?_) hin]
  refine Eq.trans ?_ (wrapped (idx (at1 p)) (hin _))
  unfold broadcastInDim
  refine (congrArg (select _ _ _) (show _ = at1 p from ?_)).trans ?_
  · funext a; match a with | ⟨0, _⟩ => exact Fin.ext rfl
  · simp only [select, cmpi, addi, constantI]

end Cert.Proof

end
-- ==== Proof.GatherClaims.lean ====
/-
  The claims of the gather program: its run read at the machine's floats and at the ideal's, and its reference's run.
-/
module

public import proofs.«01_k».proof.Proof.GatherValue

@[expose] public section

noncomputable section

namespace Cert.Proof

open Idealize.ShloMosaic Idealize.SL.Sem

theorem words_of_Gather (m : (ℓ : Loc Cert.Gather.nD Cert.Gather.τ Cert.Gather.sig) → Buf (Elt Bits) ℓ) (h : Cert.Pre_Gather m) :
    Tiles.InRange (F := Bits) (Tiles.words (F := Bits) m) := fun d j => rows_of_pre _ _ (h d) j

theorem words_of_GatherIdeal (m : (ℓ : Loc Cert.GatherIdeal.nD Cert.GatherIdeal.τ Cert.GatherIdeal.sig) → Buf (Elt Ideal) ℓ) (h : Cert.Pre_GatherIdeal m) :
    Tiles.InRange (F := Ideal) (Tiles.words (F := Ideal) m) := fun d j => rows_of_pre _ _ (h d) j

theorem quiescent_Gather : Cert.quiescent_Gather := fun m g hpre =>
  (θ_run Cert.Gather.defs _ _).mono (fun _ h => ⟨fun c => (h.1 c).2, h.2⟩) (Tiles.run_main (F := Bits) m g (words_of_Gather m hpre))

theorem quiescent_GatherIdeal : Cert.quiescent_GatherIdeal := fun m g hpre =>
  (θ_run Cert.GatherIdeal.defs _ _).mono (fun _ h => ⟨fun c => (h.1 c).2, h.2⟩) (Tiles.run_main (F := Ideal) m g (words_of_GatherIdeal m hpre))

theorem quiescent_GatherRefIdeal : Cert.quiescent_GatherRefIdeal := fun m g _ =>
  (θ_run Cert.GatherRefIdeal.defs _ _).mono (fun r h => ⟨fun c => (h c).2, sem_eq_zero_of_no_sems (by decide) r.2⟩)
    (Cert.GatherRefIdeal.Value.run (F := Ideal) m g)

theorem quiescent_GatherRef : Cert.quiescent_GatherRef := fun m g _ =>
  (θ_run Cert.GatherRef.defs _ _).mono (fun r h => ⟨fun c => (h c).2, sem_eq_zero_of_no_sems (by decide) r.2⟩)
    (Cert.GatherRef.Value.run (F := Bits) m g)

theorem algebraic_Gather : Cert.algebraic_GatherIdeal_GatherRefIdeal := fun m g m' g' hpre hargs =>
  ⟨fun c => Tiles.out (F := Ideal) m c,
    (θ_run Cert.GatherIdeal.defs _ _).mono (fun _ h => h.1) (Tiles.run_main (F := Ideal) m g (words_of_GatherIdeal m hpre)),
    (θ_run Cert.GatherRefIdeal.defs _ _).mono (fun _ h c => ⟨(h c).1.trans (by
        rw [(hargs c).1, (hargs c).2]
        exact reference_value (F := Ideal) _ _ (words_of_GatherIdeal m hpre c)), (h c).2⟩)
      (Cert.GatherRefIdeal.Value.run (F := Ideal) m' g')⟩

theorem bitexact_Gather : Cert.bitexact_Gather_GatherRef := fun m g m' g' hpre hargs =>
  ⟨fun c => Tiles.out (F := Bits) m c,
    (θ_run Cert.Gather.defs _ _).mono (fun _ h => h.1) (Tiles.run_main (F := Bits) m g (words_of_Gather m hpre)),
    (θ_run Cert.GatherRef.defs _ _).mono (fun _ h c => ⟨(h c).1.trans (by
        rw [(hargs c).1, (hargs c).2]
        exact reference_value (F := Bits) _ _ (words_of_Gather m hpre c)), (h c).2⟩)
      (Cert.GatherRef.Value.run (F := Bits) m' g')⟩

end Cert.Proof

end
-- ==== Proof.WholeTiles.lean ====
/-
  The SparseCore call of the whole program, on the arrays it names: each of the 32 tiles fetches its 2048 words of the index
  vector, gathers the rows of the table they name, and writes them to its 2048 rows of the output. For any contents of the
  three arrays with every word a row number, the call leaves the output at `picked idx table` and the operands as they were.

  A tile takes a 32nd share of the index vector and of the table, whole, and its own rows of the output (`task`); it brings
  them back, the rows at the picked ones. A core takes what its sixteen tiles take. The launch's set-up (configuration,
  resource algebra, handshake payload) is the usual one of a launch with one call.
-/
module

public import proofs.«01_k».proof.Defs
public import proofs.«01_k».proof.Proof.Picked
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × UP × Counters

local notation "𝕄" => MT nD τ sig (HIx 1) (Elt F) ℕ UU ℕ

abbrev EH : Emb UH (MT nD τ sig (HIx 1) (Elt F) ℕ UU ℕ) := embL
/-- Where the two TensorCore pipelines keep their rounds. -/
abbrev EP : Emb UP (MT nD τ sig (HIx 1) (Elt F) ℕ UU ℕ) := (Emb.inl : Emb UP (UP × Counters)).trans embR

/-! ## The three arrays, as the TensorCore and as a tile name them -/

abbrev idxRef : Ref sig .tc := main_v20
abbrev tabRef : Ref sig .tc := main_v23
abbrev outRef : Ref sig .tc := main_v24
abbrev iLoc (d : Dev nD) : Loc nD τ sig := (SparseCore.T d).loc idxRef
abbrev tLoc (d : Dev nD) : Loc nD τ sig := (SparseCore.T d).loc tabRef
abbrev oLoc (d : Dev nD) : Loc nD τ sig := (SparseCore.T d).loc outRef

abbrev iV : Memref sig .scVector .hbm S65536 .i32 := Memref.whole main_v20_scv
abbrev tV : Memref sig .scVector .hbm S65536x16 .f32 := Memref.whole main_v23_scv
abbrev oV : Memref sig .scVector .hbm S65536x16 .f32 := Memref.whole main_v24_scv
abbrev sV : Memref sig .scVector .vmem S2048 .i32 := Memref.whole cc2_scratch0
abbrev rV : Memref sig .scVector .vmem S2048x16 .f32 := Memref.whole cc2_scratch1

/-- Tile `w`'s rows of the output: its 2048, the `w`-th of 32 equal parts. -/
theorem parts : 32 ∣ S65536x16.size 0 := ⟨2048, rfl⟩
abbrev rowsOf (w : Fin 32) : Rect S65536x16 := Rect.part (s := S65536x16) (a₀ := 0) parts w
abbrev rowSet (w : Fin 32) : Finset S65536x16.Idx := ((oV).view.slice (rowsOf w)).set

/-- The share of the operands a tile reads under. -/
abbrev tileShare (w : Fin 32) : PosShare TreeShare := Idealize.ShloMosaic.pieceOf fullShare 32 (by decide) w

variable (fi : (d : Dev nD) → Buf (Elt F) (iLoc d)) (ft : (d : Dev nD) → Buf (Elt F) (tLoc d)) (fo : (d : Dev nD) → Buf (Elt F) (oLoc d))

/-- What the call leaves in the output. -/
abbrev result (d : Dev nD) : Buf (Elt F) (oLoc d) := picked (α := Elt F .f32) (w := 16) (fi d) (ft d)

/-- What tile `w` takes and brings back, its output rows holding those of `f`. -/
abbrev task (d : Dev nD) (w : Fin 32) (f : Buf (Elt F) (oLoc d)) : sProp 𝕄 :=
  iprop((iLoc d ↦{tileShare w} fi d) ∗ (tLoc d ↦{tileShare w} ft d) ∗ oLoc d ↦[rowSet w]{fullShare} f)

/-- The number of the call's tile `(c, i)`. -/
abbrev no (c : Fin ((K (F := F)).nCore 0)) (i : Fin ((K (F := F)).nSub 0)) : Fin 32 := tileNo c i

variable [FloatOps F]

def P : (K (F := F)).Pay (nD := nD) (Val := Elt F) (Name := ℕ) (U := UU) where
  st := fun q d c => match q with | 0 => bigSep Finset.univ fun i : Fin ((K (F := F)).nSub 0) => task fi ft d (no c i) (fo d)
  dn := fun q d c => match q with | 0 => bigSep Finset.univ fun i : Fin ((K (F := F)).nSub 0) => task fi ft d (no c i) (result fi ft d)
  go := fun q d c i => match q with | 0 => task fi ft d (no c i) (fo d)
  td := fun q d c i => match q with | 0 => task fi ft d (no c i) (result fi ft d)
  x := fun _ _ => iprop(emp)

instance P_storable : (P (F := F) fi ft fo).IsStorable where
  st q d c := match q with
    | 0 => (inferInstance : BI.Storable (upEmb : UEmb _ 𝕄) (bigSep Finset.univ fun i : Fin ((K (F := F)).nSub 0) => task fi ft d (no c i) (fo d)))
  dn q d c := match q with
    | 0 => (inferInstance : BI.Storable (upEmb : UEmb _ 𝕄) (bigSep Finset.univ fun i : Fin ((K (F := F)).nSub 0) => task fi ft d (no c i) (result fi ft d)))
  go q d c i := match q with | 0 => (inferInstance : BI.Storable (upEmb : UEmb _ 𝕄) (task fi ft d (no c i) (fo d)))
  td q d c i := match q with | 0 => (inferInstance : BI.Storable (upEmb : UEmb _ 𝕄) (task fi ft d (no c i) (result fi ft d)))

/-- Every word of the index vector is a row number. -/
def InRange : Prop := ∀ (d : Dev nD) (j : S65536.Idx), (fi d j : BitVec 32).toNat < 65536

/-! ## One tile -/

section Tile

variable (d : Dev nD) (L : grid2.Coords)

abbrev cV (L : grid2.Coords) : Fin τ.nSC := (L 0).castLE hcore2
abbrev jV (L : grid2.Coords) : Fin τ.nSub := (L 1).castLE hsub2
/-- The tile at grid point `L`, its number, and its windows: its words, its rows, the whole table. -/
abbrev thr (d : Dev nD) (L : grid2.Coords) : Thread nD τ := V d (cV L) (jV L)
abbrev noL (L : grid2.Coords) : Fin 32 := tileNo (L 0) (L 1)
abbrev wordsK (L : grid2.Coords) : Memref sig .scVector .hbm S2048 .i32 := (iV).slice (Rect.unit (s := S65536) (k2_off1 L) S2048.size (k2_off1_inb L)) (fun _ => rfl)
abbrev rowsK (L : grid2.Coords) : Memref sig .scVector .hbm S2048x16 .f32 := (oV).slice (Rect.unit (s := S65536x16) (k2_off2 L) S2048x16.size (k2_off2_inb L)) (fun _ => rfl)
abbrev tableK : Memref sig .scVector .hbm S65536x16 .f32 := (tV).slice (Rect.unit (s := S65536x16) ![0, 0] S65536x16.size inb_S65536x16_S65536x16_0_0) (fun _ => rfl)

omit [FloatOps F] in
theorem rowsOf_eq : Rect.unit (s := S65536x16) (k2_off2 L) S2048x16.size (k2_off2_inb L) = rowsOf (noL L) := by
  unfold rowsOf Rect.part Rect.block
  congr 1 <;> funext a
  · rw [k2_off2_eq]
    match a with
    | 0 =>
      have e : (noL L).val = 2 * (L 1).val + (L 0).val := rfl
      simp [Shape.partIx, Shape.partSize, e]; omega
    | 1 => simp [Shape.partIx, Shape.partSize]
  · match a with
    | 0 => simp [Shape.partSize]
    | 1 => simp [Shape.partSize]

omit [FloatOps F] in
theorem set_rowsK : (rowsK L).view.set = rowSet (noL L) := by
  show ((oV).view.slice (Rect.unit (s := S65536x16) (k2_off2 L) S2048x16.size (k2_off2_inb L))).set = _
  rw [rowsOf_eq]

omit [FloatOps F] in
theorem pts_rowsK (f : Buf (Elt F) (oLoc d)) :
    ((rowsK L).view.loc (thr d L) ↦[(rowsK L).view.set]{fullShare} f : sProp 𝕄) = oLoc d ↦[rowSet (noL L)]{fullShare} f := by
  rw [set_rowsK]

/-- The three semaphores a tile's transfers count on, and its two scratch arrays, out of all that is its own. -/
abbrev gCell (d : Dev nD) (L : grid2.Coords) : GSem nD τ sig := (thr d L, .dma cc2_scratch2.sem)
abbrev aCell (d : Dev nD) (L : grid2.Coords) : GSem nD τ sig := (thr d L, .dma cc2_scoped0.sem)
abbrev bCell (d : Dev nD) (L : grid2.Coords) : GSem nD τ sig := (thr d L, .dma cc2_scoped1.sem)

omit [FloatOps F] in
theorem sems_V :
    (ownSems0 (thr d L) : sProp 𝕄)
      = iprop(semVal (gCell d L) 0 ∗ semVal (aCell d L) 0 ∗ semVal (bCell d L) 0
          ∗ bigSep ((((ownCells (thr d L)).erase (gCell d L)).erase (aCell d L)).erase (bCell d L)) fun g => semVal g 0) := by
  unfold SparseCore.Cfg.ownSems0
  rw [SparseCore.bigSep_erase' ((mem_ownCells (g := gCell d L)).mpr ⟨rfl, by
      show (SemLoc.dma cc2_scratch2.sem : SemLoc sig).isScoped .scVector = true; decide⟩),
    SparseCore.bigSep_erase' (Finset.mem_erase.mpr ⟨by simp [gCell, aCell]; decide, (mem_ownCells (g := aCell d L)).mpr ⟨rfl, by
      show (SemLoc.dma cc2_scoped0.sem : SemLoc sig).isScoped .scVector = true; decide⟩⟩),
    SparseCore.bigSep_erase' (Finset.mem_erase.mpr ⟨by simp [aCell, bCell]; decide, Finset.mem_erase.mpr ⟨by simp [gCell, bCell]; decide,
      (mem_ownCells (g := bCell d L)).mpr ⟨rfl, by show (SemLoc.dma cc2_scoped1.sem : SemLoc sig).isScoped .scVector = true; decide⟩⟩⟩)]

omit [FloatOps F] in
theorem bufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
/-- Word `x` of what the tile fetched is word `2048 w + x` of the index vector. -/
theorem fetched (fs : Buf (Elt F) ((thr d L).loc cc2_scratch0)) (x : S2048.Idx) :
    (sV).view.read (Elt F) (View.write (Elt F) (sV).view fs ((wordsK L).view.read (Elt F) (fi d)) Finset.univ) x
      = fi d ((wordsK L).view.emb x) := by
  rw [View.write_whole_univ]
  simp only [Memref.view_whole, View.read_whole]
  exact (View.read_apply _ _).trans (cast_eq _ _)

omit [FloatOps F] in
theorem fetched_lt (hin : InRange fi) (fs : Buf (Elt F) ((thr d L).loc cc2_scratch0)) (pay : S2048.Idx → Elt F .i32)
    (hpay : pay = (wordsK L).view.read (Elt F) (fi d)) :
    ∀ x, ((sV).view.read (Elt F) (View.write (Elt F) (sV).view fs pay Finset.univ) x : BitVec 32).toNat < S65536x16.size gathers_S65536x16_S2048x16.axis := by
  subst hpay; intro x
  rw [fetched]
  exact hin d _

/-- Row `y 0` of what the tile gathered, put at its row of the output, is the picked row. -/
theorem gathered (hin : InRange fi) (fs : Buf (Elt F) ((thr d L).loc cc2_scratch0)) (fr : Buf (Elt F) ((thr d L).loc cc2_scratch1))
    (hlt : ∀ x, ((sV).view.read (Elt F) (View.write (Elt F) (sV).view fs ((wordsK L).view.read (Elt F) (fi d)) Finset.univ) x : BitVec 32).toNat
      < S65536x16.size gathers_S65536x16_S2048x16.axis) (y : S2048x16.Idx) :
    (rV).view.read (Elt F) (View.write (Elt F) (rV).view fr
      (SparseCore.gatherPayload gathers_S65536x16_S2048x16 ((tableK).view.read (Elt F) (ft d))
        (SparseCore.rows ((sV).view.read (Elt F) (View.write (Elt F) (sV).view fs ((wordsK L).view.read (Elt F) (fi d)) Finset.univ)) rfl hlt))
      Finset.univ) y = result fi ft d ((rowsK L).view.emb y) := by
  rw [View.write_whole_univ]
  simp only [Memref.view_whole, View.read_whole]
  unfold SparseCore.gatherPayload
  refine ((View.read_apply _ _).trans (cast_eq _ _)).trans ?_
  have hr := congrFun (k2_off2_eq L) 0
  have hw := congrFun (k2_off1_eq L) 0
  set r := SparseCore.rows ((sV).view.read (Elt F) (View.write (Elt F) (sV).view fs ((wordsK L).view.read (Elt F) (fi d)) Finset.univ))
    (rfl : S2048.numel = _) hlt with hrdef
  set x : S2048.Idx := S2048.rowMajor.symm ((y 0).cast rfl) with hx
  have hx0 : (x 0).val = (y 0).val := by
    have e := Shape.rowMajor_val_one x
    rw [hx, Equiv.apply_symm_apply] at e
    exact e.symm
  refine (picked_apply (k := (wordsK L).view.emb x) (hin d) (ft d) ?_ ?_ ?_).symm
  · show k2_off1 L 0 + 1 * (x 0).val = k2_off2 L 0 + 1 * (y 0).val
    rw [hr, hw, hx0]; rfl
  · have e := gathers_S65536x16_S2048x16.idx_axis r y
    have e0 : ((gathers_S65536x16_S2048x16).idx r y 0).val = (r (y 0)).val := congrArg Fin.val e
    show 0 + 1 * ((gathers_S65536x16_S2048x16).idx r y 0).val = _
    rw [Nat.zero_add, Nat.one_mul, e0, hrdef]
    show ((sV).view.read (Elt F) _ x : BitVec 32).toNat = _
    rw [fetched]
  · have e := gathers_S65536x16_S2048x16.idx_of_ne r y 1 (by decide)
    show 0 + 1 * ((gathers_S65536x16_S2048x16).idx r y 1).val = k2_off2 L 1 + 1 * (y 1).val
    rw [e, congrFun (k2_off2_eq L) 1]; rfl

set_option maxHeartbeats 4000000 in
/-- The task of the tile at `L`: the words fetched, the rows gathered, the rows written out, each transfer waited for. -/
theorem tile_body (hF : (K (F := F)).Facts) (hin : InRange fi) (O : CellTallies nD τ sig (HIx 1)) (W : Waits sig (HIx 1)) (hO : ∀ g, O g none = 0) :
    iprop(levAts (K (F := F)).L (K (F := F)).lev ∗ emp
        ∗ task fi ft d (noL L) (fo d)
        ∗ scopedBufs (thr d L) ∗ scopedSems0 (thr d L) ∗ owes (thr d L) O W)
      ⊢ wp frame (wpE (defs₀ (F := F)) 𝒱₀ (thr d L) none) Set.univ
          (cc2_gather_k L iV (Memref.isWhole_whole _) tV (Memref.isWhole_whole _) oV (Memref.isWhole_whole _)
            sV (Memref.isWhole_whole _) rV (Memref.isWhole_whole _) cc2_scratch2 cc2_scoped0 cc2_scoped1)
          fun _ => iprop(task fi ft d (noL L) (result fi ft d)
            ∗ scopedBufs (thr d L) ∗ scopedSems0 (thr d L)
            ∗ ∃ W', ⌜∀ p ∈ W', p ∈ W ∨ p.2 = none⌝ ∗ owes (thr d L) O W') := by
  simp only [cc2_gather_k_eq_skeleton]; unfold cc2_gather_k_skel
  rw [(K (F := F)).scopedBufs_V hF d (cV L) (jV L), SparseCore.Cfg.scopedSems0_V (Val := Elt F) d (cV L) (jV L), sems_V, bufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (iLoc d ↦{tileShare (noL L)} fi d : sProp 𝕄) = ((iV).view.loc (thr d L) ↦{tileShare (noL L)} fi d) from rfl)) $$ Hi
  ihave Ht' := (Entails.of_eq (show (tLoc d ↦{tileShare (noL L)} ft d : sProp 𝕄) = ((tV).view.loc (thr d L) ↦{tileShare (noL L)} ft d) from rfl)) $$ Ht
  ihave Ho' := (Entails.of_eq (pts_rowsK (F := F) d L _).symm) $$ Ho
  ihave Hs' := (Entails.of_eq (show ((thr d L).loc cc2_scratch0 ↦{fullShare} fs : sProp 𝕄) = ((sV).view.loc (thr d L) ↦{fullShare} fs) from rfl)) $$ Hs
  ihave Hr' := (Entails.of_eq (show ((thr d L).loc cc2_scratch1 ↦{fullShare} fr : sProp 𝕄) = ((rV).view.loc (thr d L) ↦{fullShare} fr) from rfl)) $$ Hr
  sl_exec
  iapply (SparseCore.wp_gatherFromWhole countersEmb 𝒱₀ (thr d L) none (hg := gathers_S65536x16_S2048x16) (default : HIx 1)
      (rV).view.dmaCredit (SparseCore.sum_rowCredit_eq_dmaCredit _ _ fun _ => rfl) (by decide) (fetched_lt fi d L hin fs _ rfl)) $$ [Ht' Hr' Hs' HsemG]
  · isplitl [Ht']; · iexact Ht'
    isplitl [Hr']; · iexact Hr'
    isplitl [Hs']; · iexact Hs'
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Ht', Hs'⟩, HsemG, HO⟩
  sl_exec
  sl_step
  isplitl [Hi' Ht' Ho']
  · isplitl [Hi']; · iexact Hi'
    isplitl [Ht']; · iexact Ht'
    iapply (Entails.of_eq (pts_rowsK (F := F) d L _))
    iapply (Entails.of_eq (pointsTo_congr (ℓ := (rowsK L).view.loc (thr d L)) (I := (rowsK L).view.set) (q := fullShare) (fun i hi => by
      obtain ⟨y, -, rfl⟩ := Finset.mem_map.mp hi
      exact ((cast_eq _ _).symm.trans (congrFun (View.read_writes_whole (rowsK L).view (fo d) (tile_body.sl.dma0_1 fi ft d L hin fs fr)) y)).trans
        (gathered fi ft d L hin fs fr _ y)))); iexact Ho'
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_k (coordsV c s)
          iV (Memref.isWhole_whole _) tV (Memref.isWhole_whole _) oV (Memref.isWhole_whole _)
          sV (Memref.isWhole_whole _) rV (Memref.isWhole_whole _) cc2_scratch2 cc2_scoped0 cc2_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InRange fi) : (K (F := F)).TileObl (D (F := F)) 𝒱 (P fi ft fo) v₀ 0 := by
  intro d c i O W hO _ _
  simp only [show (P fi ft fo).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi ft fo d (coordsV ⟨_, hci.1⟩ ⟨_, hci.2⟩) hF hin O W hO).trans (wp_mono frame _ _ fun _ => obl_post)

end Tile

/-! ## The tasks split and join -/

/-- A core takes its tiles' tasks and brings them back. -/
theorem vecSplit : (K (F := F)).VecSplit' (P fi ft fo) 0 := by
  intro d c
  show (bigSep Finset.univ fun i : Fin ((K (F := F)).nSub 0) => task fi ft d (no c i) (fo d)) ⊢ |={Set.univ}=> iprop(
      (bigSep Finset.univ fun i : Fin ((K (F := F)).nSub 0) => task fi ft d (no c i) (fo d))
      ∗ ((bigSep Finset.univ fun i : Fin ((K (F := F)).nSub 0) => task fi ft d (no c i) (result fi ft d))
          -∗ bigSep Finset.univ fun i : Fin ((K (F := F)).nSub 0) => task fi ft d (no c i) (result fi ft d)))
  iintro H; imodintro
  isplitl [H]; · iexact H
  iintro H; iexact H

omit [FloatOps F] in
theorem rowSet_eq (w : Fin 32) : rowSet w = (rowsOf w).set := by
  show ((View.whole (main_v24_scv : Ref sig .scVector)).slice (rowsOf w)).set = _
  rw [View.set_slice]; exact Finset.map_refl

omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint parts h

omit [FloatOps F] in
theorem rows_cover : (Finset.univ : Finset (Fin 32)).biUnion rowSet = Finset.univ :=
  (Finset.biUnion_congr rfl fun i _ => rowSet_eq i).trans (Rect.biUnion_part parts)

omit [FloatOps F] in
theorem pts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

omit [FloatOps F] in
/-- The three arrays whole are the 32 tasks. -/
theorem tasks_eq (d : Dev nD) (f : Buf (Elt F) (oLoc d)) :
    (bigSep Finset.univ fun c : Fin ((K (F := F)).nCore 0) => bigSep Finset.univ fun i : Fin ((K (F := F)).nSub 0) => task fi ft d (no c i) f)
      = (iprop((iLoc d ↦{fullShare} fi d) ∗ (tLoc d ↦{fullShare} ft d) ∗ oLoc d ↦{fullShare} f) : sProp 𝕄) := by
  refine (bigSep_tiles (fun w => task fi ft d w f)).symm.trans ?_
  rw [bigSep_sep', bigSep_sep', pts_rows]
  congr 1
  · exact (pointsTo_piecesOf Finset.univ (fi d) (by decide) fullShare).symm
  · congr 1
    exact (pointsTo_piecesOf Finset.univ (ft d) (by decide) fullShare).symm

theorem st0_eq (d : Dev nD) : (bigSep Finset.univ fun c : Fin ((K (F := F)).nCore 0) => (P fi ft fo).st 0 d c)
    = iprop((iLoc d ↦{fullShare} fi d) ∗ (tLoc d ↦{fullShare} ft d) ∗ oLoc d ↦{fullShare} fo d) := tasks_eq fi ft d (fo d)
theorem dn0_eq (d : Dev nD) : (bigSep Finset.univ fun c : Fin ((K (F := F)).nCore 0) => (P fi ft fo).dn 0 d c)
    = iprop((iLoc d ↦{fullShare} fi d) ∗ (tLoc d ↦{fullShare} ft d) ∗ oLoc d ↦{fullShare} result fi ft d) := tasks_eq fi ft d (result fi ft d)

/-! ## The launch element of the certificate's ghost state -/

/-- The two TensorCore calls prefetch no table. -/
abbrev adm : (p : Fin 2) → (pcfgs (F := F) p).Adm := fun p => (cfgs p).toPCfg_adm
theorem cells_inj : Function.Injective (Pipeline.cellOf (nD := nD) (τ := τ) (Pipeline.pin (pcfgs (F := F)) adm)) := cellOf_inj

def u₀ : UU := (initOf (K (F := F)).hsCells (K (F := F)).hsToks,
  initOf (Pipeline.cells (Pipeline.pin (pcfgs (F := F)) adm) cells_inj) (Pipeline.launchToks (Pipeline.pin (pcfgs (F := F)) adm) cells_inj), 1)

/-- What the launch deals a TensorCore of the rounds of call `p`'s pipeline, and of both. -/
abbrev rounds (p : Fin 2) (d : Dev nD) : sProp 𝕄 :=
  iprop(Pipeline.cellsGhost (Pipeline.pin (pcfgs (F := F)) adm) EP p d ∗ Pipeline.toksInit (Pipeline.pin (pcfgs (F := F)) adm) EP p d)
abbrev dealt (d : Dev nD) : sProp 𝕄 := iprop(rounds (F := F) 0 d ∗ rounds (F := F) 1 d)

omit [FloatOps F] in
theorem none_each {I : Type} (s : Finset I) : (bigSep s fun _ => iprop(emp)) = (iprop(emp) : sProp 𝕄) := bigSep_emp_const s

theorem fund : (BI.own (EP (F := F) (initOf (Pipeline.cells (Pipeline.pin (pcfgs (F := F)) adm) cells_inj) (Pipeline.launchToks (Pipeline.pin (pcfgs (F := F)) adm) cells_inj))) : sProp 𝕄)
    ⊢ iprop(|==> bigSep Finset.univ fun d : Dev nD => dealt (F := F) d) := by
  refine (Pipeline.fund_ghost (Pipeline.pin (pcfgs (F := F)) adm) EP cells_inj).trans (BI.bupd_mono ?_)
  rw [← bigSep_sep']
  refine BI.bigSep_mono fun d _ => ?_
  rw [← bigSep_sep']
  exact Entails.of_eq (bigSep_univ_eq_bigSepL [(0 : Fin 2), 1] (by decide) (by decide) _)

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P fi ft fo).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (fund (F := F)) $$ HP with HG
  imodintro
  isplitl [HH]; · iexact HH
  isplitl [HG]; · iexact HG
  rw [show (bigSep Finset.univ fun thr : Thread nD τ => bigSep Finset.univ fun q : Fin 1 => (P (F := F) fi ft fo).x q thr) = bigSep Finset.univ fun _ => iprop(emp) from
    bigSep_congr fun _ _ => bigSep_univ_of_subsingleton (0 : Fin 1), none_each]
  iempintro

end Cert.Proof.Whole

end
-- ==== Proof.FpsRun.lean ====
/-
  The body of the farthest-point call, run once: it reads a batch's three coordinate planes whole, and its loop of 512 trips
  keeps the distances in the scratch plane and the chosen points' coordinates in three rows, which it writes to its three
  output blocks. What the loop carries after `k` trips is a fold of its pure step, stated here for any values of the floats.
-/
module

public import proofs.«01_k».proof.Defs
public import proofs.«01_k».proof.Proof.Gen.KernelIdeal.Loops
public import Idealize.ShloMosaic.Lib.VecWindow
public import Idealize.ShloMosaic.Lib.WholeRead

@[expose] public section

set_option maxRecDepth 16384

noncomputable section

namespace Cert.Proof.Fps

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [RA.URA U] [Preorder Lvl]

local notation "𝕄" => MT nD τ sig Ix (Elt F) Name U Lvl

/-- What the loop carries, and the running distances. -/
abbrev Carry : Type := IVec S1x1 32 × FVec F S1x512 .f32 × FVec F S1x512 .f32 × FVec F S1x512 .f32

/-- One trip: the carried value and the distances after it. -/
def trip (x y z : Vec F S1x8x2048 .f32) (k : Fin k0_t1_loop.trips) (s : Carry (F := F) × FVec F S8x2048 .f32) : Carry (F := F) × FVec F S8x2048 .f32 :=
  let gi := iota .tc S1x512 32 [1] iota_S1x512_d1_w32
  let dn := k0_pay10 (k0_pay11 x) (k0_pay12 y) (k0_pay13 z) k0_pay14 s.1.1 s.2
  ((k0_pay19 dn, k0_pay7 (k0_pay11 x) k0_pay14 gi 0#32 1#32 k s.1.1 s.1.2.1, k0_pay8 (k0_pay12 y) k0_pay14 gi 0#32 1#32 k s.1.1 s.1.2.2.1,
    k0_pay9 (k0_pay13 z) k0_pay14 gi 0#32 1#32 k s.1.1 s.1.2.2.2), k0_pay18 dn)

/-- The state before trip `k`, the distances `d` at first. -/
def st (x y z : Vec F S1x8x2048 .f32) (d : FVec F S8x2048 .f32) : ℕ → Carry (F := F) × FVec F S8x2048 .f32
  | 0 => ((k0_pay17, k0_pay16, k0_pay16, k0_pay16), d)
  | k + 1 => if h : k < k0_t1_loop.trips then trip x y z ⟨k, h⟩ (st x y z d k) else st x y z d k

theorem st_succ (x y z : Vec F S1x8x2048 .f32) (d : FVec F S8x2048 .f32) (k : Fin k0_t1_loop.trips) : st x y z d (k.val + 1) = trip x y z k (st x y z d k.val) := by
  rw [st]; exact dif_pos k.isLt

variable (c : Dev nD) (i : grid0.Coords) (arg1 : Memref sig .tc .vmem S1x8x2048 .f32) (harg1 : arg1.IsWhole) (arg2 : Memref sig .tc .vmem S1x8x2048 .f32) (harg2 : arg2.IsWhole) (arg3 : Memref sig .tc .vmem S1x8x2048 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S8x2048 .f32) (harg7 : arg7.IsWhole)

/-- The distances' buffer before trip `k`, `G` at first. -/
def buf (x y z : Vec F S1x8x2048 .f32) (G : BufTy.Contents (Elt F) arg7.view.ty) : ℕ → BufTy.Contents (Elt F) arg7.view.ty
  | 0 => G
  | k + 1 => arg7.view.writes (Elt F) (buf x y z G k)
      [⟨Rect.unit (s := S8x2048) ![0, 0] S8x2048.size inb_S8x2048_S8x2048_0_0, (st x y z (arg7.view.read (Elt F) G) (k + 1)).2⟩]

theorem read_buf (x y z : Vec F S1x8x2048 .f32) (G : BufTy.Contents (Elt F) arg7.view.ty) (k : ℕ) :
    arg7.view.read (Elt F) (buf arg7 x y z G k) = (st x y z (arg7.view.read (Elt F) G) k).2 := by
  cases k with
  | zero => rfl
  | succ k => rw [buf, View.read_writes_full]

abbrev inv (x y z : Vec F S1x8x2048 .f32) (G : BufTy.Contents (Elt F) arg7.view.ty) (k : ℕ) (acc : Carry (F := F)) : sProp 𝕄 :=
  iprop((∃ f, (arg7.view.loc (c : Thread nD τ) ↦[arg7.view.set]{fullShare} f) ∗ ⌜f = buf arg7 x y z G k⌝) ∗ ⌜acc = (st x y z (arg7.view.read (Elt F) G) k).1⌝)

theorem step (bd) (E : Set Name) (x y z : Vec F S1x8x2048 .f32) (G : BufTy.Contents (Elt F) arg7.view.ty) (k : Fin k0_t1_loop.trips) (acc : Carry (F := F)) :
    inv (Ix := Ix) (Name := Name) (U := U) (Lvl := Lvl) c arg7 x y z G k.val acc
      ⊢ wp frame (wpE (defs₀ (F := F)) Variants.none (c : Thread nD τ) bd) E
          (k0_t1_body (F := F) i arg1 harg1 arg2 harg2 arg3 harg3 arg4 harg4 arg5 harg5 arg6 harg6 arg7 harg7 x y z (iota .tc S1x512 32 [1] iota_S1x512_d1_w32) k acc)
          (fun yld => inv (Ix := Ix) (Name := Name) (U := U) (Lvl := Lvl) c arg7 x y z G (k.val + 1) yld) := by
  unfold k0_t1_body
  iintro ⟨⟨%f, H, %hf⟩, %ha⟩
  subst ha
  sl_exec
  sl_step
  have hr : View.read (Elt F) arg7.view f = (st x y z (arg7.view.read (Elt F) G) k).2 := by rw [hf, read_buf]
  have e : step.sl.r_3 c arg7 x y z G k f = k0_pay10 (k0_pay11 x) (k0_pay12 y) (k0_pay13 z) k0_pay14 (st x y z (arg7.view.read (Elt F) G) k).1.1 (st x y z (arg7.view.read (Elt F) G) k).2 := by
    unfold step.sl.r_3; rw [View.readAt_full, hr]
  unfold inv
  rw [buf, st_succ]
  isplitl [H]
  · iexists _; isplitl [H]; · iexact H
    ipureintro
    rw [e, hf]; rfl
  · ipureintro
    rw [e]; rfl

set_option warn.classDefReducibility false in
@[sl_loop] def loopInv (bd) (E : Set Name) (x y z : Vec F S1x8x2048 .f32) (G : BufTy.Contents (Elt F) arg7.view.ty) :
    LoopInvTy_k0_t1 (F := F) Ix Name U Lvl Variants.none c bd E i arg1 harg1 arg2 harg2 arg3 harg3 arg4 harg4 arg5 harg5 arg6 harg6 arg7 harg7 x y z
      (iota .tc S1x512 32 [1] iota_S1x512_d1_w32) (k0_pay17, k0_pay16 (F := F), k0_pay16 (F := F), k0_pay16 (F := F)) where
  inv := inv c arg7 x y z G
  step k acc := step c i arg1 harg1 arg2 harg2 arg3 harg3 arg4 harg4 arg5 harg5 arg6 harg6 arg7 harg7 bd E x y z G k acc

/-- The last state's carried value. -/
abbrev last (x y z : Vec F S1x8x2048 .f32) : Carry (F := F) := (st x y z k0_pay15 k0_t1_loop.trips).1

/-- The body's triple. -/
theorem body (E : Set Name) (x y z : Vec F S1x8x2048 .f32) (Q : PUnit → sProp 𝕄) :
    iprop(owns (c : Thread nD τ) arg1 fullShare x ∗ owns (c : Thread nD τ) arg2 fullShare y ∗ owns (c : Thread nD τ) arg3 fullShare z
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare y ∗ owns (c : Thread nD τ) arg3 fullShare z
            ∗ owns (c : Thread nD τ) arg4 fullShare (k0_pay20 (last x y z).2.1) ∗ owns (c : Thread nD τ) arg5 fullShare (k0_pay21 (last x y z).2.2.1)
            ∗ owns (c : Thread nD τ) arg6 fullShare (k0_pay1 (last x y z).2.2.2) ∗ (∃ d, owns (c : Thread nD τ) arg7 fullShare d)) -∗ Q ⟨⟩))
      ⊢ wp frame (wpE (defs₀ (F := F)) Variants.none c none) E
          (cc0__fps_body i arg1 harg1 arg2 harg2 arg3 harg3 arg4 harg4 arg5 harg5 arg6 harg6 arg7 harg7) Q := by
  simp only [cc0__fps_body_eq_skeleton]; unfold cc0__fps_body_skel
  simp only [k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2
  sl_exec
  sl_step
  have hd : View.read (Elt F) arg7.view (arg7.view.writes (Elt F) arg7.view.junk
      [⟨Rect.unit (s := S8x2048) ![0, 0] S8x2048.size inb_S8x2048_S8x2048_0_0, k0_pay15 (F := F)⟩]) = k0_pay15 := View.read_writes_full ..
  have hs : st (View.readAt (Elt F) arg1.view (Rect.unit (s := S1x8x2048) ![0, 0, 0] S1x8x2048.size inb_S1x8x2048_S1x8x2048_0_0_0).toLoadRect (harg1.unread x))
      (View.readAt (Elt F) arg2.view (Rect.unit (s := S1x8x2048) ![0, 0, 0] S1x8x2048.size inb_S1x8x2048_S1x8x2048_0_0_0).toLoadRect (harg2.unread y))
      (View.readAt (Elt F) arg3.view (Rect.unit (s := S1x8x2048) ![0, 0, 0] S1x8x2048.size inb_S1x8x2048_S1x8x2048_0_0_0).toLoadRect (harg3.unread z))
      (View.read (Elt F) arg7.view (arg7.view.writes (Elt F) arg7.view.junk
      [⟨Rect.unit (s := S8x2048) ![0, 0] S8x2048.size inb_S8x2048_S8x2048_0_0, k0_pay15 (F := F)⟩])) (Scf.trips k0_t1_loop.lb k0_t1_loop.ub k0_t1_loop.st)
      = st x y z k0_pay15 k0_t1_loop.trips := by
    rw [hd, View.readAt_full, View.readAt_full, View.readAt_full, hf0, hf1, hf2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro; exact (View.read_writes_full ..).trans (congrArg (fun s => k0_pay20 s.1.2.1) hs)
  isplitl [H4]
  · iexists _; isplitr; swap; · iexact H4
    ipureintro; exact (View.read_writes_full ..).trans (congrArg (fun s => k0_pay21 s.1.2.2.1) hs)
  isplitl [H5]
  · iexists _; isplitr; swap; · iexact H5
    ipureintro; exact (View.read_writes_full arg6.view _ inb_S1x1x512_S1x1x512_0_0_0 _ _).trans (congrArg (fun s => k0_pay1 s.1.2.2.2) hs)
  iexists _, _; isplitr; swap; · iexact HS0
  ipureintro; rfl

end Cert.Proof.Fps

end
-- ==== Proof.KnnRun.lean ====
/-
  The body of the nearest-neighbour call, run once: it computes the distances of all points from eight centers, builds the
  table of candidates, and its loop of 32 trips takes the nearest candidate, mends its lane and builds the table anew when a
  lane has run dry. The contents of the scratch arrays after `k` trips are a fold of its pure step, stated here for any values
  of the floats.
-/
module

public import proofs.«01_k».proof.Defs
public import proofs.«01_k».proof.Proof.Gen.KernelIdeal.Loops
public import Idealize.ShloMosaic.Lib.VecWindow
public import Idealize.ShloMosaic.Lib.WholeRead

@[expose] public section

set_option maxRecDepth 16384

noncomputable section

namespace Cert.Proof.Knn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [RA.URA U] [Preorder Lvl]

local notation "𝕄" => MT nD τ sig Ix (Elt F) Name U Lvl

/-! ## The body as functions of its vectors -/

/-- The candidates of every row and lane: the three nearest left, with their numbers, and how many are left of them. -/
@[ext] structure Cache (F : FTy → Type) where
  m1 : FVec F S8x128 .f32
  a1 : IVec S8x128 32
  m2 : FVec F S8x128 .f32
  a2 : IVec S8x128 32
  m3 : FVec F S8x128 .f32
  a3 : IVec S8x128 32
  c : IVec S8x128 32

/-- The infinite distance, the lane numbers and the columns' numbers. -/
abbrev infty : F .f32 := Scalar.ofBits .f32 0x7F800000#32
abbrev lanes : IVec S8x128 32 := iota .tc S8x128 32 [1] iota_S8x128_d1_w32
abbrev columns : IVec S8x32 32 := iota .tc S8x32 32 [1] iota_S8x32_d1_w32

/-- The candidates behind `(m, n)`, of the distances `d`. -/
def build (d : FVec F S8x128x128 .f32) (m : FVec F S8x1 .f32) (n : IVec S8x1 32) : Cache F where
  m1 := k1_pay14 (k1_pay23 k1_pay51 infty m n d)
  a1 := k1_pay15 (k1_pay24 k1_pay51 16384#32 infty m n d)
  m2 := k1_pay16 (k1_pay26 k1_pay51 16384#32 infty m n d)
  a2 := k1_pay17 (k1_pay27 k1_pay51 16384#32 infty m n d)
  m3 := k1_pay18 (k1_pay29 k1_pay51 16384#32 infty m n d)
  a3 := k1_pay19 (k1_pay30 k1_pay51 16384#32 infty m n d)
  c := k1_pay20 (k1_pay29 k1_pay51 16384#32 infty m n d) (k1_pay31 k1_pay51 16384#32 infty m n d)

/-- The nearest candidate of every row, and its number. -/
abbrev near (s : Cache F) : FVec F S8x1 .f32 := k1_pay32 s.m1
abbrev nearNo (s : Cache F) : IVec S8x1 32 := k1_pay33 16384#32 s.m1 s.a1
/-- The lane of the nearest candidate. -/
abbrev hit (s : Cache F) : IVec S8x128 1 := k1_pay35 lanes 16384#32 s.m1 s.a1

/-- The candidates with the nearest taken out. -/
def pop (s : Cache F) : Cache F where
  m1 := k1_pay36 lanes 16384#32 s.m1 s.a1 s.m2
  a1 := k1_pay37 lanes 16384#32 s.m1 s.a1 s.a2
  m2 := k1_pay38 lanes 16384#32 s.m1 s.a1 s.m2 s.m3
  a2 := k1_pay8 (F := F) (hit s) s.a2 s.a3
  m3 := k1_pay9 (hit s) s.m3
  a3 := k1_pay10 (F := F) (hit s) s.a3
  c := k1_pay12 (F := F) (hit s) s.c

/-- Whether some lane has no candidate left. -/
def dry (s : Cache F) : BitVec 1 :=
  Scalar.cmpi .ne (Scalar.extui (Scalar.cmpi .eq (extractAt ![0, 0, 0] (k1_pay13 (F := F) (hit s) s.c) inpos_S1x1x1_p0_0_0) 0#32) : BitVec 32) 0#32

/-- One trip's cache. -/
def next (d : FVec F S8x128x128 .f32) (s : Cache F) : Cache F := if dry s = 1#1 then build d (near s) (nearNo s) else pop s

theorem next_eq {α : Type} (g : Cache F → α) (d : FVec F S8x128x128 .f32) (s : Cache F) :
    g (next d s) = if dry s = 1#1 then g (build d (near s) (nearNo s)) else g (pop s) := by
  unfold next; split <;> rfl

abbrev fullR : Rect S8x128 := Rect.unit (s := S8x128) ![0, 0] S8x128.size inb_S8x128_S8x128_0_0

theorem ite_eq {α : Type} {v v' : BitVec 1} {w w' x x' : α} (hv : v = v') (hw : w = x) (hw' : w' = x') : (if v = 1#1 then w else w') = if v' = 1#1 then x else x' := by
  rw [hv, hw, hw']

omit [FloatOps F] in
theorem stored_eq {e : EltTy} {a : Memref sig .tc .vmem S8x128 e} (ha : a.IsWhole) (f : BufTy.Contents (Elt F) a.view.ty) {p : Prop} [Decidable p]
    (w w' : S8x128.Idx → Elt F e) (L L' : List (View.Piece (Elt F) S8x128 e)) :
    (if hc : p then a.view.writes (Elt F) f (⟨fullR, w⟩ :: L) else a.view.writes (Elt F) f (⟨fullR, w'⟩ :: L')) = ha.unread (if p then w else w') := by
  split
  · exact ha.eq_unread (View.read_writes_full ..)
  · exact ha.eq_unread (View.read_writes_full ..)

/-- The carried indices and the cache before trip `k`. -/
def st (d : FVec F S8x128x128 .f32) (b : BitVec 32) (s₀ : Cache F) : ℕ → IVec S8x32 32 × Cache F
  | 0 => (k1_pay7, s₀)
  | k + 1 => if h : k < k1_t1_loop.trips then
      (k1_pay34 b columns 16384#32 0#32 1#32 ⟨k, h⟩ (st d b s₀ k).1 (st d b s₀ k).2.m1 (st d b s₀ k).2.a1, next d (st d b s₀ k).2)
    else st d b s₀ k

theorem st_succ (d : FVec F S8x128x128 .f32) (b : BitVec 32) (s₀ : Cache F) (k : Fin k1_t1_loop.trips) :
    st d b s₀ (k.val + 1) = (k1_pay34 b columns 16384#32 0#32 1#32 k (st d b s₀ k.val).1 (st d b s₀ k.val).2.m1 (st d b s₀ k.val).2.a1, next d (st d b s₀ k.val).2) := by
  rw [st]; exact dif_pos k.isLt

/-- A whole buffer before each trip: `G` at first, then the values `v`. -/
def bufOf {s : Shape} {e : EltTy} {a : Memref sig .tc .vmem s e} (ha : a.IsWhole) (v : ℕ → s.Idx → Elt F e) (G : BufTy.Contents (Elt F) a.view.ty) :
    ℕ → BufTy.Contents (Elt F) a.view.ty
  | 0 => G
  | k + 1 => ha.unread (v (k + 1))

omit [FloatOps F] in
theorem read_bufOf {s : Shape} {e : EltTy} {a : Memref sig .tc .vmem s e} (ha : a.IsWhole) (v : ℕ → s.Idx → Elt F e) (G : BufTy.Contents (Elt F) a.view.ty)
    (h : a.view.read (Elt F) G = v 0) (k : ℕ) : a.view.read (Elt F) (bufOf ha v G k) = v k := by
  cases k with
  | zero => exact h
  | succ k => exact ha.read_unread _

variable (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x1x8x1 .f32) (harg5 : arg5.IsWhole) (arg6 : Memref sig .tc .vmem S1x1x8x1 .f32) (harg6 : arg6.IsWhole) (arg7 : Memref sig .tc .vmem S1x1x8x1 .f32) (harg7 : arg7.IsWhole) (arg8 : Memref sig .tc .vmem S1x8x32 .i32) (harg8 : arg8.IsWhole) (arg9 : Memref sig .tc .vmem S8x128x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S8x128 .f32) (harg12 : arg12.IsWhole) (arg13 : Memref sig .tc .vmem S8x128 .i32) (harg13 : arg13.IsWhole) (arg14 : Memref sig .tc .vmem S8x128 .f32) (harg14 : arg14.IsWhole) (arg15 : Memref sig .tc .vmem S8x128 .i32) (harg15 : arg15.IsWhole) (arg16 : Memref sig .tc .vmem S8x128 .i32) (harg16 : arg16.IsWhole)

/-- The cache the seven buffers hold at loop entry. -/
abbrev held0 (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) : Cache F :=
  ⟨arg10.view.read (Elt F) G10, arg11.view.read (Elt F) G11, arg12.view.read (Elt F) G12, arg13.view.read (Elt F) G13, arg14.view.read (Elt F) G14, arg15.view.read (Elt F) G15, arg16.view.read (Elt F) G16⟩

abbrev inv (b : BitVec 32) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : ℕ) (acc : IVec S8x32 32) : sProp 𝕄 :=
  iprop((arg9.view.loc (c : Thread nD τ) ↦[arg9.view.set]{fullShare} X9)
    ∗ (∃ f, (arg10.view.loc (c : Thread nD τ) ↦[arg10.view.set]{fullShare} f) ∗ ⌜f = bufOf harg10 (fun k => (st (arg9.view.read (Elt F) X9) b (held0 arg10 arg11 arg12 arg13 arg14 arg15 arg16 G10 G11 G12 G13 G14 G15 G16) k).2.m1) G10 k⌝)
    ∗ (∃ f, (arg11.view.loc (c : Thread nD τ) ↦[arg11.view.set]{fullShare} f) ∗ ⌜f = bufOf harg11 (fun k => (st (arg9.view.read (Elt F) X9) b (held0 arg10 arg11 arg12 arg13 arg14 arg15 arg16 G10 G11 G12 G13 G14 G15 G16) k).2.a1) G11 k⌝)
    ∗ (∃ f, (arg12.view.loc (c : Thread nD τ) ↦[arg12.view.set]{fullShare} f) ∗ ⌜f = bufOf harg12 (fun k => (st (arg9.view.read (Elt F) X9) b (held0 arg10 arg11 arg12 arg13 arg14 arg15 arg16 G10 G11 G12 G13 G14 G15 G16) k).2.m2) G12 k⌝)
    ∗ (∃ f, (arg13.view.loc (c : Thread nD τ) ↦[arg13.view.set]{fullShare} f) ∗ ⌜f = bufOf harg13 (fun k => (st (arg9.view.read (Elt F) X9) b (held0 arg10 arg11 arg12 arg13 arg14 arg15 arg16 G10 G11 G12 G13 G14 G15 G16) k).2.a2) G13 k⌝)
    ∗ (∃ f, (arg14.view.loc (c : Thread nD τ) ↦[arg14.view.set]{fullShare} f) ∗ ⌜f = bufOf harg14 (fun k => (st (arg9.view.read (Elt F) X9) b (held0 arg10 arg11 arg12 arg13 arg14 arg15 arg16 G10 G11 G12 G13 G14 G15 G16) k).2.m3) G14 k⌝)
    ∗ (∃ f, (arg15.view.loc (c : Thread nD τ) ↦[arg15.view.set]{fullShare} f) ∗ ⌜f = bufOf harg15 (fun k => (st (arg9.view.read (Elt F) X9) b (held0 arg10 arg11 arg12 arg13 arg14 arg15 arg16 G10 G11 G12 G13 G14 G15 G16) k).2.a3) G15 k⌝)
    ∗ (∃ f, (arg16.view.loc (c : Thread nD τ) ↦[arg16.view.set]{fullShare} f) ∗ ⌜f = bufOf harg16 (fun k => (st (arg9.view.read (Elt F) X9) b (held0 arg10 arg11 arg12 arg13 arg14 arg15 arg16 G10 G11 G12 G13 G14 G15 G16) k).2.c) G16 k⌝)
    ∗ ⌜acc = (st (arg9.view.read (Elt F) X9) b (held0 arg10 arg11 arg12 arg13 arg14 arg15 arg16 G10 G11 G12 G13 G14 G15 G16) k).1⌝)

set_option maxHeartbeats 400000 in
theorem step (bd) (E : Set Name) (b : BitVec 32) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : Fin k1_t1_loop.trips) (acc : IVec S8x32 32) :
    inv (Ix := Ix) (Name := Name) (U := U) (Lvl := Lvl) c arg9 arg10 harg10 arg11 harg11 arg12 harg12 arg13 harg13 arg14 harg14 arg15 harg15 arg16 harg16 b X9 G10 G11 G12 G13 G14 G15 G16 k.val acc
      ⊢ wp frame (wpE (defs₀ (F := F)) Variants.none (c : Thread nD τ) bd) E
          (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 b k1_pay51 lanes columns infty k acc)
          (fun yld => inv (Ix := Ix) (Name := Name) (U := U) (Lvl := Lvl) c arg9 arg10 harg10 arg11 harg11 arg12 harg12 arg13 harg13 arg14 harg14 arg15 harg15 arg16 harg16 b X9 G10 G11 G12 G13 G14 G15 G16 (k.val + 1) yld) := by
  unfold k1_t1_body
  iintro ⟨H9, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, %ha⟩
  subst ha
  sl_exec
  sl_step
  have hX : View.readAt (Elt F) arg9.view (Rect.unit (s := S8x128x128) ![0, 0, 0] S8x128x128.size inb_S8x128x128_S8x128x128_0_0_0).toLoadRect X9 = arg9.view.read (Elt F) X9 :=
    View.readAt_full ..
  have hs : ∃ s' : Cache F, s' = ⟨View.readAt (Elt F) arg10.view fullR.toLoadRect f10,
      View.readAt (Elt F) arg11.view fullR.toLoadRect f11,
      View.readAt (Elt F) arg12.view fullR.toLoadRect f12,
      View.readAt (Elt F) arg13.view fullR.toLoadRect f13,
      View.readAt (Elt F) arg14.view fullR.toLoadRect f14,
      View.readAt (Elt F) arg15.view fullR.toLoadRect f15,
      View.readAt (Elt F) arg16.view fullR.toLoadRect f16⟩ := ⟨_, rfl⟩
  obtain ⟨s', e'⟩ := hs
  have hs : s' = (st (arg9.view.read (Elt F) X9) b (held0 arg10 arg11 arg12 arg13 arg14 arg15 arg16 G10 G11 G12 G13 G14 G15 G16) k.val).2 := by
    subst e'; ext1
    · exact (View.readAt_full ..).trans ((congrArg (arg10.view.read (Elt F)) h10).trans (read_bufOf harg10 _ G10 rfl k.val))
    · exact (View.readAt_full ..).trans ((congrArg (arg11.view.read (Elt F)) h11).trans (read_bufOf harg11 _ G11 rfl k.val))
    · exact (View.readAt_full ..).trans ((congrArg (arg12.view.read (Elt F)) h12).trans (read_bufOf harg12 _ G12 rfl k.val))
    · exact (View.readAt_full ..).trans ((congrArg (arg13.view.read (Elt F)) h13).trans (read_bufOf harg13 _ G13 rfl k.val))
    · exact (View.readAt_full ..).trans ((congrArg (arg14.view.read (Elt F)) h14).trans (read_bufOf harg14 _ G14 rfl k.val))
    · exact (View.readAt_full ..).trans ((congrArg (arg15.view.read (Elt F)) h15).trans (read_bufOf harg15 _ G15 rfl k.val))
    · exact (View.readAt_full ..).trans ((congrArg (arg16.view.read (Elt F)) h16).trans (read_bufOf harg16 _ G16 rfl k.val))
  have hv : step.sl.v217 c arg10 arg11 arg16 f10 f11 f16 = dry s' := by
    rw [e']; unfold step.sl.v217 dry; rfl
  isplitl [H9]; · iexact H9
  isplitl [H10]
  · iexists _; isplitl [H10]; · iexact H10
    ipureintro
    refine (stored_eq harg10 f10 _ _ _ _).trans ?_
    rw [bufOf, st_succ, ← hs, ← hX, next_eq (·.m1)]
    exact congrArg harg10.unread (ite_eq hv (by rw [e', build]; unfold step.sl.r_6 step.sl.r step.sl.r_1; with_reducible rfl) (by rw [e']; rfl))
  isplitl [H11]
  · iexists _; isplitl [H11]; · iexact H11
    ipureintro
    refine (stored_eq harg11 f11 _ _ _ _).trans ?_
    rw [bufOf, st_succ, ← hs, ← hX, next_eq (·.a1)]
    exact congrArg harg11.unread (ite_eq hv (by rw [e', build]; unfold step.sl.r_7 step.sl.r step.sl.r_1; with_reducible rfl) (by rw [e']; rfl))
  isplitl [H12]
  · iexists _; isplitl [H12]; · iexact H12
    ipureintro
    refine (stored_eq harg12 f12 _ _ _ _).trans ?_
    rw [bufOf, st_succ, ← hs, ← hX, next_eq (·.m2)]
    exact congrArg harg12.unread (ite_eq hv (by rw [e', build]; unfold step.sl.r_8 step.sl.r step.sl.r_1; with_reducible rfl) (by rw [e']; rfl))
  isplitl [H13]
  · iexists _; isplitl [H13]; · iexact H13
    ipureintro
    refine (stored_eq harg13 f13 _ _ _ _).trans ?_
    rw [bufOf, st_succ, ← hs, ← hX, next_eq (·.a2)]
    exact congrArg harg13.unread (ite_eq hv (by rw [e', build]; unfold step.sl.r_9 step.sl.r step.sl.r_1; with_reducible rfl) (by rw [e']; rfl))
  isplitl [H14]
  · iexists _; isplitl [H14]; · iexact H14
    ipureintro
    refine (stored_eq harg14 f14 _ _ _ _).trans ?_
    rw [bufOf, st_succ, ← hs, ← hX, next_eq (·.m3)]
    exact congrArg harg14.unread (ite_eq hv (by rw [e', build]; unfold step.sl.r_10 step.sl.r step.sl.r_1; with_reducible rfl) (by rw [e']; rfl))
  isplitl [H15]
  · iexists _; isplitl [H15]; · iexact H15
    ipureintro
    refine (stored_eq harg15 f15 _ _ _ _).trans ?_
    rw [bufOf, st_succ, ← hs, ← hX, next_eq (·.a3)]
    exact congrArg harg15.unread (ite_eq hv (by rw [e', build]; unfold step.sl.r_11 step.sl.r step.sl.r_1; with_reducible rfl) (by rw [e']; rfl))
  isplitl [H16]
  · iexists _; isplitl [H16]; · iexact H16
    ipureintro
    refine (stored_eq harg16 f16 _ _ _ _).trans ?_
    rw [bufOf, st_succ, ← hs, ← hX, next_eq (·.c)]
    exact congrArg harg16.unread (ite_eq hv (by rw [e', build]; rfl) (by rw [e', pop]; rfl))
  ipureintro
  rw [st_succ, ← hs, e']
  rfl

set_option maxHeartbeats 1000000 in
set_option warn.classDefReducibility false in
@[sl_loop] def loopInv (bd) (E : Set Name) (b : BitVec 32) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    LoopInvTy_k1_t1 (F := F) Ix Name U Lvl Variants.none c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 b k1_pay51 lanes columns infty k1_pay7 where
  inv := inv c arg9 arg10 harg10 arg11 harg11 arg12 harg12 arg13 harg13 arg14 harg14 arg15 harg15 arg16 harg16 b X9 G10 G11 G12 G13 G14 G15 G16
  step k acc := step c i arg2 harg2 arg3 harg3 arg4 harg4 arg5 harg5 arg6 harg6 arg7 harg7 arg8 harg8 arg9 harg9 arg10 harg10 arg11 harg11 arg12 harg12 arg13 harg13 arg14 harg14 arg15 harg15 arg16 harg16 bd E b X9 G10 G11 G12 G13 G14 G15 G16 k acc

/-- The distances of the block's eight centers to all points. -/
def dist (x y z : Vec F S1x128x128 .f32) (cx cy cz : Vec F S1x1x8x1 .f32) : FVec F S8x128x128 .f32 :=
  k1_pay50 (k1_pay41 z) (k1_pay44 cz) (k1_pay45 x y z) (k1_pay46 cx cy cz) (k1_pay47 x cx) (k1_pay48 y) (k1_pay49 cy)

/-- The candidates at first: those behind nothing. -/
def first (d : FVec F S8x128x128 .f32) : Cache F :=
  build d (broadcast S8x1 (Scalar.ofBits .f32 0xFF800000#32 : F .f32)) (broadcast S8x1 4294967295#32)

/-- The printed first build is `build` behind nothing. -/
theorem first_eq (d : FVec F S8x128x128 .f32) :
    (⟨k1_pay62 (k1_pay53 d), k1_pay1 (k1_pay54 k1_pay51 (k1_pay52 d) (k1_pay53 d)), k1_pay2 (k1_pay56 k1_pay51 (k1_pay52 d) (k1_pay53 d)),
      k1_pay3 (k1_pay57 k1_pay51 (k1_pay52 d) (k1_pay53 d)), k1_pay4 (k1_pay59 k1_pay51 (k1_pay52 d) (k1_pay53 d)),
      k1_pay5 (k1_pay60 k1_pay51 (k1_pay52 d) (k1_pay53 d)), k1_pay6 (k1_pay61 k1_pay51 (k1_pay52 d) (k1_pay53 d))⟩ : Cache F) = first d := by
  unfold first build
  simp only [k1_pay62, k1_pay1, k1_pay2, k1_pay3, k1_pay4, k1_pay5, k1_pay6, k1_pay61, k1_pay60, k1_pay59, k1_pay58, k1_pay57, k1_pay56, k1_pay55, k1_pay54, k1_pay53, k1_pay52,
    k1_pay14, k1_pay15, k1_pay16, k1_pay17, k1_pay18, k1_pay19, k1_pay20, k1_pay31, k1_pay30, k1_pay29, k1_pay28, k1_pay27, k1_pay26, k1_pay25, k1_pay24, k1_pay23, k1_pay22]

/-- The block's 32 nearest points of every center. -/
def nearest (d : FVec F S8x128x128 .f32) (b : BitVec 32) : IVec S8x32 32 := (st d b (first d) k1_t1_loop.trips).1

set_option maxHeartbeats 1000000 in
theorem body (E : Set Name) (x y z : Vec F S1x128x128 .f32) (cx cy cz : Vec F S1x1x8x1 .f32) (Q : PUnit → sProp 𝕄) :
    iprop(owns (c : Thread nD τ) arg2 fullShare x ∗ owns (c : Thread nD τ) arg3 fullShare y ∗ owns (c : Thread nD τ) arg4 fullShare z ∗ owns (c : Thread nD τ) arg5 fullShare cx ∗ owns (c : Thread nD τ) arg6 fullShare cy ∗ owns (c : Thread nD τ) arg7 fullShare cz
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x ∗ owns (c : Thread nD τ) arg3 fullShare y ∗ owns (c : Thread nD τ) arg4 fullShare z ∗ owns (c : Thread nD τ) arg5 fullShare cx ∗ owns (c : Thread nD τ) arg6 fullShare cy ∗ owns (c : Thread nD τ) arg7 fullShare cz
            ∗ owns (c : Thread nD τ) arg8 fullShare (k1_pay21 (nearest (dist x y z cx cy cz) (BitVec.ofNat 32 (i 0).val)))
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Q ⟨⟩))
      ⊢ wp frame (wpE (defs₀ (F := F)) Variants.none c none) E (cc1__knn_body i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  simp only [cc1__knn_body_eq_skeleton]; unfold cc1__knn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  have hd : View.read (Elt F) arg9.view (arg9.view.writes (Elt F) arg9.view.junk (body.sl.H9_1 c arg2 harg2 arg3 harg3 arg4 harg4 arg5 harg5 arg6 harg6 arg7 harg7 x y z cx cy cz)) = dist x y z cx cy cz := by
    unfold body.sl.H9_1
    have hl2 : View.readAt (Elt F) arg2.view (Rect.unit (s := S1x128x128) ![0, 0, 0] ![1, 128, 128] inb_S1x128x128_S1x128x128_0_0_0).toLoadRect (harg2.unread x) = x :=
      (View.readAt_full arg2.view _ inb_S1x128x128_S1x128x128_0_0_0).trans hf2
    have hl3 : View.readAt (Elt F) arg3.view (Rect.unit (s := S1x128x128) ![0, 0, 0] ![1, 128, 128] inb_S1x128x128_S1x128x128_0_0_0).toLoadRect (harg3.unread y) = y :=
      (View.readAt_full arg3.view _ inb_S1x128x128_S1x128x128_0_0_0).trans hf3
    have hl4 : View.readAt (Elt F) arg4.view (Rect.unit (s := S1x128x128) ![0, 0, 0] ![1, 128, 128] inb_S1x128x128_S1x128x128_0_0_0).toLoadRect (harg4.unread z) = z :=
      (View.readAt_full arg4.view _ inb_S1x128x128_S1x128x128_0_0_0).trans hf4
    have hl5 : View.readAt (Elt F) arg5.view (Rect.unit (s := S1x1x8x1) ![0, 0, 0, 0] ![1, 1, 8, 1] inb_S1x1x8x1_S1x1x8x1_0_0_0_0).toLoadRect (harg5.unread cx) = cx :=
      (View.readAt_full arg5.view _ inb_S1x1x8x1_S1x1x8x1_0_0_0_0).trans hf5
    have hl6 : View.readAt (Elt F) arg6.view (Rect.unit (s := S1x1x8x1) ![0, 0, 0, 0] ![1, 1, 8, 1] inb_S1x1x8x1_S1x1x8x1_0_0_0_0).toLoadRect (harg6.unread cy) = cy :=
      (View.readAt_full arg6.view _ inb_S1x1x8x1_S1x1x8x1_0_0_0_0).trans hf6
    have hl7 : View.readAt (Elt F) arg7.view (Rect.unit (s := S1x1x8x1) ![0, 0, 0, 0] ![1, 1, 8, 1] inb_S1x1x8x1_S1x1x8x1_0_0_0_0).toLoadRect (harg7.unread cz) = cz :=
      (View.readAt_full arg7.view _ inb_S1x1x8x1_S1x1x8x1_0_0_0_0).trans hf7
    rw [View.read_writes_full]
    unfold dist body.sl.r body.sl.r_1 body.sl.r_2 body.sl.r_3 body.sl.r_4 body.sl.r_5 body.sl.r_6
    rw [hl2, hl3, hl4, hl5, hl6, hl7]
  have hv : body.sl.v69 c arg2 harg2 arg3 harg3 arg4 harg4 arg5 harg5 arg6 harg6 arg7 harg7 arg9 x y z cx cy cz = dist x y z cx cy cz := by
    rw [← hd]; unfold body.sl.v69
    exact View.readAt_full ..
  have hc : held0 arg10 arg11 arg12 arg13 arg14 arg15 arg16
      (arg10.view.writes (Elt F) arg10.view.junk [⟨fullR, k1_pay62 (body.sl.r_8 c arg2 harg2 arg3 harg3 arg4 harg4 arg5 harg5 arg6 harg6 arg7 harg7 arg9 x y z cx cy cz)⟩])
      (arg11.view.writes (Elt F) arg11.view.junk [⟨fullR, k1_pay1 (body.sl.r_9 c arg2 harg2 arg3 harg3 arg4 harg4 arg5 harg5 arg6 harg6 arg7 harg7 arg9 x y z cx cy cz)⟩])
      (arg12.view.writes (Elt F) arg12.view.junk [⟨fullR, k1_pay2 (body.sl.r_10 c arg2 harg2 arg3 harg3 arg4 harg4 arg5 harg5 arg6 harg6 arg7 harg7 arg9 x y z cx cy cz)⟩])
      (arg13.view.writes (Elt F) arg13.view.junk [⟨fullR, k1_pay3 (body.sl.r_11 c arg2 harg2 arg3 harg3 arg4 harg4 arg5 harg5 arg6 harg6 arg7 harg7 arg9 x y z cx cy cz)⟩])
      (arg14.view.writes (Elt F) arg14.view.junk [⟨fullR, k1_pay4 (body.sl.r_12 c arg2 harg2 arg3 harg3 arg4 harg4 arg5 harg5 arg6 harg6 arg7 harg7 arg9 x y z cx cy cz)⟩])
      (arg15.view.writes (Elt F) arg15.view.junk [⟨fullR, k1_pay5 (body.sl.r_13 c arg2 harg2 arg3 harg3 arg4 harg4 arg5 harg5 arg6 harg6 arg7 harg7 arg9 x y z cx cy cz)⟩])
      (arg16.view.writes (Elt F) arg16.view.junk [⟨fullR, k1_pay6 (body.sl.r_14 c arg2 harg2 arg3 harg3 arg4 harg4 arg5 harg5 arg6 harg6 arg7 harg7 arg9 x y z cx cy cz)⟩])
      = first (dist x y z cx cy cz) := by
    rw [← first_eq, ← hv]
    ext1
    · refine (View.read_writes_full ..).trans ?_
      unfold body.sl.r_8; with_reducible rfl
    · refine (View.read_writes_full ..).trans ?_
      unfold body.sl.r_9 body.sl.r_7 body.sl.r_8; with_reducible rfl
    · refine (View.read_writes_full ..).trans ?_
      unfold body.sl.r_10 body.sl.r_7 body.sl.r_8; with_reducible rfl
    · refine (View.read_writes_full ..).trans ?_
      unfold body.sl.r_11 body.sl.r_7 body.sl.r_8; with_reducible rfl
    · refine (View.read_writes_full ..).trans ?_
      unfold body.sl.r_12 body.sl.r_7 body.sl.r_8; with_reducible rfl
    · refine (View.read_writes_full ..).trans ?_
      unfold body.sl.r_13 body.sl.r_7 body.sl.r_8; with_reducible rfl
    · refine (View.read_writes_full ..).trans ?_
      unfold body.sl.r_14 body.sl.r_7 body.sl.r_8; with_reducible rfl
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    refine (View.read_writes_full arg8.view _ inb_S1x8x32_S1x8x32_0_0_0 _ _).trans (congrArg k1_pay21 ?_)
    unfold nearest
    rw [← hc, ← hd]
    rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.Proof.Knn

end
-- ==== Proof.WholeRegions.lean ====
/-
  The two TensorCore calls of the program, each entered from any contents of the arrays it names and with whatever its
  core still owes: at every point of its grid the body's run (`Fps.body`, `Knn.body`) fits the pipeline, so the call leaves
  its input arrays as they were and its outputs block by block at what the body computes of the point's blocks.
-/
module

public import proofs.«01_k».proof.Proof.WholeTiles
public import proofs.«01_k».proof.Proof.FpsRun
public import proofs.«01_k».proof.Proof.KnnRun
public import proofs.«01_k».proof.Proof.Gen.KernelIdeal.Points
public import Idealize.ShloMosaic.Lib.Pipeline.RegionArrays
public import Idealize.ShloMosaic.Lib.Pipeline.FrameBody

@[expose] public section

set_option maxRecDepth 4096

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation arrRef)

variable {F : FTy → Type} [FloatOps F]

local notation "𝕄" => MT nD τ sig (HIx 1) (Elt F) ℕ UU ℕ

/-- The pairs a core's waits may have recorded before the SparseCore call: those at level 0. -/
def low (c : Dev nD) : Set (SemLoc sig × HIx 1) := {p | (K (F := F)).lev ((c : Thread nD τ), p.1) p.2 ≤ 0}

/-! ## Call 0 -/

section Region0

variable (V : Valuation τ sig (Elt F)) (c : Dev nD)

/-- Window `w`'s block at point `t`, of its array at the contents `V`. -/
def blk0 (w : Fin cfg0.W) (t : Fin cfg0.N) : ((cfg0.win w).xblock (cfg0.grid.coords t)).Idx → Elt F (cfg0.win w).elt :=
  ((cfg0.win w).blk t).view.read (Elt F) (V (Proc.devRef .tc (arrRef spec0 w)))

/-- What the body at point `t` ends its loop with. -/
def drawn (t : Fin cfg0.N) : Fps.Carry (F := F) := Fps.last (blk0 V 0 t) (blk0 V 1 t) (blk0 V 2 t)

/-- The proof data of call 0 at the contents `V`. -/
def dat0 : Dat τ (Elt F) (HIx 1) ℕ UU ℕ cfg0 c where
  A w := V (Proc.devRef .tc (arrRef spec0 w))
  after w t := match w with
    | ⟨0, _⟩ => blk0 V 0 t
    | ⟨1, _⟩ => blk0 V 1 t
    | ⟨2, _⟩ => blk0 V 2 t
    | ⟨3, _⟩ => k0_pay20 (drawn V t).2.1
    | ⟨4, _⟩ => k0_pay21 (drawn V t).2.2.1
    | ⟨5, _⟩ => k0_pay1 (drawn V t).2.2.2
  Φ _ := Pipeline.scopedRest spec0 c
  q _ := fullShare
  owed _ := (K (F := F)).Otc c 0
  recorded _ := low (F := F) c

theorem A0 (w : Fin cfg0.W) : (dat0 V c).A w = V (Proc.devRef .tc (arrRef spec0 w)) := by dsimp only [dat0]
theorem after0_0 (t : Fin cfg0.N) : (dat0 V c).after 0 t = blk0 V 0 t := by dsimp only [dat0]
theorem after0_1 (t : Fin cfg0.N) : (dat0 V c).after 1 t = blk0 V 1 t := by dsimp only [dat0]
theorem after0_2 (t : Fin cfg0.N) : (dat0 V c).after 2 t = blk0 V 2 t := by dsimp only [dat0]
theorem after0_3 (t : Fin cfg0.N) : (dat0 V c).after 3 t = k0_pay20 (drawn V t).2.1 := by dsimp only [dat0]
theorem after0_4 (t : Fin cfg0.N) : (dat0 V c).after 4 t = k0_pay21 (drawn V t).2.2.1 := by dsimp only [dat0]
theorem after0_5 (t : Fin cfg0.N) : (dat0 V c).after 5 t = k0_pay1 (drawn V t).2.2.2 := by dsimp only [dat0]
theorem before0_0 (t : Fin cfg0.N) (d) : (dat0 V c).before 0 t d = blk0 V 0 t :=
  ((dat0 V c).before_in_eq_fetched 0 rfl (fun _ => rfl) (fun _ _ _ => rfl) (fun t => by rw [after0_0]; unfold Dat.blockOf blk0; rw [A0]; try rfl) t d).trans
    (by unfold Dat.fetched Dat.blockOf blk0; rw [A0]; try rfl)
theorem before0_1 (t : Fin cfg0.N) (d) : (dat0 V c).before 1 t d = blk0 V 1 t :=
  ((dat0 V c).before_in_eq_fetched 1 rfl (fun _ => rfl) (fun _ _ _ => rfl) (fun t => by rw [after0_1]; unfold Dat.blockOf blk0; rw [A0]; try rfl) t d).trans
    (by unfold Dat.fetched Dat.blockOf blk0; rw [A0]; try rfl)
theorem before0_2 (t : Fin cfg0.N) (d) : (dat0 V c).before 2 t d = blk0 V 2 t :=
  ((dat0 V c).before_in_eq_fetched 2 rfl (fun _ => rfl) (fun _ _ _ => rfl) (fun t => by rw [after0_2]; unfold Dat.blockOf blk0; rw [A0]; try rfl) t d).trans
    (by unfold Dat.fetched Dat.blockOf blk0; rw [A0]; try rfl)

theorem body_at0 (t : Fin cfg0.N) :
    iprop((dat0 V c).Φ t.castSucc ∗ (dat0 V c).owesAt none t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d))
        ∗ (∃ d, owns (c : Thread nD τ) (win0_2.stage (cfg0.slots t 2)) fullShare ((dat0 V c).before 2 t d))
        ∗ (∃ d, owns (c : Thread nD τ) (win0_3.stage (cfg0.slots t 3)) fullShare ((dat0 V c).before 3 t d))
        ∗ (∃ d, owns (c : Thread nD τ) (win0_4.stage (cfg0.slots t 4)) fullShare ((dat0 V c).before 4 t d))
        ∗ (∃ d, owns (c : Thread nD τ) (win0_5.stage (cfg0.slots t 5)) fullShare ((dat0 V c).before 5 t d)))
      ⊢ wp frame (wpE (defs₀ (F := F)) Variants.none c none) Set.univ (bodyAt0 t) fun _ =>
        iprop((dat0 V c).Φ t.succ ∗ (dat0 V c).owesAt none t.succ
          ∗ owns (c : Thread nD τ) (win0_0.stage (cfg0.slots t 0)) fullShare ((dat0 V c).after 0 t)
          ∗ owns (c : Thread nD τ) (win0_1.stage (cfg0.slots t 1)) fullShare ((dat0 V c).after 1 t)
          ∗ owns (c : Thread nD τ) (win0_2.stage (cfg0.slots t 2)) fullShare ((dat0 V c).after 2 t)
          ∗ owns (c : Thread nD τ) (win0_3.stage (cfg0.slots t 3)) fullShare ((dat0 V c).after 3 t)
          ∗ owns (c : Thread nD τ) (win0_4.stage (cfg0.slots t 4)) fullShare ((dat0 V c).after 4 t)
          ∗ owns (c : Thread nD τ) (win0_5.stage (cfg0.slots t 5)) fullShare ((dat0 V c).after 5 t)) := by
  unfold bodyAt0
  simp only [before0_0, before0_1, before0_2]
  rw [show (dat0 V c).Φ t.succ = (dat0 V c).Φ t.castSucc from rfl,
    show (dat0 V c).owesAt none t.succ = (dat0 V c).owesAt none t.castSucc from rfl, after0_0, after0_1, after0_2, after0_3, after0_4, after0_5,
    show (dat0 V c).Φ t.castSucc = Pipeline.scopedRest spec0 c from rfl, scopedRest0_eq]
  iintro ⟨⟨HS0, HE0, HE1, HE2, HE3, HE4, HE5, HE6, HE7, HE8, HE9, HE10, HE11, HE12, HE13, HE14, HE15, HE16, HE17, HE18, HE19, HE20, HE21⟩, HO, ⟨%d0, H0⟩, ⟨%d1, H1⟩, ⟨%d2, H2⟩, ⟨%d3, H3⟩, ⟨%d4, H4⟩, ⟨%d5, H5⟩⟩
  iapply (Fps.body c (grid0.coords t) _ _ _ _ _ _ _ _ _ _ _ _ _ _ Set.univ (blk0 V 0 t) (blk0 V 1 t) (blk0 V 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · simp only [owns_whole]; iexact HS0
  iintro ⟨H0, H1, H2, H3, H4, H5, HS0⟩
  isplitr [HO H0 H1 H2 H3 H4 H5]
  · isplitl [HS0]; · simp only [owns_whole]; iexact HS0
    isplitl [HE0]; · iexact HE0
    isplitl [HE1]; · iexact HE1
    isplitl [HE2]; · iexact HE2
    isplitl [HE3]; · iexact HE3
    isplitl [HE4]; · iexact HE4
    isplitl [HE5]; · iexact HE5
    isplitl [HE6]; · iexact HE6
    isplitl [HE7]; · iexact HE7
    isplitl [HE8]; · iexact HE8
    isplitl [HE9]; · iexact HE9
    isplitl [HE10]; · iexact HE10
    isplitl [HE11]; · iexact HE11
    isplitl [HE12]; · iexact HE12
    isplitl [HE13]; · iexact HE13
    isplitl [HE14]; · iexact HE14
    isplitl [HE15]; · iexact HE15
    isplitl [HE16]; · iexact HE16
    isplitl [HE17]; · iexact HE17
    isplitl [HE18]; · iexact HE18
    isplitl [HE19]; · iexact HE19
    isplitl [HE20]; · iexact HE20
    iexact HE21
  isplitl [HO]; · iexact HO
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rfl

theorem obligation0 : BodyObligation (dat0 V c) (defs₀ (F := F)) Variants.none none Set.univ := fun t => by
  rw [bigSep_W0, bigSep_W0, row0]
  exact triple_restated (body_at0 V c t) rfl .rfl fun _ => .rfl

end Region0

/-! ## Call 1 -/

section Region1

variable (V : Valuation τ sig (Elt F)) (c : Dev nD)

/-- Window `w`'s block at point `t`, of its array at the contents `V`. -/
def blk1 (w : Fin cfg1.W) (t : Fin cfg1.N) : ((cfg1.win w).xblock (cfg1.grid.coords t)).Idx → Elt F (cfg1.win w).elt :=
  ((cfg1.win w).blk t).view.read (Elt F) (V (Proc.devRef .tc (arrRef spec1 w)))

/-- The block the body at point `t` writes. -/
def listed (t : Fin cfg1.N) : Vec F S1x8x32 .i32 :=
  k1_pay21 (Knn.nearest (Knn.dist (blk1 V 0 t) (blk1 V 1 t) (blk1 V 2 t) (blk1 V 3 t) (blk1 V 4 t) (blk1 V 5 t)) (BitVec.ofNat 32 (grid1.coords t 0).val))

/-- The proof data of call 1 at the contents `V`. -/
def dat1 : Dat τ (Elt F) (HIx 1) ℕ UU ℕ cfg1 c where
  A w := V (Proc.devRef .tc (arrRef spec1 w))
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => blk1 V 5 t
    | ⟨6, _⟩ => listed V t
  Φ _ := Pipeline.scopedRest spec1 c
  q _ := fullShare
  owed _ := (K (F := F)).Otc c 0
  recorded _ := low (F := F) c

theorem A1 (w : Fin cfg1.W) : (dat1 V c).A w = V (Proc.devRef .tc (arrRef spec1 w)) := by dsimp only [dat1]
theorem after1_0 (t : Fin cfg1.N) : (dat1 V c).after 0 t = blk1 V 0 t := by dsimp only [dat1]
theorem after1_1 (t : Fin cfg1.N) : (dat1 V c).after 1 t = blk1 V 1 t := by dsimp only [dat1]
theorem after1_2 (t : Fin cfg1.N) : (dat1 V c).after 2 t = blk1 V 2 t := by dsimp only [dat1]
theorem after1_3 (t : Fin cfg1.N) : (dat1 V c).after 3 t = blk1 V 3 t := by dsimp only [dat1]
theorem after1_4 (t : Fin cfg1.N) : (dat1 V c).after 4 t = blk1 V 4 t := by dsimp only [dat1]
theorem after1_5 (t : Fin cfg1.N) : (dat1 V c).after 5 t = blk1 V 5 t := by dsimp only [dat1]
theorem after1_6 (t : Fin cfg1.N) : (dat1 V c).after 6 t = listed V t := by dsimp only [dat1]
theorem before1_0 (t : Fin cfg1.N) (d) : (dat1 V c).before 0 t d = blk1 V 0 t :=
  ((dat1 V c).before_in_eq_fetched 0 rfl (fun _ => rfl) (fun _ _ _ => rfl) (fun t => by rw [after1_0]; unfold Dat.blockOf blk1; rw [A1]; try rfl) t d).trans
    (by unfold Dat.fetched Dat.blockOf blk1; rw [A1]; try rfl)
theorem before1_1 (t : Fin cfg1.N) (d) : (dat1 V c).before 1 t d = blk1 V 1 t :=
  ((dat1 V c).before_in_eq_fetched 1 rfl (fun _ => rfl) (fun _ _ _ => rfl) (fun t => by rw [after1_1]; unfold Dat.blockOf blk1; rw [A1]; try rfl) t d).trans
    (by unfold Dat.fetched Dat.blockOf blk1; rw [A1]; try rfl)
theorem before1_2 (t : Fin cfg1.N) (d) : (dat1 V c).before 2 t d = blk1 V 2 t :=
  ((dat1 V c).before_in_eq_fetched 2 rfl (fun _ => rfl) (fun _ _ _ => rfl) (fun t => by rw [after1_2]; unfold Dat.blockOf blk1; rw [A1]; try rfl) t d).trans
    (by unfold Dat.fetched Dat.blockOf blk1; rw [A1]; try rfl)
theorem before1_3 (t : Fin cfg1.N) (d) : (dat1 V c).before 3 t d = blk1 V 3 t :=
  ((dat1 V c).before_in_eq_fetched 3 rfl (fun _ => rfl) (fun _ _ _ => rfl) (fun t => by rw [after1_3]; unfold Dat.blockOf blk1; rw [A1]; try rfl) t d).trans
    (by unfold Dat.fetched Dat.blockOf blk1; rw [A1]; try rfl)
theorem before1_4 (t : Fin cfg1.N) (d) : (dat1 V c).before 4 t d = blk1 V 4 t :=
  ((dat1 V c).before_in_eq_fetched 4 rfl (fun _ => rfl) (fun _ _ _ => rfl) (fun t => by rw [after1_4]; unfold Dat.blockOf blk1; rw [A1]; try rfl) t d).trans
    (by unfold Dat.fetched Dat.blockOf blk1; rw [A1]; try rfl)
theorem before1_5 (t : Fin cfg1.N) (d) : (dat1 V c).before 5 t d = blk1 V 5 t :=
  ((dat1 V c).before_in_eq_fetched 5 rfl (fun _ => rfl) (fun _ _ _ => rfl) (fun t => by rw [after1_5]; unfold Dat.blockOf blk1; rw [A1]; try rfl) t d).trans
    (by unfold Dat.fetched Dat.blockOf blk1; rw [A1]; try rfl)

theorem body_at1 (t : Fin cfg1.N) :
    iprop((dat1 V c).Φ t.castSucc ∗ (dat1 V c).owesAt none t.castSucc
        ∗ (∃ d, owns (c : Thread nD τ) (win1_0.stage (cfg1.slots t 0)) fullShare ((dat1 V c).before 0 t d))
        ∗ (∃ d, owns (c : Thread nD τ) (win1_1.stage (cfg1.slots t 1)) fullShare ((dat1 V c).before 1 t d))
        ∗ (∃ d, owns (c : Thread nD τ) (win1_2.stage (cfg1.slots t 2)) fullShare ((dat1 V c).before 2 t d))
        ∗ (∃ d, owns (c : Thread nD τ) (win1_3.stage (cfg1.slots t 3)) fullShare ((dat1 V c).before 3 t d))
        ∗ (∃ d, owns (c : Thread nD τ) (win1_4.stage (cfg1.slots t 4)) fullShare ((dat1 V c).before 4 t d))
        ∗ (∃ d, owns (c : Thread nD τ) (win1_5.stage (cfg1.slots t 5)) fullShare ((dat1 V c).before 5 t d))
        ∗ (∃ d, owns (c : Thread nD τ) (win1_6.stage (cfg1.slots t 6)) fullShare ((dat1 V c).before 6 t d)))
      ⊢ wp frame (wpE (defs₀ (F := F)) Variants.none c none) Set.univ (bodyAt1 t) fun _ =>
        iprop((dat1 V c).Φ t.succ ∗ (dat1 V c).owesAt none t.succ
          ∗ owns (c : Thread nD τ) (win1_0.stage (cfg1.slots t 0)) fullShare ((dat1 V c).after 0 t)
          ∗ owns (c : Thread nD τ) (win1_1.stage (cfg1.slots t 1)) fullShare ((dat1 V c).after 1 t)
          ∗ owns (c : Thread nD τ) (win1_2.stage (cfg1.slots t 2)) fullShare ((dat1 V c).after 2 t)
          ∗ owns (c : Thread nD τ) (win1_3.stage (cfg1.slots t 3)) fullShare ((dat1 V c).after 3 t)
          ∗ owns (c : Thread nD τ) (win1_4.stage (cfg1.slots t 4)) fullShare ((dat1 V c).after 4 t)
          ∗ owns (c : Thread nD τ) (win1_5.stage (cfg1.slots t 5)) fullShare ((dat1 V c).after 5 t)
          ∗ owns (c : Thread nD τ) (win1_6.stage (cfg1.slots t 6)) fullShare ((dat1 V c).after 6 t)) := by
  unfold bodyAt1
  simp only [before1_0, before1_1, before1_2, before1_3, before1_4, before1_5]
  rw [show (dat1 V c).Φ t.succ = (dat1 V c).Φ t.castSucc from rfl,
    show (dat1 V c).owesAt none t.succ = (dat1 V c).owesAt none t.castSucc from rfl, after1_0, after1_1, after1_2, after1_3, after1_4, after1_5, after1_6,
    show (dat1 V c).Φ t.castSucc = Pipeline.scopedRest spec1 c from rfl, scopedRest1_eq]
  iintro ⟨⟨HB0, HB1, HB2, HB3, HB4, HB5, HB6, HB7, HB8, HB9, HB10, HB11, HB12, HS0, HS1, HS2, HS3, HS4, HS5, HS6, HS7⟩, HO, ⟨%d0, H0⟩, ⟨%d1, H1⟩, ⟨%d2, H2⟩, ⟨%d3, H3⟩, ⟨%d4, H4⟩, ⟨%d5, H5⟩, ⟨%d6, H6⟩⟩
  iapply (Knn.body c (grid1.coords t) _ _ _ _ _ _ _ _ _ _ _ _ _ _ _ _ _ _ _ _ _ _ _ _ _ _ _ _ _ _ Set.univ (blk1 V 0 t) (blk1 V 1 t) (blk1 V 2 t) (blk1 V 3 t) (blk1 V 4 t) (blk1 V 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · simp only [owns_whole]; iexact HS0
  isplitl [HS1]; · simp only [owns_whole]; iexact HS1
  isplitl [HS2]; · simp only [owns_whole]; iexact HS2
  isplitl [HS3]; · simp only [owns_whole]; iexact HS3
  isplitl [HS4]; · simp only [owns_whole]; iexact HS4
  isplitl [HS5]; · simp only [owns_whole]; iexact HS5
  isplitl [HS6]; · simp only [owns_whole]; iexact HS6
  isplitl [HS7]; · simp only [owns_whole]; iexact HS7
  iintro ⟨H0, H1, H2, H3, H4, H5, H6, HS0, HS1, HS2, HS3, HS4, HS5, HS6, HS7⟩
  isplitr [HO H0 H1 H2 H3 H4 H5 H6]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HS0]; · simp only [owns_whole]; iexact HS0
    isplitl [HS1]; · simp only [owns_whole]; iexact HS1
    isplitl [HS2]; · simp only [owns_whole]; iexact HS2
    isplitl [HS3]; · simp only [owns_whole]; iexact HS3
    isplitl [HS4]; · simp only [owns_whole]; iexact HS4
    isplitl [HS5]; · simp only [owns_whole]; iexact HS5
    isplitl [HS6]; · simp only [owns_whole]; iexact HS6
    simp only [owns_whole]; iexact HS7
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem row1 (t : Fin cfg1.N) : defs₀ (F := F) .tc cfg1.body (cfg1.bodyArgs t (cfg1.slots t)) = bodyAt1 t := by
  unfold defs₀; rfl

theorem obligation1 : BodyObligation (dat1 V c) (defs₀ (F := F)) Variants.none none Set.univ := fun t => by
  rw [bigSep_W1, bigSep_W1, row1]
  exact triple_restated (body_at1 V c t) rfl .rfl fun _ => .rfl

end Region1

end Cert.Proof.Whole

end
-- ==== Proof.WholeCalls.lean ====
/-
  The program's run up to its SparseCore call, call by call: what a TensorCore call takes and leaves of the program's
  arrays, while its core still owes the start of the SparseCore call.
-/
module

public import proofs.«01_k».proof.Proof.WholeRegions

@[expose] public section

set_option maxRecDepth 4096

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat arrRef arrRefs ucRefs)

variable {F : FTy → Type} [FloatOps F]

local notation "𝕄" => MT nD τ sig (HIx 1) (Elt F) ℕ UU ℕ

variable (V W : Dev nD → Valuation τ sig (Elt F))

/-- Both calls' proof data, the first entered at the contents `V`, the second at `W`. -/
def pdats : (p : Fin 2) → (c : Dev nD) → Dat τ (Elt F) (HIx 1) ℕ UU ℕ (Pipeline.pin (pcfgs (F := F)) adm p) c
  | 0 => fun c => dat0 (V c) c
  | 1 => fun c => dat1 (W c) c

/-- What a core owes before the SparseCore call, no recorded wait above level 0. -/
abbrev debt (c : Dev nD) : sProp 𝕄 :=
  iprop(∃ Wd, ⌜∀ p ∈ Wd, (K (F := F)).lev ((c : Thread nD τ), p.1) p.2 ≤ 0⌝ ∗ owes (c : Thread nD τ) ((K (F := F)).Otc c 0) Wd)

theorem owesAt_of_debt {cfg : Pipeline.Cfg sig Λ₀} {c : Dev nD} (dat : Dat τ (Elt F) (HIx 1) ℕ UU ℕ cfg c) (t : Fin (cfg.N + 1))
    (ho : dat.owed t = (K (F := F)).Otc c 0) (hr : dat.recorded t = low (F := F) c) : debt (F := F) c ⊢ (dat.owesAt none t : sProp 𝕄) := by
  unfold Dat.owesAt Pipeline.owesWithin Dat.bound; rw [ho, hr]
  iintro ⟨%Wd, %h, HO⟩; iexists Wd; isplitr; · ipureintro; exact fun p hp => Or.inl (h p hp)
  iexact HO

theorem debt_of_owesAt {cfg : Pipeline.Cfg sig Λ₀} {c : Dev nD} (dat : Dat τ (Elt F) (HIx 1) ℕ UU ℕ cfg c) (t : Fin (cfg.N + 1))
    (ho : dat.owed t = (K (F := F)).Otc c 0) (hr : dat.recorded t = low (F := F) c) : (dat.owesAt none t : sProp 𝕄) ⊢ debt (F := F) c := by
  unfold Dat.owesAt Pipeline.owesWithin Dat.bound; rw [ho, hr]
  iintro ⟨%Wd, %h, HO⟩; iexists Wd; isplitr
  · ipureintro; intro p hp
    rcases h hp with h | h
    · exact h
    · obtain ⟨w, s, rfl⟩ := h
      exact le_of_eq ((K (F := F)).lev_none _)
  iexact HO

theorem waits (p : Fin 2) (c : Dev nD) (ho : ∀ t, (pdats V W p c).owed t = (K (F := F)).Otc c 0) :
    (levAts (K (F := F)).L (K (F := F)).lev : sProp 𝕄) ⊢ Pipeline.cellsWaits (Pipeline.pin (pcfgs (F := F)) adm) (pdats V W) none p c :=
  Pipeline.cellsWaits_of_cut _ _ none p c 0 _ ho (fun _ _ => Finset.mem_univ _) (fun _ _ => le_of_eq ((K (F := F)).lev_none _))
    (fun g i h => ⟨Finset.mem_univ _, by have := (K (F := F)).lev_of_Otc_pos h; omega⟩)

/-- The arrays' contents after the first call. -/
def left0 (c : Dev nD) : Valuation τ sig (Elt F) :=
  Function.update (Function.update (Function.update (V c) (Proc.devRef .tc (main_v9_0 : Ref sig .tc)) ((dat0 (V c) c).arrAt 3 cfg0.N))
    (Proc.devRef .tc (main_v9_1 : Ref sig .tc)) ((dat0 (V c) c).arrAt 4 cfg0.N)) (Proc.devRef .tc (main_v9_2 : Ref sig .tc)) ((dat0 (V c) c).arrAt 5 cfg0.N)

theorem left0_ne (c : Dev nD) {b : DevRef τ sig} (h0 : b ≠ Proc.devRef .tc (main_v9_0 : Ref sig .tc)) (h1 : b ≠ Proc.devRef .tc (main_v9_1 : Ref sig .tc))
    (h2 : b ≠ Proc.devRef .tc (main_v9_2 : Ref sig .tc)) : left0 V c b = V c b := by
  unfold left0; rw [Function.update_of_ne h2, Function.update_of_ne h1, Function.update_of_ne h0]

theorem left0_v9_0 (c : Dev nD) : left0 V c (Proc.devRef .tc (main_v9_0 : Ref sig .tc)) = (dat0 (V c) c).arrAt 3 cfg0.N := by
  unfold left0; rw [Function.update_of_ne (by decide), Function.update_of_ne (by decide), Function.update_self]
theorem left0_v9_1 (c : Dev nD) : left0 V c (Proc.devRef .tc (main_v9_1 : Ref sig .tc)) = (dat0 (V c) c).arrAt 4 cfg0.N := by
  unfold left0; rw [Function.update_of_ne (by decide), Function.update_self]
theorem left0_v9_2 (c : Dev nD) : left0 V c (Proc.devRef .tc (main_v9_2 : Ref sig .tc)) = (dat0 (V c) c).arrAt 5 cfg0.N := by
  unfold left0; rw [Function.update_self]

theorem arr0 (c : Dev nD) (w : Fin 6) : (dat0 (V c) c).arrAt w cfg0.N = left0 V c (Proc.devRef .tc (arrRef spec0 w)) := by
  match w with
  | ⟨0, _⟩ => exact ((dat0 (V c) c).arrAt_in 0 rfl _).trans (left0_ne V c (b := Proc.devRef .tc (main_v6 : Ref sig .tc)) (by decide) (by decide) (by decide)).symm
  | ⟨1, _⟩ => exact ((dat0 (V c) c).arrAt_in 1 rfl _).trans (left0_ne V c (b := Proc.devRef .tc (main_v7 : Ref sig .tc)) (by decide) (by decide) (by decide)).symm
  | ⟨2, _⟩ => exact ((dat0 (V c) c).arrAt_in 2 rfl _).trans (left0_ne V c (b := Proc.devRef .tc (main_v8 : Ref sig .tc)) (by decide) (by decide) (by decide)).symm
  | ⟨3, _⟩ => exact (left0_v9_0 V c).symm
  | ⟨4, _⟩ => exact (left0_v9_1 V c).symm
  | ⟨5, _⟩ => exact (left0_v9_2 V c).symm

/-- The arrays' contents after the second call. -/
def left1 (c : Dev nD) : Valuation τ sig (Elt F) :=
  Function.update (W c) (Proc.devRef .tc (main_v19 : Ref sig .tc)) ((dat1 (W c) c).arrAt 6 cfg1.N)

theorem left1_ne (c : Dev nD) {b : DevRef τ sig} (h0 : b ≠ Proc.devRef .tc (main_v19 : Ref sig .tc)) : left1 W c b = W c b :=
  Function.update_of_ne h0 _ _
theorem left1_v19 (c : Dev nD) : left1 W c (Proc.devRef .tc (main_v19 : Ref sig .tc)) = (dat1 (W c) c).arrAt 6 cfg1.N := Function.update_self _ _ _

theorem arr1 (c : Dev nD) (w : Fin 7) : (dat1 (W c) c).arrAt w cfg1.N = left1 W c (Proc.devRef .tc (arrRef spec1 w)) := by
  match w with
  | ⟨0, _⟩ => exact ((dat1 (W c) c).arrAt_in 0 rfl _).trans (left1_ne W c (b := Proc.devRef .tc (main_v16 : Ref sig .tc)) (by decide)).symm
  | ⟨1, _⟩ => exact ((dat1 (W c) c).arrAt_in 1 rfl _).trans (left1_ne W c (b := Proc.devRef .tc (main_v17 : Ref sig .tc)) (by decide)).symm
  | ⟨2, _⟩ => exact ((dat1 (W c) c).arrAt_in 2 rfl _).trans (left1_ne W c (b := Proc.devRef .tc (main_v18 : Ref sig .tc)) (by decide)).symm
  | ⟨3, _⟩ => exact ((dat1 (W c) c).arrAt_in 3 rfl _).trans (left1_ne W c (b := Proc.devRef .tc (main_v13 : Ref sig .tc)) (by decide)).symm
  | ⟨4, _⟩ => exact ((dat1 (W c) c).arrAt_in 4 rfl _).trans (left1_ne W c (b := Proc.devRef .tc (main_v14 : Ref sig .tc)) (by decide)).symm
  | ⟨5, _⟩ => exact ((dat1 (W c) c).arrAt_in 5 rfl _).trans (left1_ne W c (b := Proc.devRef .tc (main_v15 : Ref sig .tc)) (by decide)).symm
  | ⟨6, _⟩ => exact (left1_v19 W c).symm

theorem launchP0 : Pipeline.PLaunchFacts (nD := nD) (τ := τ) (pcfgs (F := F)) 0 := launch0.toP
theorem launchP1 : Pipeline.PLaunchFacts (nD := nD) (τ := τ) (pcfgs (F := F)) 1 := launch1.toP

theorem enter0 (c : Dev nD) : ((pdats V W 0 c).arrays ((pdats V W 0 c).arrAt · 0) : sProp 𝕄) = StableHlo.held (c.tc : Thread nD τ) (arrRefs spec0) (V c) :=
  Pipeline.arrays_held (pcfgs (F := F)) adm (pdats V W) 0 launchP0 c ((dat0 (V c) c).share_full fun _ => rfl) _ (V c) fun _ => rfl
theorem leave0 (c : Dev nD) : ((pdats V W 0 c).arrays ((pdats V W 0 c).arrAt · (Pipeline.pin (pcfgs (F := F)) adm 0).N) : sProp 𝕄)
    = StableHlo.held (c.tc : Thread nD τ) (arrRefs spec0) (left0 V c) :=
  Pipeline.arrays_held (pcfgs (F := F)) adm (pdats V W) 0 launchP0 c ((dat0 (V c) c).share_full fun _ => rfl) _ (left0 V c) (arr0 V c)

theorem enter1 (c : Dev nD) : ((pdats V W 1 c).arrays ((pdats V W 1 c).arrAt · 0) : sProp 𝕄) = StableHlo.held (c.tc : Thread nD τ) (arrRefs spec1) (W c) :=
  Pipeline.arrays_held (pcfgs (F := F)) adm (pdats V W) 1 launchP1 c ((dat1 (W c) c).share_full fun _ => rfl) _ (W c) fun _ => rfl
theorem leave1 (c : Dev nD) : ((pdats V W 1 c).arrays ((pdats V W 1 c).arrAt · (Pipeline.pin (pcfgs (F := F)) adm 1).N) : sProp 𝕄)
    = StableHlo.held (c.tc : Thread nD τ) (arrRefs spec1) (left1 W c) :=
  Pipeline.arrays_held (pcfgs (F := F)) adm (pdats V W) 1 launchP1 c ((dat1 (W c) c).share_full fun _ => rfl) _ (left1 W c) (arr1 W c)

/-- The first call. -/
def reg0 : Pipeline.RegionSeg (pcfgs (F := F)) adm (pdats V W) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (obligation0 (V c) c).loose
  hwaits c := waits V W 0 c fun _ => rfl
  pre c := iprop(StableHlo.held (c.tc : Thread nD τ) (arrRefs spec0) (V c) ∗ debt (F := F) c)
  post c := iprop(StableHlo.held (c.tc : Thread nD τ) (arrRefs spec0) (left0 V c) ∗ debt (F := F) c)
  X _ := iprop(emp)
  Y _ := iprop(emp)
  Z _ := iprop(emp)
  hentry c := by
    rw [Pipeline.ownSems0_none, Pipeline.prefHeld_of_none _ rfl, enter0]
    iintro ⟨⟨Ha, HO⟩, -, -⟩
    imodintro
    isplitl [Ha]; · iexact Ha
    isplitr; · iempintro
    isplitl [HO]; · iapply (owesAt_of_debt (dat0 (V c) c) 0 rfl rfl); iexact HO
    isplitr <;> iempintro
  hin c := by
    rw [show (pdats V W 0 c).Φ 0 = Pipeline.scopedRest spec0 c from rfl]
    iintro ⟨-, -, H⟩; iexact H
  hout c := by
    rw [show (pdats V W 0 c).Φ (Fin.last _) = Pipeline.scopedRest spec0 c from rfl, Pipeline.ownSems0_none]
    iintro H
    isplitr; · iempintro
    isplitr; · iempintro
    iexact H
  hexit c := by
    rw [leave0]
    iintro ⟨Ha, HO, -, -⟩
    imodintro
    isplitl [Ha]; · iexact Ha
    iapply (debt_of_owesAt (dat0 (V c) c) (Fin.last _) rfl rfl); iexact HO

/-- The second. -/
def reg1 : Pipeline.RegionSeg (pcfgs (F := F)) adm (pdats V W) none defs₀ 𝒱₀ (K (F := F)).L (K (F := F)).lev 1 where
  win := winFacts1.to₀
  block_pos := block_pos1
  stage_whole := stage_whole1
  K := PEmpty
  osem k := k.elim
  ho := Pipeline.OwnSemFacts.none _
  hbody c := (obligation1 (W c) c).loose
  hwaits c := waits V W 1 c fun _ => rfl
  pre c := iprop(StableHlo.held (c.tc : Thread nD τ) (arrRefs spec1) (W c) ∗ debt (F := F) c)
  post c := iprop(StableHlo.held (c.tc : Thread nD τ) (arrRefs spec1) (left1 W c) ∗ debt (F := F) c)
  X _ := iprop(emp)
  Y _ := iprop(emp)
  Z _ := iprop(emp)
  hentry c := by
    rw [Pipeline.ownSems0_none, Pipeline.prefHeld_of_none _ rfl, enter1]
    iintro ⟨⟨Ha, HO⟩, -, -⟩
    imodintro
    isplitl [Ha]; · iexact Ha
    isplitr; · iempintro
    isplitl [HO]; · iapply (owesAt_of_debt (dat1 (W c) c) 0 rfl rfl); iexact HO
    isplitr <;> iempintro
  hin c := by
    rw [show (pdats V W 1 c).Φ 0 = Pipeline.scopedRest spec1 c from rfl]
    iintro ⟨-, -, H⟩; iexact H
  hout c := by
    rw [show (pdats V W 1 c).Φ (Fin.last _) = Pipeline.scopedRest spec1 c from rfl, Pipeline.ownSems0_none]
    iintro H
    isplitr; · iempintro
    isplitr; · iempintro
    iexact H
  hexit c := by
    rw [leave1]
    iintro ⟨Ha, HO, -, -⟩
    imodintro
    isplitl [Ha]; · iexact Ha
    iapply (debt_of_owesAt (dat1 (W c) c) (Fin.last _) rfl rfl); iexact HO

/-- A TensorCore call inside `@main`, from all of the program's arrays: `R`'s arrays among them go to what it leaves. -/
theorem wp_call0 [∀ e, Nonempty (Elt F e)] (c : Dev nD) (Q : PUnit → sProp 𝕄) :
    iprop(boundary (c : Thread nD τ) ∗ StableHlo.held (c.tc : Thread nD τ) (ucRefs τ sig) (V c) ∗ debt (F := F) c ∗ levAts (K (F := F)).L (K (F := F)).lev ∗ rounds (F := F) 0 c
        ∗ (iprop(boundary (c : Thread nD τ) ∗ StableHlo.held (c.tc : Thread nD τ) (ucRefs τ sig) (left0 V c) ∗ debt (F := F) c) -∗ Q ⟨⟩))
      ⊢ wp frame (wpE ((K (F := F)).defs (D (F := F))) 𝒱 (c : Thread nD τ) none) Set.univ
          (Prog.lift (.customCall (SparseCore.inner (Pipeline.entry 0)) ())) Q := by
  have hsub : arrRefs (τ := τ) spec0 ⊆ ucRefs τ sig := Pipeline.arrRefs_sub_ucRefs spec0 (by decide)
  have hrest : (StableHlo.held (c.tc : Thread nD τ) (ucRefs τ sig \ arrRefs spec0) (V c) : sProp 𝕄)
      = StableHlo.held (c.tc : Thread nD τ) (ucRefs τ sig \ arrRefs spec0) (left0 V c) := by
    refine bigSep_congr fun b hb => ?_
    have hb' := (Finset.mem_sdiff.1 hb).2
    have hne : ∀ w, b ≠ Proc.devRef .tc (arrRef spec0 w) := fun w h => hb' (by
      rw [h]; exact Finset.mem_map_of_mem ⟨Proc.devRef .tc, Proc.devRef_injective _⟩ (Finset.mem_image_of_mem _ (Finset.mem_univ w)))
    rw [left0_ne V c (hne 3) (hne 4) (hne 5)]
  rw [StableHlo.held_sub_split _ hsub (V c), StableHlo.held_sub_split _ hsub (left0 V c), hrest]
  iintro ⟨Hb, ⟨Ha, Hr⟩, HO, Hl, Hg, Hk⟩
  iapply ((K (F := F)).wp_liftProg (D (F := F)) 𝒱 (c : Thread nD τ) Set.univ none (.op (.customCall (Pipeline.entry 0) ()) .ret) Q)
  iapply (Pipeline.RegionSeg.wp (pcfgs (F := F)) adm (pdats V V) none cells_inj EP defs₀ 𝒱₀ (K (F := F)).L (K (F := F)).lev (reg0 V V) c none (fun u h => nomatch h) _ Q)
  isplitl [Hr Hk]
  · iintro ⟨Hb, HR⟩
    ihave HR' := (Entails.of_eq (show (reg0 V V).post c = iprop(StableHlo.held (c.tc : Thread nD τ) (arrRefs spec0) (left0 V c) ∗ debt (F := F) c) from rfl)) $$ HR
    icases HR' with ⟨Ha, HO⟩
    rw [wp_ret]; imodintro
    iapply Hk
    isplitl [Hb]; · iexact Hb
    isplitr [HO]
    · isplitl [Ha] <;> iassumption
    iexact HO
  isplitl [Hb]; · iexact Hb
  isplitl [Ha HO]
  · iapply (Entails.of_eq (show iprop(StableHlo.held (c.tc : Thread nD τ) (arrRefs spec0) (V c) ∗ debt (F := F) c) = (reg0 V V).pre c from rfl))
    isplitl [Ha] <;> iassumption
  isplitl [Hl]; · iexact Hl
  iexact Hg

theorem wp_call1 [∀ e, Nonempty (Elt F e)] (c : Dev nD) (Q : PUnit → sProp 𝕄) :
    iprop(boundary (c : Thread nD τ) ∗ StableHlo.held (c.tc : Thread nD τ) (ucRefs τ sig) (W c) ∗ debt (F := F) c ∗ levAts (K (F := F)).L (K (F := F)).lev ∗ rounds (F := F) 1 c
        ∗ (iprop(boundary (c : Thread nD τ) ∗ StableHlo.held (c.tc : Thread nD τ) (ucRefs τ sig) (left1 W c) ∗ debt (F := F) c) -∗ Q ⟨⟩))
      ⊢ wp frame (wpE ((K (F := F)).defs (D (F := F))) 𝒱 (c : Thread nD τ) none) Set.univ
          (Prog.lift (.customCall (SparseCore.inner (Pipeline.entry 1)) ())) Q := by
  have hsub : arrRefs (τ := τ) spec1 ⊆ ucRefs τ sig := Pipeline.arrRefs_sub_ucRefs spec1 (by decide)
  have hrest : (StableHlo.held (c.tc : Thread nD τ) (ucRefs τ sig \ arrRefs spec1) (W c) : sProp 𝕄)
      = StableHlo.held (c.tc : Thread nD τ) (ucRefs τ sig \ arrRefs spec1) (left1 W c) := by
    refine bigSep_congr fun b hb => ?_
    have hb' := (Finset.mem_sdiff.1 hb).2
    have hne : ∀ w, b ≠ Proc.devRef .tc (arrRef spec1 w) := fun w h => hb' (by
      rw [h]; exact Finset.mem_map_of_mem ⟨Proc.devRef .tc, Proc.devRef_injective _⟩ (Finset.mem_image_of_mem _ (Finset.mem_univ w)))
    rw [left1_ne W c (hne 6)]
  rw [StableHlo.held_sub_split _ hsub (W c), StableHlo.held_sub_split _ hsub (left1 W c), hrest]
  iintro ⟨Hb, ⟨Ha, Hr⟩, HO, Hl, Hg, Hk⟩
  iapply ((K (F := F)).wp_liftProg (D (F := F)) 𝒱 (c : Thread nD τ) Set.univ none (.op (.customCall (Pipeline.entry 1) ()) .ret) Q)
  iapply (Pipeline.RegionSeg.wp (pcfgs (F := F)) adm (pdats W W) none cells_inj EP defs₀ 𝒱₀ (K (F := F)).L (K (F := F)).lev (reg1 W W) c none (fun u h => nomatch h) _ Q)
  isplitl [Hr Hk]
  · iintro ⟨Hb, HR⟩
    ihave HR' := (Entails.of_eq (show (reg1 W W).post c = iprop(StableHlo.held (c.tc : Thread nD τ) (arrRefs spec1) (left1 W c) ∗ debt (F := F) c) from rfl)) $$ HR
    icases HR' with ⟨Ha, HO⟩
    rw [wp_ret]; imodintro
    iapply Hk
    isplitl [Hb]; · iexact Hb
    isplitr [HO]
    · isplitl [Ha] <;> iassumption
    iexact HO
  isplitl [Hb]; · iexact Hb
  isplitl [Ha HO]
  · iapply (Entails.of_eq (show iprop(StableHlo.held (c.tc : Thread nD τ) (arrRefs spec1) (W c) ∗ debt (F := F) c) = (reg1 W W).pre c from rfl))
    isplitl [Ha] <;> iassumption
  isplitl [Hl]; · iexact Hl
  iexact Hg

end Cert.Proof.Whole

end
-- ==== Proof.WholeRun.lean ====
/-
  The whole program's run. `@main` splits the points into their three coordinates, calls the farthest-point kernel on
  them, shapes the centers it picks, calls the nearest-neighbour kernel on coordinates and centers, lays the points out
  as the rows of a table with 13 zero columns behind, has the SparseCore gather the rows the words name, and cuts and
  shapes them. The array of words and the array of rows are the program's results.
-/
module

public import proofs.«01_k».proof.Proof.WholeCalls

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main, stretch by stretch -/

abbrev opsA : List (HloOp τ sig (Elt F)) :=
  [unary main_arg0 main_v0 (extractStridedSlice S4x16384x1 ![0, 0, 0] · slices_S4x16384x3_S4x16384x1_0_0_0),
    reshape main_v0 main_v1 (rfl : (.f32 : EltTy) = .f32) shapeCasts_S4x16384x1_S4x16384,
    unary main_arg0 main_v2 (extractStridedSlice S4x16384x1 ![0, 0, 1] · slices_S4x16384x3_S4x16384x1_0_0_1),
    reshape main_v2 main_v3 (rfl : (.f32 : EltTy) = .f32) shapeCasts_S4x16384x1_S4x16384,
    unary main_arg0 main_v4 (extractStridedSlice S4x16384x1 ![0, 0, 2] · slices_S4x16384x3_S4x16384x1_0_0_2),
    reshape main_v4 main_v5 (rfl : (.f32 : EltTy) = .f32) shapeCasts_S4x16384x1_S4x16384,
    reshape main_v1 main_v6 (rfl : (.f32 : EltTy) = .f32) shapeCasts_S4x16384_S4x8x2048,
    reshape main_v3 main_v7 (rfl : (.f32 : EltTy) = .f32) shapeCasts_S4x16384_S4x8x2048,
    reshape main_v5 main_v8 (rfl : (.f32 : EltTy) = .f32) shapeCasts_S4x16384_S4x8x2048]
abbrev opsB : List (HloOp τ sig (Elt F)) :=
  [reshape main_v9_0 main_v10 (rfl : (.f32 : EltTy) = .f32) shapeCasts_S4x1x512_S4x512,
    reshape main_v9_1 main_v11 (rfl : (.f32 : EltTy) = .f32) shapeCasts_S4x1x512_S4x512,
    reshape main_v9_2 main_v12 (rfl : (.f32 : EltTy) = .f32) shapeCasts_S4x1x512_S4x512,
    reshape main_v10 main_v13 (rfl : (.f32 : EltTy) = .f32) shapeCasts_S4x512_S4x64x8x1,
    reshape main_v11 main_v14 (rfl : (.f32 : EltTy) = .f32) shapeCasts_S4x512_S4x64x8x1,
    reshape main_v12 main_v15 (rfl : (.f32 : EltTy) = .f32) shapeCasts_S4x512_S4x64x8x1,
    reshape main_v1 main_v16 (rfl : (.f32 : EltTy) = .f32) shapeCasts_S4x16384_S4x128x128,
    reshape main_v3 main_v17 (rfl : (.f32 : EltTy) = .f32) shapeCasts_S4x16384_S4x128x128,
    reshape main_v5 main_v18 (rfl : (.f32 : EltTy) = .f32) shapeCasts_S4x16384_S4x128x128]
abbrev opsC : List (HloOp τ sig (Elt F)) :=
  [reshape main_v19 main_v20 (rfl : (.i32 : EltTy) = .i32) shapeCasts_S4x512x32_S65536,
    reshape main_arg0 main_v21 (rfl : (.f32 : EltTy) = .f32) shapeCasts_S4x16384x3_S65536x3,
    nullary main_cst (constant S_ .f32 0x00000000#32),
    unary main_cst main_v22 (broadcastInDim S65536x13 ![] bcast_S_S65536x13),
    binary main_v21 main_v22 main_v23
      (fun a b => concatenate S65536x16 1 [⟨S65536x3, a⟩, ⟨S65536x13, b⟩] concatenates_S65536x3_S65536x13_S65536x16_d1)]
abbrev opsD : List (HloOp τ sig (Elt F)) :=
  [unary main_v24 main_v25 (extractStridedSlice S65536x3 ![0, 0] · slices_S65536x16_S65536x3_0_0),
    reshape main_v25 main_v26 (rfl : (.f32 : EltTy) = .f32) shapeCasts_S65536x3_S4x512x32x3]

theorem main_eq (d : Dev nD) : main (F := F) d = (seq opsA >>= fun _ => (Prog.lift (.customCall (SparseCore.inner (Pipeline.entry 0)) ()) >>= fun _ =>
    (seq opsB >>= fun _ => (Prog.lift (.customCall (SparseCore.inner (Pipeline.entry 1)) ()) >>= fun _ =>
    (seq opsC >>= fun _ => (sc.run d 0 >>= fun _ => (seq opsD >>= fun _ => pure ⟨⟩))))))) := rfl

theorem on_tc {ops : List (HloOp τ sig (Elt F))} (h : ops.Forall fun op => op.bufs ⊆ tcRefs τ sig) : ∀ op ∈ ops, op.bufs ⊆ ucRefs τ sig :=
  fun op ho => Pipeline.sub_ucRefs op (List.forall_iff_forall_mem.mp h op ho)

theorem tcA : ∀ op ∈ (opsA : List (HloOp τ sig (Elt F))), op.bufs ⊆ ucRefs τ sig :=
  on_tc ⟨unary_bufs_sub .., reshape_bufs_sub .., unary_bufs_sub .., reshape_bufs_sub .., unary_bufs_sub .., reshape_bufs_sub .., reshape_bufs_sub .., reshape_bufs_sub .., reshape_bufs_sub ..⟩
theorem tcB : ∀ op ∈ (opsB : List (HloOp τ sig (Elt F))), op.bufs ⊆ ucRefs τ sig :=
  on_tc ⟨reshape_bufs_sub .., reshape_bufs_sub .., reshape_bufs_sub .., reshape_bufs_sub .., reshape_bufs_sub .., reshape_bufs_sub .., reshape_bufs_sub .., reshape_bufs_sub .., reshape_bufs_sub ..⟩
theorem tcC : ∀ op ∈ (opsC : List (HloOp τ sig (Elt F))), op.bufs ⊆ ucRefs τ sig :=
  on_tc ⟨reshape_bufs_sub .., reshape_bufs_sub .., nullary_bufs_sub .., unary_bufs_sub .., binary_bufs_sub ..⟩
theorem tcD : ∀ op ∈ (opsD : List (HloOp τ sig (Elt F))), op.bufs ⊆ ucRefs τ sig :=
  on_tc ⟨unary_bufs_sub .., reshape_bufs_sub ..⟩
theorem freshA : ∀ op ∈ (opsA : List (HloOp τ sig (Elt F))), op.fresh = ∅ :=
  List.forall_iff_forall_mem.mp ⟨rfl, rfl, rfl, rfl, rfl, rfl, rfl, rfl, rfl⟩
theorem freshB : ∀ op ∈ (opsB : List (HloOp τ sig (Elt F))), op.fresh = ∅ :=
  List.forall_iff_forall_mem.mp ⟨rfl, rfl, rfl, rfl, rfl, rfl, rfl, rfl, rfl⟩
theorem freshC : ∀ op ∈ (opsC : List (HloOp τ sig (Elt F))), op.fresh = ∅ :=
  List.forall_iff_forall_mem.mp ⟨rfl, rfl, rfl, rfl, rfl⟩
theorem freshD : ∀ op ∈ (opsD : List (HloOp τ sig (Elt F))), op.fresh = ∅ :=
  List.forall_iff_forall_mem.mp ⟨rfl, rfl⟩

/-! ## The arrays' contents between the stretches -/

abbrev ref (b : Ref sig .tc) : DevRef τ sig := Proc.devRef .tc b

def V0 (d : Dev nD) : Valuation τ sig (Elt F) := fun b => m (d, b)
def VA (d : Dev nD) : Valuation τ sig (Elt F) := after opsA (V0 m d)
def VA' (d : Dev nD) : Valuation τ sig (Elt F) := left0 (VA m) d
def VB (d : Dev nD) : Valuation τ sig (Elt F) := after opsB (VA' m d)
def VB' (d : Dev nD) : Valuation τ sig (Elt F) := left1 (VB m) d
def VC (d : Dev nD) : Valuation τ sig (Elt F) := after opsC (VB' m d)

/-- The words the SparseCore gathers by, the table, and the array it writes, as it finds them. -/
def words (d : Dev nD) : Buf (Elt F) (iLoc d) := VC m d (ref main_v20)
def table (d : Dev nD) : Buf (Elt F) (tLoc d) := VC m d (ref main_v23)
def before (d : Dev nD) : Buf (Elt F) (oLoc d) := VC m d (ref main_v24)

def VC' (d : Dev nD) : Valuation τ sig (Elt F) := Function.update (VC m d) (ref main_v24) (result (words m) (table m) d)
def VD (d : Dev nD) : Valuation τ sig (Elt F) := after opsD (VC' m d)

/-- The three arrays of the SparseCore call. -/
abbrev S3 : Finset (DevRef τ sig) := {ref main_v20, ref main_v23, ref main_v24}
/-- The three arrays the claims speak of. -/
abbrev E3 : Finset (DevRef τ sig) := {ref main_v20, ref main_v26, ref main_arg0}

omit [FloatOps F] in
theorem held_S3 (d : Dev nD) (W : Valuation τ sig (Elt F)) :
    (held (T d) S3 W : sProp 𝕄)
      = iprop((iLoc d ↦{fullShare} W (ref main_v20)) ∗ (tLoc d ↦{fullShare} W (ref main_v23)) ∗ oLoc d ↦{fullShare} W (ref main_v24)) := by
  unfold held S3
  rw [SparseCore.bigSep_insert' (by decide), SparseCore.bigSep_insert' (by decide), bigSep_singleton]

abbrev xLoc (d : Dev nD) : Loc nD τ sig := (SparseCore.T d).loc (main_arg0 : Ref sig .tc)
abbrev yLoc (d : Dev nD) : Loc nD τ sig := (SparseCore.T d).loc (main_v26 : Ref sig .tc)

omit [FloatOps F] in
theorem held_E3 (d : Dev nD) (W : Valuation τ sig (Elt F)) :
    (held (T d) E3 W : sProp 𝕄)
      = iprop((iLoc d ↦{fullShare} W (ref main_v20)) ∗ (yLoc d ↦{fullShare} W (ref main_v26)) ∗ xLoc d ↦{fullShare} W (ref main_arg0)) := by
  unfold held E3
  rw [SparseCore.bigSep_insert' (by decide), SparseCore.bigSep_insert' (by decide), bigSep_singleton]

theorem sub3 {a b c : Ref sig .tc} (ha : a.isScoped = false) (hb : b.isScoped = false) (hc : c.isScoped = false) :
    ({ref a, ref b, ref c} : Finset (DevRef τ sig)) ⊆ ucRefs τ sig := by
  have h : ∀ r : Ref sig .tc, r.isScoped = false → ref r ∈ ucRefs τ sig := fun r hr =>
    Finset.mem_filter.mpr ⟨devRef_mem_tcRefs _, fun h' => Bool.false_ne_true (hr.symm.trans h')⟩
  intro x hx
  simp only [Finset.mem_insert, Finset.mem_singleton] at hx
  rcases hx with rfl | rfl | rfl
  · exact h _ ha
  · exact h _ hb
  · exact h _ hc

/-- What @main leaves the claims. -/
abbrev FIN (d : Dev nD) : sProp 𝕄 := held (T d) E3 (VD m d)

abbrev pay : (K (F := F)).Pay (nD := nD) (Val := Elt F) (Name := ℕ) (U := UU) := P (words m) (table m) (before m)

theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from
    Pipeline.unscopedBufs_held d (V0 m d), main_eq]
  iintro ⟨#Hctx, Hst, ⟨Hb, Hheld, Hts, -⟩, Hg0, Hg1⟩
  ihave Hst' := (Entails.of_eq (show (K (F := F)).tcSt EH d 0 = iprop(debt (F := F) d ∗ _) from rfl)) $$ Hst
  icases Hst' with ⟨HO, Hst⟩
  ihave Hlev := ((K (F := F)).ctx_levAts κ) $$ Hctx
  iapply (wp_seq 𝒱 none Set.univ d (ucRefs τ sig) _ opsA tcA freshA (V0 m d)) $$ [Hb Hheld]
  · isplitl [Hb] <;> iassumption
  iintro ⟨Hb, Hheld⟩
  rw [show after opsA (V0 m d) = VA m d from rfl, wp_bind]
  iapply (wp_call0 (VA m) d _)
  isplitl [Hb]; · iexact Hb
  isplitl [Hheld]; · iexact Hheld
  isplitl [HO]; · iexact HO
  isplitr; · iexact Hlev
  isplitl [Hg0]; · iexact Hg0
  iintro ⟨Hb, Hheld, HO⟩
  rw [show left0 (VA m) d = VA' m d from rfl]
  iapply (wp_seq 𝒱 none Set.univ d (ucRefs τ sig) _ opsB tcB freshB (VA' m d)) $$ [Hb Hheld]
  · isplitl [Hb] <;> iassumption
  iintro ⟨Hb, Hheld⟩
  rw [show after opsB (VA' m d) = VB m d from rfl, wp_bind]
  iapply (wp_call1 (VB m) d _)
  isplitl [Hb]; · iexact Hb
  isplitl [Hheld]; · iexact Hheld
  isplitl [HO]; · iexact HO
  isplitr; · iexact Hlev
  isplitl [Hg1]; · iexact Hg1
  iintro ⟨Hb, Hheld, HO⟩
  rw [show left1 (VB m) d = VB' m d from rfl]
  iapply (wp_seq 𝒱 none Set.univ d (ucRefs τ sig) _ opsC tcC freshC (VB' m d)) $$ [Hb Hheld]
  · isplitl [Hb] <;> iassumption
  iintro ⟨Hb, Hheld⟩
  rw [show after opsC (VB' m d) = VC m d from rfl]
  ihave Hh := (Entails.of_eq (held_sub_split (T d) (sub3 (a := main_v20) (b := main_v23) (c := main_v24) rfl rfl rfl) (VC m d))) $$ Hheld
  icases Hh with ⟨H3, Hrest⟩
  ihave H3' := (Entails.of_eq (held_S3 d (VC m d))) $$ H3
  icases H3' with ⟨Hi, Ht, Ho⟩
  rw [wp_bind]
  iapply ((K (F := F)).wp_run (D (F := F)) 𝒱 (EH := EH) (P := pay m) κ d 0) $$ [Hst HO Hi Ht Ho Hb Hrest Hts]
  isplitr; · iexact Hctx
  isplitl [Hst HO]
  · iapply (Entails.of_eq (show iprop(debt (F := F) d ∗ _) = (K (F := F)).tcSt EH d 0 from rfl))
    isplitl [HO] <;> iassumption
  isplitl [Hi Ht Ho]
  · rw [st0_eq]
    isplitl [Hi]; · iexact Hi
    isplitl [Ht]; · iexact Ht
    iexact Ho
  iintro ⟨Hst, Hdn⟩
  ihave Hdn' := (Entails.of_eq (dn0_eq (words m) (table m) (before m) d)) $$ Hdn
  icases Hdn' with ⟨Hi, Ht, Ho⟩
  have h20 : VC' m d (ref main_v20) = words m d := Function.update_of_ne (by decide) _ _
  have h23 : VC' m d (ref main_v23) = table m d := Function.update_of_ne (by decide) _ _
  have h24 : VC' m d (ref main_v24) = result (words m) (table m) d := Function.update_self _ _ _
  have hrest : (held (T d) (ucRefs τ sig \ S3) (VC m d) : sProp 𝕄) = held (T d) (ucRefs τ sig \ S3) (VC' m d) := by
    refine bigSep_congr fun b hb => ?_
    have hb' := (Finset.mem_sdiff.1 hb).2
    rw [show VC' m d b = VC m d b from Function.update_of_ne (fun h => hb' (by rw [h]; decide)) _ _]
  iapply (wp_seq 𝒱 none Set.univ d (ucRefs τ sig) _ opsD tcD freshD (VC' m d)) $$ [Hb Hi Ht Ho Hrest]
  · isplitl [Hb]; · iexact Hb
    rw [held_sub_split (T d) (sub3 (a := main_v20) (b := main_v23) (c := main_v24) rfl rfl rfl) (VC' m d), ← hrest, held_S3, h20, h23, h24]
    isplitr [Hrest]
    · isplitl [Hi]; · iexact Hi
      isplitl [Ht]; · iexact Ht
      iexact Ho
    iexact Hrest
  iintro ⟨Hb, Hheld⟩
  rw [show after opsD (VC' m d) = VD m d from rfl]
  ihave Hh := (Entails.of_eq (held_sub_split (T d) (sub3 (a := main_v20) (b := main_v26) (c := main_arg0) rfl rfl rfl) (VD m d))) $$ Hheld
  icases Hh with ⟨H3, -⟩
  rw [wp_pure]; imodintro
  isplitl [Hst]; · iexact Hst
  isplitl [H3]; · iexact H3
  isplitl [Hb] <;> iassumption

/-- What the claims read of device `d`'s final state. -/
def fq (d : Dev nD) (s' : Phys nD τ sig (Elt F)) : Prop :=
  s'.mem.mem (iLoc d) = VD m d (ref main_v20) ∧ s'.mem.mem (yLoc d) = VD m d (ref main_v26) ∧ s'.mem.mem (xLoc d) = VD m d (ref main_arg0)

theorem hfin (d : Dev nD) (s' : Phys nD τ sig (Elt F)) : iprop(FIN m d ∗ SI s') ⊢ (⌜fq m d s'⌝ : sProp 𝕄) := by
  rw [show (FIN m d : sProp 𝕄) = _ from held_E3 d (VD m d)]
  iintro ⟨⟨Hi, Hr, Hx⟩, HSI⟩
  ihave H := (persistent_entails_right (SI_pointsTo_agree (st := s') (ℓ := iLoc d) (I := Finset.univ) (q := fullShare) (f := VD m d (ref main_v20)))) $$ [HSI Hi]
  · isplitl [HSI] <;> iassumption
  icases H with ⟨%h1, HSI, -⟩
  ihave H := (persistent_entails_right (SI_pointsTo_agree (st := s') (ℓ := xLoc d) (I := Finset.univ) (q := fullShare) (f := VD m d (ref main_arg0)))) $$ [HSI Hx]
  · isplitl [HSI] <;> iassumption
  icases H with ⟨%h2, HSI, -⟩
  ihave H := (SI_pointsTo_agree (st := s') (ℓ := yLoc d) (I := Finset.univ) (q := fullShare) (f := VD m d (ref main_v26))) $$ [HSI Hr]
  · isplitl [HSI] <;> iassumption
  icases H with %h3
  ipureintro
  exact ⟨funext fun i => h1 i (Finset.mem_univ i), funext fun i => h3 i (Finset.mem_univ i), funext fun i => h2 i (Finset.mem_univ i)⟩

/-! ## The program's run -/

def QC : PUnit × MemSt nD τ sig (Elt F) → Prop := fun r =>
  (∀ c : Dev nD, r.2.mem (iLoc c) = VD m c (ref main_v20) ∧ r.2.mem (yLoc c) = VD m c (ref main_v26) ∧ r.2.mem (xLoc c) = VD m c (ref main_arg0))
    ∧ r.2.sem = fun _ => 0

theorem run_main [∀ e, Nonempty (Elt F e)] (hin : InRange (words m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (words m) (table m) (before m) facts hin)
    (fun q _ => match q with | 0 => SparseCore.Cfg.VecSplit.of_plain (vecSplit (words m) (table m) (before m)))
    m ρ main (fun d => dealt (F := F) d) (FIN m) (u₀ (F := F)) (sep_elim_left.trans (hu₀ (words m) (table m) (before m))) (hmain m ρ) (fq m) (hfin m) (QC m) (fun _ h hz => ⟨h, hz⟩)

end Cert.Proof.Whole

end
-- ==== Proof.WholeArrays.lean ====
/-
  The two TensorCore calls, cell by cell: which cell of an array a block's cell is, and what each cell of an output array
  holds when its call is over.
-/
module

public import proofs.«01_k».proof.Proof.WholeRegions
public import Idealize.ShloMosaic.Lib.Pipeline.ValueKit
public import Idealize.ShloMosaic.Lib.Pointwise

@[expose] public section

set_option maxRecDepth 4096

noncomputable section

namespace Cert.Proof.Whole

open Cert.KernelIdeal Cert.KernelIdeal.Gen
open Idealize.ShloMosaic Idealize.ShloMosaic.TcCoe
open Idealize.ShloMosaic.Pipeline (Dat arrRef)

variable {F : FTy → Type} [FloatOps F]

/-! ## Call 0: grid point `b` reads and writes batch `b` -/

section Region0

variable (V : Valuation τ sig (Elt F)) (c : Dev nD)

theorem at0_0 : ∀ t : Fin cfg0.N, win0_0.index t = ![t.val, 0, 0] := (by decide +kernel : ∀ t : Fin grid0.N, _)
theorem at0_1 : ∀ t : Fin cfg0.N, win0_1.index t = ![t.val, 0, 0] := (by decide +kernel : ∀ t : Fin grid0.N, _)
theorem at0_2 : ∀ t : Fin cfg0.N, win0_2.index t = ![t.val, 0, 0] := (by decide +kernel : ∀ t : Fin grid0.N, _)
theorem at0_3 : ∀ t : Fin cfg0.N, win0_3.index t = ![t.val, 0, 0] := (by decide +kernel : ∀ t : Fin grid0.N, _)
theorem at0_4 : ∀ t : Fin cfg0.N, win0_4.index t = ![t.val, 0, 0] := (by decide +kernel : ∀ t : Fin grid0.N, _)
theorem at0_5 : ∀ t : Fin cfg0.N, win0_5.index t = ![t.val, 0, 0] := (by decide +kernel : ∀ t : Fin grid0.N, _)

/-- The grid point of batch `b`. -/
def batch (b : Fin 4) : Fin cfg0.N := ⟨b.val, b.isLt.trans_eq (by decide +kernel : 4 = grid0.N)⟩

theorem blk0_0_apply (b : Fin 4) (r : Fin 8) (l : Fin 2048) : blk0 V 0 (batch b) (ix3 0 r l) = V (Proc.devRef .tc main_v6) (ix3 b r l) := by
  blk_simp [blk0]
  refine congrArg (V (Proc.devRef .tc main_v6)) ?_
  blk_ext [at0_0, batch]

theorem blk0_1_apply (b : Fin 4) (r : Fin 8) (l : Fin 2048) : blk0 V 1 (batch b) (ix3 0 r l) = V (Proc.devRef .tc main_v7) (ix3 b r l) := by
  blk_simp [blk0]
  refine congrArg (V (Proc.devRef .tc main_v7)) ?_
  blk_ext [at0_1, batch]

theorem blk0_2_apply (b : Fin 4) (r : Fin 8) (l : Fin 2048) : blk0 V 2 (batch b) (ix3 0 r l) = V (Proc.devRef .tc main_v8) (ix3 b r l) := by
  blk_simp [blk0]
  refine congrArg (V (Proc.devRef .tc main_v8)) ?_
  blk_ext [at0_2, batch]

theorem apart0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne ((by decide +kernel : ∀ t t' : Fin grid0.N, win0_3.index t = win0_3.index t' → t = t') t t' h)
theorem apart0_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne ((by decide +kernel : ∀ t t' : Fin grid0.N, win0_4.index t = win0_4.index t' → t = t') t t' h)
theorem apart0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne ((by decide +kernel : ∀ t t' : Fin grid0.N, win0_5.index t = win0_5.index t' → t = t') t t' h)

theorem emb0_3 (b : Fin 4) (j : Fin 512) : ((cfg0.win 3).blk (batch b)).view.emb (ix3 0 0 j : S1x1x512.Idx) = (ix3 b 0 j : S4x1x512.Idx) := by
  blk_ext [at0_3, batch]
theorem emb0_4 (b : Fin 4) (j : Fin 512) : ((cfg0.win 4).blk (batch b)).view.emb (ix3 0 0 j : S1x1x512.Idx) = (ix3 b 0 j : S4x1x512.Idx) := by
  blk_ext [at0_4, batch]
theorem emb0_5 (b : Fin 4) (j : Fin 512) : ((cfg0.win 5).blk (batch b)).view.emb (ix3 0 0 j : S1x1x512.Idx) = (ix3 b 0 j : S4x1x512.Idx) := by
  blk_ext [at0_5, batch]

theorem arr0_3 (b : Fin 4) (j : Fin 512) : (dat0 V c).arrAt 3 cfg0.N (ix3 b 0 j : S4x1x512.Idx) = k0_pay20 (drawn V (batch b)).2.1 (ix3 0 0 j) := by
  have h := (dat0 V c).arrAt_emb_eq_flushed 3 apart0_3 (batch b) (flush0_3 (batch b)) (ix3 0 0 j : S1x1x512.Idx)
  rw [emb0_3] at h
  refine h.trans ?_
  blk_simp
  rw [after0_3]
theorem arr0_4 (b : Fin 4) (j : Fin 512) : (dat0 V c).arrAt 4 cfg0.N (ix3 b 0 j : S4x1x512.Idx) = k0_pay21 (drawn V (batch b)).2.2.1 (ix3 0 0 j) := by
  have h := (dat0 V c).arrAt_emb_eq_flushed 4 apart0_4 (batch b) (flush0_4 (batch b)) (ix3 0 0 j : S1x1x512.Idx)
  rw [emb0_4] at h
  refine h.trans ?_
  blk_simp
  rw [after0_4]
theorem arr0_5 (b : Fin 4) (j : Fin 512) : (dat0 V c).arrAt 5 cfg0.N (ix3 b 0 j : S4x1x512.Idx) = k0_pay1 (drawn V (batch b)).2.2.2 (ix3 0 0 j) := by
  have h := (dat0 V c).arrAt_emb_eq_flushed 5 apart0_5 (batch b) (flush0_5 (batch b)) (ix3 0 0 j : S1x1x512.Idx)
  rw [emb0_5] at h
  refine h.trans ?_
  blk_simp
  rw [after0_5]

end Region0

/-! ## Call 1: grid point `(b, g)` reads batch `b`'s coordinates and its centers `8 g ..< 8 g + 8`, and writes their rows -/

section Region1

variable (V : Valuation τ sig (Elt F)) (c : Dev nD)

theorem at1_0 : ∀ t : Fin cfg1.N, win1_0.index t = ![t.val / 64, 0, 0] := (by decide +kernel : ∀ t : Fin grid1.N, _)
theorem at1_1 : ∀ t : Fin cfg1.N, win1_1.index t = ![t.val / 64, 0, 0] := (by decide +kernel : ∀ t : Fin grid1.N, _)
theorem at1_2 : ∀ t : Fin cfg1.N, win1_2.index t = ![t.val / 64, 0, 0] := (by decide +kernel : ∀ t : Fin grid1.N, _)
theorem at1_3 : ∀ t : Fin cfg1.N, win1_3.index t = ![t.val / 64, t.val % 64, 0, 0] := (by decide +kernel : ∀ t : Fin grid1.N, _)
theorem at1_4 : ∀ t : Fin cfg1.N, win1_4.index t = ![t.val / 64, t.val % 64, 0, 0] := (by decide +kernel : ∀ t : Fin grid1.N, _)
theorem at1_5 : ∀ t : Fin cfg1.N, win1_5.index t = ![t.val / 64, t.val % 64, 0, 0] := (by decide +kernel : ∀ t : Fin grid1.N, _)
theorem at1_6 : ∀ t : Fin cfg1.N, win1_6.index t = ![t.val / 64, t.val % 64, 0] := (by decide +kernel : ∀ t : Fin grid1.N, _)
theorem first1 : ∀ t : Fin cfg1.N, (grid1.coords t 0).val = t.val / 64 := (by decide +kernel : ∀ t : Fin grid1.N, _)

/-- The grid point of batch `b` and centers `8 g ..< 8 g + 8`. -/
def group (b : Fin 4) (g : Fin 64) : Fin cfg1.N := ⟨b.val * 64 + g.val, lt_of_lt_of_eq (by omega) (by decide +kernel : 256 = grid1.N)⟩

theorem group_div (b : Fin 4) (g : Fin 64) : (group b g).val / 64 = b.val := by simp only [group]; omega
theorem group_mod (b : Fin 4) (g : Fin 64) : (group b g).val % 64 = g.val := by simp only [group]; omega

theorem blk1_0_apply (b : Fin 4) (g : Fin 64) (r l : Fin 128) : blk1 V 0 (group b g) (ix3 0 r l) = V (Proc.devRef .tc main_v16) (ix3 b r l) := by
  blk_simp [blk1]
  refine congrArg (V (Proc.devRef .tc main_v16)) ?_
  blk_ext [at1_0, group_div]
theorem blk1_1_apply (b : Fin 4) (g : Fin 64) (r l : Fin 128) : blk1 V 1 (group b g) (ix3 0 r l) = V (Proc.devRef .tc main_v17) (ix3 b r l) := by
  blk_simp [blk1]
  refine congrArg (V (Proc.devRef .tc main_v17)) ?_
  blk_ext [at1_1, group_div]
theorem blk1_2_apply (b : Fin 4) (g : Fin 64) (r l : Fin 128) : blk1 V 2 (group b g) (ix3 0 r l) = V (Proc.devRef .tc main_v18) (ix3 b r l) := by
  blk_simp [blk1]
  refine congrArg (V (Proc.devRef .tc main_v18)) ?_
  blk_ext [at1_2, group_div]
theorem blk1_3_apply (b : Fin 4) (g : Fin 64) (s : Fin 8) : blk1 V 3 (group b g) (ix4 0 0 s 0) = V (Proc.devRef .tc main_v13) (ix4 b g s 0) := by
  blk_simp [blk1]
  refine congrArg (V (Proc.devRef .tc main_v13)) ?_
  blk_ext [at1_3, group_div, group_mod]
theorem blk1_4_apply (b : Fin 4) (g : Fin 64) (s : Fin 8) : blk1 V 4 (group b g) (ix4 0 0 s 0) = V (Proc.devRef .tc main_v14) (ix4 b g s 0) := by
  blk_simp [blk1]
  refine congrArg (V (Proc.devRef .tc main_v14)) ?_
  blk_ext [at1_4, group_div, group_mod]
theorem blk1_5_apply (b : Fin 4) (g : Fin 64) (s : Fin 8) : blk1 V 5 (group b g) (ix4 0 0 s 0) = V (Proc.devRef .tc main_v15) (ix4 b g s 0) := by
  blk_simp [blk1]
  refine congrArg (V (Proc.devRef .tc main_v15)) ?_
  blk_ext [at1_5, group_div, group_mod]

theorem index_inj1 (t t' : Fin cfg1.N) (h : win1_6.index t = win1_6.index t') : t = t' := by
  rw [at1_6, at1_6] at h
  have h0 : t.val / 64 = t'.val / 64 := congrFun h 0
  have h1 : t.val % 64 = t'.val % 64 := congrFun h 1
  exact Fin.ext (by omega)

theorem apart1_6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (index_inj1 t t' h)

theorem emb1_6 (b : Fin 4) (g : Fin 64) (s : Fin 8) (k : Fin 32) :
    ((cfg1.win 6).blk (group b g)).view.emb (ix3 0 s k : S1x8x32.Idx) = (ix3 b ⟨g.val * 8 + s.val, by omega⟩ k : S4x512x32.Idx) := by
  blk_ext [at1_6, group_div, group_mod]

theorem arr1_6 (b : Fin 4) (g : Fin 64) (s : Fin 8) (k : Fin 32) :
    (dat1 V c).arrAt 6 cfg1.N (ix3 b ⟨g.val * 8 + s.val, by omega⟩ k : S4x512x32.Idx) = listed V (group b g) (ix3 0 s k) := by
  have h := (dat1 V c).arrAt_emb_eq_flushed 6 apart1_6 (group b g) (flush1_6 (group b g)) (ix3 0 s k : S1x8x32.Idx)
  rw [emb1_6] at h
  refine h.trans ?_
  blk_simp
  rw [after1_6]

end Region1

end Cert.Proof.Whole

end
-- ==== Proof.Nearest.lean ====
/-
  The order of the nearest neighbours, apart from any program: points numbered below `N`, a distance each, ordered by
  distance and then by number. `nth D k` is the point at place `k` of that order. The second half is about a table of
  128 lanes that keeps the first few points of every lane: its least entry is the next point of the order, and taking
  that entry out keeps the table right.
-/
module

public import Mathlib.Data.EReal.Basic
public import Mathlib.Data.Prod.Lex
public import Mathlib.Data.Finset.Max
public import Mathlib.Data.Finset.Fold
public import Mathlib.Data.Fintype.Card
public import Mathlib.Order.Interval.Finset.Fin
public import Mathlib.Algebra.Order.BigOperators.Group.Finset
public import Idealize.ShloMosaic.PureOps.Reduce
public import Idealize.ShloMosaic.Lib.WordArith

@[expose] public section

noncomputable section

namespace Cert.Proof.Nearest

section Order

variable {N : ℕ} (D : Fin N → EReal)

/-- The place of a point in the order: its distance, then its number. -/
def key (n : Fin N) : EReal ×ₗ Fin N := toLex (D n, n)

theorem key_inj {n m : Fin N} (h : key D n = key D m) : n = m := by
  have := congrArg (fun p => (ofLex p).2) h
  exact this

theorem key_lt {n m : Fin N} : key D n < key D m ↔ D n < D m ∨ (D n = D m ∧ n < m) := Prod.Lex.toLex_lt_toLex

theorem key_le {n m : Fin N} : key D n ≤ key D m ↔ D n < D m ∨ (D n = D m ∧ n ≤ m) := Prod.Lex.toLex_le_toLex

/-- `x` is the first point of `S`. -/
def Least (S : Finset (Fin N)) (x : Fin N) : Prop := x ∈ S ∧ ∀ y ∈ S, key D x ≤ key D y

variable {D}

theorem Least.unique {S : Finset (Fin N)} {x y : Fin N} (hx : Least D S x) (hy : Least D S y) : x = y :=
  key_inj D (le_antisymm (hx.2 y hy.1) (hy.2 x hx.1))

theorem Least.dist_le {S : Finset (Fin N)} {x y : Fin N} (hx : Least D S x) (hy : y ∈ S) : D x ≤ D y := by
  rcases (key_le D).1 (hx.2 y hy) with h | h
  · exact h.le
  · exact h.1.le

theorem Least.no_le {S : Finset (Fin N)} {x y : Fin N} (hx : Least D S x) (hy : y ∈ S) (h : D y = D x) : x ≤ y := by
  rcases (key_le D).1 (hx.2 y hy) with h' | h'
  · exact absurd h.symm h'.ne
  · exact h'.2

theorem exists_least {S : Finset (Fin N)} (h : S.Nonempty) : ∃ x, Least D S x := by
  obtain ⟨x, hx, hm⟩ := S.exists_min_image (key D) h
  exact ⟨x, hx, hm⟩

variable (D)

open Classical in
/-- The points left after the first `k`, with the first of them taken at each step (if any is left). -/
def left : ℕ → Finset (Fin N)
  | 0 => Finset.univ
  | k + 1 => if h : (left k).Nonempty then (left k).erase (exists_least (D := D) h).choose else left k

open Classical in
/-- The point at place `k`. -/
def nth [NeZero N] (k : ℕ) : Fin N := if h : (left D k).Nonempty then (exists_least (D := D) h).choose else 0

theorem card_left (k : ℕ) (hk : k ≤ N) : (left D k).card = N - k := by
  induction k with
  | zero => simp [left]
  | succ k ih =>
    have ih := ih (by omega)
    have hn : (left D k).Nonempty := Finset.card_pos.1 (by omega)
    rw [left, dif_pos hn, Finset.card_erase_of_mem (exists_least (D := D) hn).choose_spec.1, ih]
    omega

theorem nth_least [NeZero N] (k : ℕ) (hk : k < N) : Least D (left D k) (nth D k) := by
  have hn : (left D k).Nonempty := Finset.card_pos.1 (by rw [card_left D k hk.le]; omega)
  rw [nth, dif_pos hn]
  exact (exists_least (D := D) hn).choose_spec

theorem left_succ [NeZero N] (k : ℕ) (hk : k < N) : left D (k + 1) = (left D k).erase (nth D k) := by
  have hn : (left D k).Nonempty := Finset.card_pos.1 (by rw [card_left D k hk.le]; omega)
  rw [left, dif_pos hn, nth, dif_pos hn]

/-- What is left is a final part of the order. -/
theorem left_up [NeZero N] (k : ℕ) (hk : k ≤ N) {x y : Fin N} (hx : x ∈ left D k) (h : key D x ≤ key D y) : y ∈ left D k := by
  induction k with
  | zero => exact Finset.mem_univ _
  | succ k ih =>
    rw [left_succ D k (by omega), Finset.mem_erase] at hx ⊢
    refine ⟨fun e => hx.1 ?_, ih (by omega) hx.2⟩
    subst e
    exact key_inj D (le_antisymm h ((nth_least D k (by omega)).2 x hx.2))

theorem mem_left_succ [NeZero N] (k : ℕ) (hk : k < N) (x : Fin N) : x ∈ left D (k + 1) ↔ key D (nth D k) < key D x := by
  have hl := nth_least D k hk
  rw [left_succ D k hk, Finset.mem_erase]
  constructor
  · rintro ⟨h, hx⟩
    exact lt_of_le_of_ne (hl.2 x hx) fun e => h (key_inj D e).symm
  · intro h
    exact ⟨fun e => (e ▸ h).ne rfl, left_up D k hk.le hl.1 h.le⟩

/-- Any listing of the points in the order lists them as `nth` does. -/
theorem eq_nth [NeZero N] (s : Fin N → Fin N) (hs : Function.Surjective s) (hm : ∀ i j, i < j → key D (s i) < key D (s j)) (k : Fin N) :
    s k = nth D k.val := by
  have hmem : ∀ k : ℕ, k ≤ N → ∀ j : Fin N, s j ∈ left D k ↔ k ≤ j.val := by
    intro k
    induction k with
    | zero => intro _ j; simp [left]
    | succ k ih =>
      intro hk j
      have ih := ih (by omega)
      have hle : Least D (left D k) (s ⟨k, by omega⟩) := by
        refine ⟨(ih _).2 le_rfl, fun y hy => ?_⟩
        obtain ⟨i, rfl⟩ := hs y
        have hki := (ih i).1 hy
        rcases hki.eq_or_lt with e | e
        · exact le_of_eq (congrArg (fun i => key D (s i)) (Fin.ext e))
        · exact (hm ⟨k, by omega⟩ i e).le
      rw [left_succ D k (by omega), ← hle.unique (nth_least D k (by omega)), Finset.mem_erase, ih]
      constructor
      · rintro ⟨h, h'⟩
        rcases h'.eq_or_lt with e | e
        · exact absurd (congrArg s (Fin.ext e.symm : j = ⟨k, by omega⟩)) h
        · exact e
      · intro h
        exact ⟨fun e => (hm ⟨k, by omega⟩ j h).ne (congrArg (key D) e.symm), by omega⟩
  refine Least.unique (D := D) (S := left D k.val) ⟨(hmem k k.isLt.le k).2 le_rfl, fun y hy => ?_⟩ (nth_least D k k.isLt)
  obtain ⟨i, rfl⟩ := hs y
  rcases ((hmem k k.isLt.le i).1 hy).eq_or_lt with e | e
  · exact le_of_eq (congrArg (fun i => key D (s i)) (Fin.ext e))
  · exact (hm k i e).le

end Order

/-! ## Folds of minima -/

theorem fold_min_eq {ι α : Type} [LinearOrder α] (s : Finset ι) (b : α) (f : ι → α) (x : ι) (hx : x ∈ s) (hb : f x ≤ b) (h : ∀ y ∈ s, f x ≤ f y) :
    s.fold min b f = f x := by
  refine le_antisymm ?_ ?_
  · exact (Finset.fold_min_le (f x)).2 (Or.inr ⟨x, hx, le_rfl⟩)
  · exact (Finset.le_fold_min (f x)).2 ⟨hb, h⟩

open Idealize.ShloMosaic in
theorem toInt_fold_minsi {ι : Type} (s : Finset ι) (b : BitVec 32) (f : ι → BitVec 32) :
    (s.fold IntOp.minsi b f).toInt = s.fold min b.toInt fun x => (f x).toInt :=
  (Finset.fold_hom (op' := min) (m := BitVec.toInt) fun x y => by
    unfold IntOp.minsi
    simp only [BitVec.slt]
    split <;> rename_i h <;> simp at h
    · exact (min_eq_left h.le).symm
    · exact (min_eq_right h).symm).symm

open Idealize.ShloMosaic in
theorem fold_minsi_eq {ι : Type} (s : Finset ι) (b : BitVec 32) (f : ι → BitVec 32) (x : ι) (hx : x ∈ s) (hb : (f x).toInt ≤ b.toInt)
    (h : ∀ y ∈ s, (f x).toInt ≤ (f y).toInt) : s.fold IntOp.minsi b f = f x := by
  apply BitVec.eq_of_toInt_eq
  rw [toInt_fold_minsi]
  exact fold_min_eq s b.toInt (fun x => (f x).toInt) x hx hb h

/-- A small number as a word. -/
abbrev word (n : ℕ) : BitVec 32 := BitVec.ofNat 32 n

theorem toInt_word {n : ℕ} (h : n < 2147483648) : (word n).toInt = n := by
  rw [BitVec.toInt_eq_toNat_of_lt (by simp; omega)]
  simp; omega

theorem word_inj {n m : ℕ} (hn : n < 2147483648) (hm : m < 2147483648) (h : word n = word m) : n = m := by
  have := congrArg BitVec.toInt h
  rw [toInt_word hn, toInt_word hm] at this
  exact_mod_cast this

/-! ## The lanes -/

/-- The points. -/
abbrev Pt := Fin 16384

/-- The point of row `j` and lane `l`. -/
def pt (j l : Fin 128) : Pt := ⟨j.val * 128 + l.val, by omega⟩

/-- The lane of a point. -/
def lane (n : Pt) : Fin 128 := ⟨n.val % 128, by omega⟩

theorem lane_pt (j l : Fin 128) : lane (pt j l) = l := Fin.ext (by simp [lane, pt])

theorem pt_row (n : Pt) : ∃ j, n = pt j (lane n) := ⟨⟨n.val / 128, by omega⟩, Fin.ext (by simp [lane, pt]; omega)⟩

variable (D : Pt → EReal)

/-- The points of `S` in lane `l`. -/
def inLane (S : Finset Pt) (l : Fin 128) : Finset Pt := S.filter fun n => lane n = l

theorem mem_inLane {S : Finset Pt} {l : Fin 128} {n : Pt} : n ∈ inLane S l ↔ n ∈ S ∧ lane n = l := Finset.mem_filter

/-- An entry of the table: a distance and a number. -/
abbrev Entry := EReal × BitVec 32

/-- The entries are the first points of `S`, in order. -/
def Chain : List Entry → Finset Pt → Prop
  | [], _ => True
  | e :: t, S => ∃ x, Least D S x ∧ e = (D x, word x.val) ∧ Chain t (S.erase x)

/-- One lane of the table: three entries, of which the first `n` are right, and `n` itself as a word. -/
structure Lane where
  e1 : Entry
  e2 : Entry
  e3 : Entry
  c : BitVec 32

/-- The lane keeps the first `n` points of `S`. -/
def Lane.Right (s : Lane) (S : Finset Pt) (n : ℕ) : Prop := s.c = word n ∧ n ≤ 3 ∧ Chain D ([s.e1, s.e2, s.e3].take n) S

/-- The lane with its first entry taken out. -/
def Lane.pop (s : Lane) : Lane := ⟨s.e2, s.e3, (⊤, 16384#32), s.c - 1#32⟩

variable {D}

theorem Lane.Right.head {s : Lane} {S : Finset Pt} {n : ℕ} (h : s.Right D S n) (hn : 1 ≤ n) : ∃ x, Least D S x ∧ s.e1 = (D x, word x.val) := by
  obtain ⟨n, rfl⟩ : ∃ k, n = k + 1 := ⟨n - 1, by omega⟩
  obtain ⟨x, hx, he, -⟩ := h.2.2
  exact ⟨x, hx, he⟩

theorem Lane.Right.pop {s : Lane} {S : Finset Pt} {n : ℕ} (h : s.Right D S n) (hn : 1 ≤ n) {p : Pt} (hp : Least D S p) :
    s.pop.Right D (S.erase p) (n - 1) := by
  obtain ⟨hc, h3, hch⟩ := h
  obtain ⟨n, rfl⟩ : ∃ k, n = k + 1 := ⟨n - 1, by omega⟩
  obtain ⟨x, hx, he, ht⟩ := hch
  obtain rfl := hx.unique hp
  refine ⟨?_, by omega, ?_⟩
  · show s.c - 1#32 = _
    rw [hc]
    have : n = 0 ∨ n = 1 ∨ n = 2 := by omega
    rcases this with rfl | rfl | rfl <;> decide
  · have : n = 0 ∨ n = 1 ∨ n = 2 := by omega
    rcases this with rfl | rfl | rfl <;> exact ht

/-- The table's least first entry: the first point of `R`. -/
theorem first_of_lanes (R : Finset Pt) (m1 : Fin 128 → EReal) (a1 : Fin 128 → BitVec 32)
    (h : ∀ l, ∃ x, Least D (inLane R l) x ∧ m1 l = D x ∧ a1 l = word x.val) :
    ∃ p, Least D R p ∧ Finset.univ.fold min ⊤ m1 = D p
      ∧ Finset.univ.fold Idealize.ShloMosaic.IntOp.minsi 2147483647#32 (fun l => if m1 l = D p then a1 l else 16384#32) = word p.val := by
  obtain ⟨x0, hx0, -⟩ := h 0
  obtain ⟨p, hp⟩ := exists_least (D := D) (S := R) ⟨x0, (mem_inLane.1 hx0.1).1⟩
  have hin (l) (x) (hx : Least D (inLane R l) x) : x ∈ R := (mem_inLane.1 hx.1).1
  obtain ⟨y, hy, hy1, hy2⟩ := h (lane p)
  have hyp : y = p := by
    refine key_inj D (le_antisymm (hy.2 p (mem_inLane.2 ⟨hp.1, rfl⟩)) (hp.2 y (hin _ _ hy)))
  subst hyp
  refine ⟨y, hp, ?_, ?_⟩
  · rw [← hy1]
    refine fold_min_eq _ _ _ _ (Finset.mem_univ _) le_top fun l _ => ?_
    obtain ⟨x, hx, hx1, -⟩ := h l
    rw [hy1, hx1]
    exact hp.dist_le (hin _ _ hx)
  · have hlt : y.val < 16384 := y.isLt
    refine (fold_minsi_eq _ _ _ (lane y) (Finset.mem_univ _) ?_ fun l _ => ?_).trans ?_
    · rw [if_pos hy1, hy2, toInt_word (by omega)]
      have : (2147483647#32 : BitVec 32).toInt = 2147483647 := by decide
      omega
    · rw [if_pos hy1, hy2, toInt_word (by omega)]
      split
      · rename_i he
        obtain ⟨x, hx, hx1, hx2⟩ := h l
        have hx' : x.val < 16384 := x.isLt
        rw [hx2, toInt_word (by omega)]
        have := hp.no_le (hin _ _ hx) (hx1.symm.trans he)
        exact_mod_cast this
      · have : (16384#32 : BitVec 32).toInt = 16384 := by decide
        omega
    · rw [if_pos hy1, hy2]

/-- The distances of a lane, with those out of `S` at infinity: least distance and its first number, and the same with that
    point out of `S`. -/
theorem first_of_rows (hD : ∀ n, D n < ⊤) (S : Finset Pt) (l : Fin 128) (hS : (inLane S l).Nonempty) (f : Fin 128 → EReal)
    (hf : ∀ j, f j = if pt j l ∈ S then D (pt j l) else ⊤) :
    ∃ x, Least D (inLane S l) x ∧ Finset.univ.fold min ⊤ f = D x
      ∧ Finset.univ.fold Idealize.ShloMosaic.IntOp.minsi 2147483647#32 (fun j => if f j = D x then word (pt j l).val else 16384#32) = word x.val
      ∧ ∀ j, (if word (pt j l).val = word x.val then ⊤ else f j) = if pt j l ∈ S.erase x then D (pt j l) else ⊤ := by
  obtain ⟨x, hx⟩ := exists_least (D := D) hS
  obtain ⟨hxS, hxl⟩ := mem_inLane.1 hx.1
  obtain ⟨j0, hj0⟩ := pt_row x
  rw [hxl] at hj0
  have hf0 : f j0 = D x := by rw [hf, ← hj0, if_pos hxS]
  have hxlt : x.val < 16384 := x.isLt
  refine ⟨x, hx, ?_, ?_, fun j => ?_⟩
  · rw [← hf0]
    refine fold_min_eq _ _ _ _ (Finset.mem_univ _) le_top fun j _ => ?_
    rw [hf0, hf]
    split
    · rename_i h; exact hx.dist_le (mem_inLane.2 ⟨h, lane_pt j l⟩)
    · exact le_top
  · refine (fold_minsi_eq _ _ _ j0 (Finset.mem_univ _) ?_ fun j _ => ?_).trans ?_
    · rw [if_pos hf0, ← hj0, toInt_word (by omega)]
      have : (2147483647#32 : BitVec 32).toInt = 2147483647 := by decide
      omega
    · rw [if_pos hf0, ← hj0, toInt_word (by omega)]
      split
      · rename_i he
        have hlt : (pt j l).val < 16384 := (pt j l).isLt
        rw [toInt_word (by omega)]
        rw [hf] at he
        split at he
        · rename_i h
          exact_mod_cast hx.no_le (mem_inLane.2 ⟨h, lane_pt j l⟩) he
        · exact absurd he.symm (hD x).ne
      · have : (16384#32 : BitVec 32).toInt = 16384 := by decide
        omega
    · rw [if_pos hf0, ← hj0]
  · have hlt : (pt j l).val < 16384 := (pt j l).isLt
    by_cases e : pt j l = x
    · rw [if_pos (by rw [e]), if_neg (by rw [e]; exact Finset.notMem_erase x S)]
    · rw [if_neg fun h => e (Fin.ext (word_inj (by omega) (by omega) h)), hf]
      simp only [Finset.mem_erase, ne_eq, e, not_false_eq_true, true_and]

theorem inLane_erase_other {R : Finset Pt} {p : Pt} {l : Fin 128} (h : lane p ≠ l) : inLane (R.erase p) l = inLane R l := by
  ext n
  simp only [mem_inLane, Finset.mem_erase]
  constructor
  · rintro ⟨⟨-, a⟩, b⟩; exact ⟨a, b⟩
  · rintro ⟨a, b⟩; exact ⟨⟨fun e => h (e ▸ b), a⟩, b⟩

theorem inLane_erase (R : Finset Pt) (p : Pt) (l : Fin 128) : inLane (R.erase p) l = (inLane R l).erase p := by
  ext n
  simp only [mem_inLane, Finset.mem_erase]
  tauto

theorem Least.inLane {R : Finset Pt} {p : Pt} (h : Least D R p) : Least D (inLane R (lane p)) p :=
  ⟨mem_inLane.2 ⟨h.1, rfl⟩, fun y hy => h.2 y (mem_inLane.1 hy).1⟩

/-- A lane keeps most of its points through the first few places. -/
theorem card_inLane (k : ℕ) (hk : k ≤ 128) (l : Fin 128) : 128 - k ≤ (inLane (left D k) l).card := by
  have h1 : (Finset.univ.image fun j => pt j l).card = 128 := by
    rw [Finset.card_image_of_injective _ fun j j' h => ?_]
    · simp
    · have := congrArg Fin.val h
      simp only [pt] at this
      exact Fin.ext (by omega)
  have h2 : (Finset.univ.image fun j => pt j l) ⊆ inLane (left D k) l ∪ (left D k)ᶜ := by
    intro n hn
    obtain ⟨j, -, rfl⟩ := Finset.mem_image.1 hn
    by_cases h : pt j l ∈ left D k
    · exact Finset.mem_union_left _ (mem_inLane.2 ⟨h, lane_pt j l⟩)
    · exact Finset.mem_union_right _ (Finset.mem_compl.2 h)
  have h3 := (Finset.card_le_card h2).trans (Finset.card_union_le _ _)
  rw [h1, Finset.card_compl, card_left D k (by omega), Fintype.card_fin] at h3
  omega

end Cert.Proof.Nearest

end
-- ==== Proof.KnnValue.lean ====
/-
  What the nearest-neighbour body computes at the ideal values: column `k` of its block is the `k`-th nearest point of each
  row's centre, by distance and then by number, with the batch's offset added. The table of candidates keeps, in every lane,
  one to three of the nearest points that are left; a trip takes the nearest of all out of its lane, or builds the table anew
  behind that point when a lane has run dry.
-/
module

public import proofs.«01_k».proof.Proof.KnnRun
public import proofs.«01_k».proof.Proof.Nearest
public import Idealize.ShloMosaic.Lib.Pointwise

@[expose] public section

noncomputable section

namespace Cert.Proof.Knn

open Cert.KernelIdeal Cert.KernelIdeal.Gen Cert.Proof.Nearest
open Idealize.ShloMosaic Idealize.ShloMosaic.TcCoe

/-- The infinite distance, as the readings below spell it. -/
abbrev inf : Ideal .f32 := Ideal.ofBits .f32 2139095040#32

theorem inf_eq : Ideal.ofBits .f32 2139095040#32 = ⊤ := by simp [Ideal.ofBits, Ideal.ieee]

theorem inf_top : inf = ⊤ := inf_eq

theorem neg_inf_eq : Ideal.ofBits .f32 4286578688#32 = ⊥ := by simp [Ideal.ofBits, Ideal.ieee]

/-- The lane `l` of row `r` of the candidates. -/
def laneOf (s : Cache Ideal) (r : Fin 8) (l : Fin 128) : Lane :=
  ⟨(s.m1 (ix2 r l), s.a1 (ix2 r l)), (s.m2 (ix2 r l), s.a2 (ix2 r l)), (s.m3 (ix2 r l), s.a3 (ix2 r l)), s.c (ix2 r l)⟩

/-- The distances of row `r`, by point. -/
def distOf (d : FVec Ideal S8x128x128 .f32) (r : Fin 8) (n : Pt) : EReal := d (ix3 r ⟨n.val / 128, by omega⟩ (lane n))

theorem distOf_pt (d : FVec Ideal S8x128x128 .f32) (r : Fin 8) (j l : Fin 128) : distOf d r (pt j l) = d (ix3 r j l) := by
  unfold distOf
  rw [lane_pt]
  congr 2
  exact Fin.ext (by simp [pt]; omega)

theorem near_apply (s : Cache Ideal) (r : Fin 8) : near s (ix2 r 0) = Finset.univ.fold min ⊤ fun l => s.m1 (ix2 r l) := by
  pointwise [near, k1_pay32]
  rw [inf_eq]

theorem nearNo_apply (s : Cache Ideal) (r : Fin 8) : nearNo s (ix2 r 0)
    = Finset.univ.fold IntOp.minsi 2147483647#32 fun l => if s.m1 (ix2 r l) = near s (ix2 r 0) then s.a1 (ix2 r l) else 16384#32 := by
  pointwise [nearNo, k1_pay33]

theorem cmpi_eq_iff (a b : BitVec 32) : IntOp.cmpi .eq a b = 1#1 ↔ a = b := by
  by_cases h : a = b
  · simp [h, IntOp.cmpi]
  · simp only [IntOp.cmpi, beq_eq_false_iff_ne.2 h, h, iff_false]
    decide

theorem hit_apply (s : Cache Ideal) (r : Fin 8) (l : Fin 128) : hit s (ix2 r l) = 1#1 ↔ word l.val = nearNo s (ix2 r 0) &&& 127#32 := by
  pointwise [hit, k1_pay35]
  exact cmpi_eq_iff _ _

theorem pop_apply (s : Cache Ideal) (r : Fin 8) (l : Fin 128) :
    laneOf (pop s) r l = if hit s (ix2 r l) = 1#1 then (laneOf s r l).pop else laneOf s r l := by
  unfold laneOf Lane.pop
  pointwise [pop, k1_pay36, k1_pay37, k1_pay38, k1_pay8, k1_pay9, k1_pay10, k1_pay12, k1_pay11]
  change Lane.mk (Scalar.select (hit s (ix2 r l)) _ _, Scalar.select (hit s (ix2 r l)) _ _) (Scalar.select (hit s (ix2 r l)) _ _, Scalar.select (hit s (ix2 r l)) _ _) _ _ = _
  by_cases h : hit s (ix2 r l) = 1#1
  · simp only [h, if_true, Scalar.select, inf_eq]
    rfl
  · have h0 : hit s (ix2 r l) = 0#1 := by
      generalize hit s (ix2 r l) = b at h ⊢
      revert h b; decide
    simp only [h0, Scalar.select, IntOp.subi]
    simp

/-- The number of a point, as the body counts it. -/
theorem number_apply (r : Fin 8) (j l : Fin 128) : k1_pay51 (ix3 r j l) = word (pt j l).val := by
  pointwise [k1_pay51]
  simp only [IntOp.addi, IntOp.muli, pt, word]
  rw [BitVec.ofNat_add, BitVec.ofNat_mul]

theorem mask_apply (d : FVec Ideal S8x128x128 .f32) (m : FVec Ideal S8x1 .f32) (n : IVec S8x1 32) (r : Fin 8) (j l : Fin 128) :
    k1_pay22 (F := Ideal) k1_pay51 inf m n d (ix3 r j l)
      = if d (ix3 r j l) < m (ix2 r 0) ∨ (d (ix3 r j l) = m (ix2 r 0) ∧ (word (pt j l).val).toInt ≤ (n (ix2 r 0)).toInt) then ⊤ else d (ix3 r j l) := by
  have e := number_apply r j l
  pointwise [k1_pay22]
  rw [inf_top, e]
  by_cases h1 : d (ix3 r j l) < m (ix2 r 0) <;> by_cases h2 : d (ix3 r j l) = m (ix2 r 0) <;>
    by_cases h3 : (word (pt j l).val).toInt ≤ (n (ix2 r 0)).toInt <;>
    simp [h1, h2, h3, Scalar.select, IntOp.ori, IntOp.andi, IntOp.cmpi, BitVec.sle]

theorem cases_eq {α : Type} (a b : BitVec 32) (x y : α) : Scalar.select (IntOp.cmpi .eq a b) x y = if a = b then x else y := by
  by_cases h : a = b
  · simp [h, IntOp.cmpi, Scalar.select]
  · rw [if_neg h]
    simp only [IntOp.cmpi, Scalar.select, beq_eq_false_iff_ne.2 h]
    rfl

/-- What each lane keeps, given which points are masked. -/
theorem build_right (d : FVec Ideal S8x128x128 .f32) (m : FVec Ideal S8x1 .f32) (n : IVec S8x1 32) (r : Fin 8) (l : Fin 128)
    (hD : ∀ x, distOf d r x < ⊤) (S : Finset Pt) (hS : 3 ≤ (inLane S l).card)
    (hm : ∀ j, k1_pay22 (F := Ideal) k1_pay51 inf m n d (ix3 r j l) = if pt j l ∈ S then distOf d r (pt j l) else ⊤) :
    (laneOf (build d m n) r l).Right (distOf d r) (inLane S l) 3 := by
  obtain ⟨x, hx, e1, a1, f1⟩ := first_of_rows hD S l (Finset.card_pos.1 (by omega)) _ hm
  have c1 : (inLane (S.erase x) l).card = (inLane S l).card - 1 := by rw [inLane_erase, Finset.card_erase_of_mem hx.1]
  have v1 : k1_pay23 (F := Ideal) k1_pay51 inf m n d (ix2 r l) = distOf d r x := by
    rw [← e1, ← inf_eq]
    pointwise [k1_pay23]
  have w1 : k1_pay24 (F := Ideal) k1_pay51 16384#32 inf m n d (ix2 r l) = word x.val := by
    rw [← a1, ← v1]
    pointwise [k1_pay24]
    simp only [number_apply]
  obtain ⟨y, hy, e2, a2, f2⟩ := first_of_rows hD (S.erase x) l (Finset.card_pos.1 (by omega)) (fun j => k1_pay25 (F := Ideal) k1_pay51 16384#32 inf m n d (ix3 r j l)) (by
    intro j
    rw [← f1 j, ← w1, ← number_apply r j l]
    pointwise [k1_pay25]
    rw [inf_top]
    exact cases_eq _ _ _ _)
  have c2 : (inLane ((S.erase x).erase y) l).card = (inLane (S.erase x) l).card - 1 := by rw [inLane_erase, Finset.card_erase_of_mem hy.1]
  have v2 : k1_pay26 (F := Ideal) k1_pay51 16384#32 inf m n d (ix2 r l) = distOf d r y := by
    rw [← e2, ← inf_eq]
    pointwise [k1_pay26]
  have w2 : k1_pay27 (F := Ideal) k1_pay51 16384#32 inf m n d (ix2 r l) = word y.val := by
    rw [← a2, ← v2]
    pointwise [k1_pay27]
    simp only [number_apply]
  obtain ⟨z, hz, e3, a3, f3⟩ := first_of_rows hD ((S.erase x).erase y) l (Finset.card_pos.1 (by omega)) (fun j => k1_pay28 (F := Ideal) k1_pay51 16384#32 inf m n d (ix3 r j l)) (by
    intro j
    rw [← f2 j, ← w2, ← number_apply r j l]
    pointwise [k1_pay28]
    rw [inf_top]
    exact cases_eq _ _ _ _)
  have v3 : k1_pay29 (F := Ideal) k1_pay51 16384#32 inf m n d (ix2 r l) = distOf d r z := by
    rw [← e3, ← inf_eq]
    pointwise [k1_pay29]
  have w3 : k1_pay30 (F := Ideal) k1_pay51 16384#32 inf m n d (ix2 r l) = word z.val := by
    rw [← a3, ← v3]
    pointwise [k1_pay30]
    simp only [number_apply]
  refine ⟨?_, le_rfl, x, hx, ?_, y, ?_, ?_, z, ?_, ?_, trivial⟩
  · unfold laneOf
    pointwise [build, k1_pay20, k1_pay31]
    rw [v1, v2, v3, inf_eq]
    simp only [(hD _).ne, ne_eq, not_false_eq_true, decide_true]
    rfl
  · unfold laneOf
    pointwise [build, k1_pay14, k1_pay15]
    rw [v1, w1]
  · rw [← inLane_erase]; exact hy
  · unfold laneOf
    pointwise [build, k1_pay16, k1_pay17]
    rw [v2, w2]
  · rw [← inLane_erase, ← inLane_erase]; exact hz
  · unfold laneOf
    pointwise [build, k1_pay18, k1_pay19]
    rw [v3, w3]

/-- Every lane keeps at least one of the nearest points left after `k`. -/
def Good (d : FVec Ideal S8x128x128 .f32) (s : Cache Ideal) (k : ℕ) : Prop :=
  ∀ r l, ∃ n, 1 ≤ n ∧ (laneOf s r l).Right (distOf d r) (inLane (left (distOf d r) k) l) n

theorem near_of_good {d : FVec Ideal S8x128x128 .f32} {s : Cache Ideal} {k : ℕ} (h : Good d s k) (hk : k < 16384) (r : Fin 8) :
    near s (ix2 r 0) = distOf d r (nth (distOf d r) k) ∧ nearNo s (ix2 r 0) = word (nth (distOf d r) k).val := by
  obtain ⟨p, hp, e, a⟩ := first_of_lanes (D := distOf d r) (left (distOf d r) k) (fun l => s.m1 (ix2 r l)) (fun l => s.a1 (ix2 r l)) fun l => by
    obtain ⟨n, hn, hr⟩ := h r l
    obtain ⟨x, hx, e⟩ := hr.head hn
    exact ⟨x, hx, congrArg Prod.fst e, congrArg Prod.snd e⟩
  obtain rfl := hp.unique (nth_least _ k hk)
  have e' := (near_apply s r).trans e
  exact ⟨e', by rw [nearNo_apply, e', a]⟩

theorem first_good (d : FVec Ideal S8x128x128 .f32) (hD : ∀ r x, distOf d r x < ⊤) (hb : ∀ r x, ⊥ < distOf d r x) : Good d (first d) 0 := by
  intro r l
  refine ⟨3, by omega, build_right d _ _ r l (hD r) _ (le_trans (by omega) (card_inLane (D := distOf d r) 0 (by omega) l)) fun j => ?_⟩
  rw [mask_apply, if_pos (show pt j l ∈ left (distOf d r) 0 from Finset.mem_univ _), distOf_pt, if_neg]
  have := hb r (pt j l)
  rw [distOf_pt] at this
  have e : (broadcast S8x1 (Scalar.ofBits (F := Ideal) .f32 0xFF800000#32) : FVec Ideal S8x1 .f32) (ix2 r 0) = ⊥ := by
    pointwise
    rw [neg_inf_eq]
  simp only [e]
  rintro (h | h)
  · exact not_lt_bot h
  · exact this.ne h.1.symm

theorem rebuilt_good {d : FVec Ideal S8x128x128 .f32} {s : Cache Ideal} {k : ℕ} (hD : ∀ r x, distOf d r x < ⊤) (h : Good d s k) (hk : k < 125) :
    Good d (build d (near s) (nearNo s)) (k + 1) := by
  intro r l
  refine ⟨3, by omega, build_right d _ _ r l (hD r) _ (le_trans (by omega) (card_inLane (D := distOf d r) (k + 1) (by omega) l)) fun j => ?_⟩
  obtain ⟨e, a⟩ := near_of_good h (by omega) r
  have h1 : (pt j l).val < 16384 := (pt j l).isLt
  have h2 : (nth (distOf d r) k).val < 16384 := (nth (distOf d r) k).isLt
  rw [mask_apply, e, a, ← distOf_pt d, toInt_word (by omega), toInt_word (by omega)]
  by_cases hc : pt j l ∈ left (distOf d r) (k + 1)
  · rw [if_pos hc, if_neg]
    have := (mem_left_succ _ k (by omega) _).1 hc
    intro h'
    refine absurd this (not_lt.2 ((key_le _).2 (h'.imp_right fun h' => ⟨h'.1, ?_⟩)))
    exact_mod_cast h'.2
  · rw [if_neg hc, if_pos]
    have := not_lt.1 fun h' => hc ((mem_left_succ _ k (by omega) _).2 h')
    refine ((key_le _).1 this).imp_right fun h' => ⟨h'.1, ?_⟩
    exact_mod_cast h'.2

theorem hit_iff {d : FVec Ideal S8x128x128 .f32} {s : Cache Ideal} {k : ℕ} (h : Good d s k) (hk : k < 16384) (r : Fin 8) (l : Fin 128) :
    hit s (ix2 r l) = 1#1 ↔ lane (nth (distOf d r) k) = l := by
  rw [hit_apply, (near_of_good h hk r).2]
  generalize nth (distOf d r) k = p
  have hp : p.val < 16384 := p.isLt
  have e : word p.val &&& 127#32 = word (lane p).val := by
    apply BitVec.eq_of_toNat_eq
    simp only [BitVec.toNat_and, BitVec.toNat_ofNat, lane]
    rw [Nat.mod_eq_of_lt (show p.val < 2 ^ 32 by omega), show 127 % 2 ^ 32 = 2 ^ 7 - 1 by norm_num, Nat.and_two_pow_sub_one_eq_mod]
    omega
  rw [e]
  constructor
  · intro e'
    exact (Fin.ext (word_inj (by omega) (by omega) e')).symm
  · rintro rfl; rfl

/-- After the nearest is taken out, every lane is right, if one may have run dry. -/
theorem pop_right {d : FVec Ideal S8x128x128 .f32} {s : Cache Ideal} {k : ℕ} (h : Good d s k) (hk : k < 16384) (r : Fin 8) (l : Fin 128) :
    ∃ n, (laneOf (pop s) r l).Right (distOf d r) (inLane (left (distOf d r) (k + 1)) l) n := by
  obtain ⟨n, hn, hr⟩ := h r l
  have hl := nth_least (distOf d r) k hk
  rw [pop_apply, left_succ _ k hk]
  by_cases hc : hit s (ix2 r l) = 1#1
  · rw [if_pos hc]
    have e := (hit_iff h hk r l).1 hc
    subst e
    exact ⟨n - 1, by rw [inLane_erase]; exact hr.pop hn hl.inLane⟩
  · rw [if_neg hc]
    exact ⟨n, by rw [inLane_erase_other fun e => hc ((hit_iff h hk r l).2 e)]; exact hr⟩

theorem not_dry {s : Cache Ideal} (h : dry s ≠ 1#1) (r : Fin 8) (l : Fin 128) (hc : ∀ r l, 0 ≤ ((pop s).c (ix2 r l)).toInt) : (pop s).c (ix2 r l) ≠ 0#32 := by
  intro h0
  apply h
  have e : k1_pay13 (F := Ideal) (hit s) s.c (ix3 0 0 0) = 0#32 := by
    have e2 : ∀ r l, (pop s).c (ix2 r l) = IntOp.subi (s.c (ix2 r l)) (BitVec.setWidth 32 (hit s (ix2 r l))) := fun r l => by
      pointwise [pop, k1_pay12, k1_pay11]
    pointwise [k1_pay13, k1_pay11]
    refine (fold_minsi_eq _ _ _ (r, l) (Finset.mem_univ _) ?_ fun y _ => ?_).trans ((e2 r l).symm.trans h0)
    · rw [← e2, h0]; decide
    · rw [← e2, ← e2, h0]
      exact hc _ _
  have e1 : extractAt ![0, 0, 0] (k1_pay13 (F := Ideal) (hit s) s.c) inpos_S1x1x1_p0_0_0 = 0#32 := by
    rw [← e]
    pointwise
  unfold dry
  rw [e1]
  decide

theorem next_good {d : FVec Ideal S8x128x128 .f32} {s : Cache Ideal} {k : ℕ} (hD : ∀ r x, distOf d r x < ⊤) (h : Good d s k) (hk : k < 125) :
    Good d (next d s) (k + 1) := by
  unfold next
  split
  · exact rebuilt_good hD h hk
  · rename_i hdry
    have hc : ∀ r l, 0 ≤ ((pop s).c (ix2 r l)).toInt := fun r l => by
      obtain ⟨n, hn, hn3, -⟩ := pop_right h (by omega) r l
      rw [show (pop s).c (ix2 r l) = word n from hn, toInt_word (by omega)]
      omega
    intro r l
    obtain ⟨n, hr⟩ := pop_right h (by omega) r l
    refine ⟨n, ?_, hr⟩
    by_contra h0
    obtain rfl : n = 0 := by omega
    exact not_dry hdry r l hc hr.1

theorem st_good (d : FVec Ideal S8x128x128 .f32) (b : BitVec 32) (hD : ∀ r x, distOf d r x < ⊤) (hb : ∀ r x, ⊥ < distOf d r x) (k : ℕ) (hk : k ≤ 32) :
    Good d (st d b (first d) k).2 k := by
  induction k with
  | zero => exact first_good d hD hb
  | succ k ih =>
    have ht : k < k1_t1_loop.trips := by have : k1_t1_loop.trips = 32 := by decide
                                         omega
    have hn := next_good hD (ih (by omega)) (by omega)
    have e : (st d b (first d) (k + 1)).2 = next d (st d b (first d) k).2 := by rw [st, dif_pos ht]
    rw [e]
    exact hn

/-- Column `k` of the block: the `k`-th nearest point, in its batch's rows. -/
theorem nearest_apply (d : FVec Ideal S8x128x128 .f32) (b : BitVec 32) (hD : ∀ r x, distOf d r x < ⊤) (hb : ∀ r x, ⊥ < distOf d r x) (r : Fin 8) (k : Fin 32) :
    nearest d b (ix2 r k) = word (nth (distOf d r) k.val).val + b * 16384#32 := by
  have key : ∀ n : ℕ, n ≤ 32 → k.val < n → (st d b (first d) n).1 (ix2 r k) = word (nth (distOf d r) k.val).val + b * 16384#32 := by
    intro n
    induction n with
    | zero => intro _ h; omega
    | succ n ih =>
      intro hn hk
      have ht : n < k1_t1_loop.trips := by have : k1_t1_loop.trips = 32 := by decide
                                           omega
      have hg := near_of_good (st_good d b hD hb n (by omega)) (by omega) r
      have ih := ih (by omega)
      rw [st_succ d b (first d) ⟨n, ht⟩]
      generalize st d b (first d) n = s at hg ih
      have e : k1_pay34 (F := Ideal) b columns 16384#32 0#32 1#32 ⟨n, ht⟩ s.1 s.2.m1 s.2.a1 (ix2 r k)
          = if k.val = n then nearNo s.2 (ix2 r 0) + b * 16384#32 else s.1 (ix2 r k) := by
        pointwise [k1_pay34]
        have hiv : Scf.iv 0#32 1#32 n = word n := by simp [Scf.iv]
        rw [hiv, cases_eq]
        have hkn : (BitVec.ofNat 32 k.val = word n) = (k.val = n) := propext ⟨fun e => word_inj (by omega) (by omega) e, fun e => by rw [e]⟩
        simp only [hkn]
        rfl
      refine e.trans ?_
      by_cases h : k.val = n
      · rw [if_pos h, hg.2, h]
      · rw [if_neg h]
        exact ih (by omega)
  exact key 32 (by omega) (by omega)

end Cert.Proof.Knn

end
-- ==== Proof.Farthest.lean ====
/-
  Farthest point sampling apart from any program: a point, the distances to the points chosen so far, and the first point
  whose distance is the greatest.
-/
module

public import proofs.«01_k».proof.Proof.Nearest
public import Mathlib.Data.EReal.Operations

@[expose] public section

noncomputable section

namespace Cert.Proof.Farthest

open Cert.Proof.Nearest

/-- `x` is the first point of `S` whose value is the greatest there. -/
def FirstMax (d : Pt → EReal) (S : Finset Pt) (x : Pt) : Prop := x ∈ S ∧ ∀ y ∈ S, d y ≤ d x ∧ (d y = d x → x ≤ y)

theorem FirstMax.unique {d : Pt → EReal} {S : Finset Pt} {x y : Pt} (hx : FirstMax d S x) (hy : FirstMax d S y) : x = y := by
  have e : d x = d y := le_antisymm (hy.2 x hx.1).1 (hx.2 y hy.1).1
  exact le_antisymm ((hx.2 y hy.1).2 e.symm) ((hy.2 x hx.1).2 e)

theorem exists_firstMax (d : Pt → EReal) : ∃ x, FirstMax d Finset.univ x := by
  obtain ⟨x, hx⟩ := exists_least (D := fun n => - d n) (S := Finset.univ) ⟨0, Finset.mem_univ _⟩
  refine ⟨x, Finset.mem_univ _, fun y hy => ⟨EReal.neg_le_neg_iff.1 (hx.dist_le hy), fun e => hx.no_le hy (by simp [e])⟩⟩

/-- The first point of greatest value. -/
def far (d : Pt → EReal) : Pt := (exists_firstMax d).choose

theorem far_firstMax (d : Pt → EReal) : FirstMax d Finset.univ (far d) := (exists_firstMax d).choose_spec

/-- The squared distance of two points, of coordinates `X`. -/
def sq (X : Pt → Fin 3 → EReal) (n p : Pt) : EReal :=
  (X n 0 - X p 0) * (X n 0 - X p 0) + (X n 1 - X p 1) * (X n 1 - X p 1) + (X n 2 - X p 2) * (X n 2 - X p 2)

/-- The distances once `p` is chosen. -/
def closer (X : Pt → Fin 3 → EReal) (d : Pt → EReal) (p : Pt) (n : Pt) : EReal := min (d n) (sq X n p)

/-- The point chosen at step `k`, and the distances to those chosen before it. -/
def fps (X : Pt → Fin 3 → EReal) : ℕ → Pt × (Pt → EReal)
  | 0 => (0, fun _ => ⊤)
  | k + 1 => (far (closer X (fps X k).2 (fps X k).1), closer X (fps X k).2 (fps X k).1)

theorem fps_succ (X : Pt → Fin 3 → EReal) (k : ℕ) : (fps X (k + 1)).1 = far (fps X (k + 1)).2 := rfl

/-- The points are real. -/
def Real (X : Pt → Fin 3 → EReal) : Prop := ∀ n i, X n i ≠ ⊤ ∧ X n i ≠ ⊥

theorem Real.lift {X : Pt → Fin 3 → EReal} (h : Real X) : ∃ Y : Pt → Fin 3 → ℝ, X = fun n i => (Y n i : EReal) :=
  ⟨fun n i => (X n i).toReal, by funext n i; exact (EReal.coe_toReal (h n i).1 (h n i).2).symm⟩

theorem bot_lt_sq {X : Pt → Fin 3 → EReal} (h : Real X) (n p : Pt) : ⊥ < sq X n p := by
  obtain ⟨Y, rfl⟩ := h.lift
  unfold sq
  exact_mod_cast EReal.bot_lt_coe _

theorem bot_lt_fps {X : Pt → Fin 3 → EReal} (h : Real X) (k : ℕ) (n : Pt) : ⊥ < (fps X k).2 n := by
  induction k with
  | zero => exact bot_lt_top
  | succ k ih => exact lt_min ih (bot_lt_sq h n _)

end Cert.Proof.Farthest

end
-- ==== Proof.FpsValue.lean ====
/-
  What the farthest-point body computes at the ideal values: the coordinates of the points `Farthest.fps` chooses, one per
  column.
-/
module

public import proofs.«01_k».proof.Proof.FpsRun
public import proofs.«01_k».proof.Proof.Farthest
public import Idealize.ShloMosaic.Lib.Pointwise

@[expose] public section

noncomputable section

namespace Cert.Proof.Fps

open Cert.KernelIdeal Cert.KernelIdeal.Gen Cert.Proof.Nearest Cert.Proof.Farthest
open Idealize.ShloMosaic Idealize.ShloMosaic.TcCoe

/-- The point at row `r` and column `c` of the block. -/
def at8 (r : Fin 8) (c : Fin 2048) : Pt := ⟨r.val * 2048 + c.val, by omega⟩

theorem at8_surj (n : Pt) : ∃ r c, n = at8 r c := ⟨⟨n.val / 2048, by omega⟩, ⟨n.val % 2048, by omega⟩, Fin.ext (by simp [at8]; omega)⟩

theorem at8_inj {r r' : Fin 8} {c c' : Fin 2048} (h : at8 r c = at8 r' c') : r = r' ∧ c = c' := by
  have := congrArg Fin.val h
  simp only [at8] at this
  exact ⟨Fin.ext (by omega), Fin.ext (by omega)⟩

theorem top_eq : Ideal.ofBits .f32 2139095040#32 = ⊤ := by simp [Ideal.ofBits, Ideal.ieee]

theorem bot_eq : Ideal.ofBits .f32 4286578688#32 = ⊥ := by simp [Ideal.ofBits, Ideal.ieee]

theorem number_apply (r : Fin 8) (c : Fin 2048) : k0_pay14 (ix2 r c) = word (at8 r c).val := by
  pointwise [k0_pay14]
  simp only [IntOp.addi, IntOp.muli, at8, word]
  rw [BitVec.ofNat_add, BitVec.ofNat_mul]

theorem select_eq {α : Type} (a b : BitVec 32) (x y : α) : Scalar.select (IntOp.cmpi .eq a b) x y = if a = b then x else y := by
  by_cases h : a = b
  · simp [h, IntOp.cmpi, Scalar.select]
  · rw [if_neg h]
    simp only [IntOp.cmpi, Scalar.select, beq_eq_false_iff_ne.2 h]
    rfl

/-- The next point: the first of greatest distance. -/
theorem argmax_apply (d : FVec Ideal S8x2048 .f32) (e : Pt → EReal) (h : ∀ r c, d (ix2 r c) = e (at8 r c)) : k0_pay19 d (ix2 0 0) = word (far e).val := by
  have hf := far_firstMax e
  obtain ⟨r0, c0, h0⟩ := at8_surj (far e)
  pointwise [k0_pay19]
  simp only [h, bot_eq, number_apply]
  have hM : Finset.fold max ⊥ (fun r => Finset.fold max ⊥ (fun c => e (at8 r c)) Finset.univ) Finset.univ = e (far e) := by
    apply le_antisymm
    · refine Finset.fold_max_le _ |>.2 ⟨bot_le, fun r _ => Finset.fold_max_le _ |>.2 ⟨bot_le, fun c _ => (hf.2 _ (Finset.mem_univ _)).1⟩⟩
    · refine Finset.le_fold_max _ |>.2 (Or.inr ⟨r0, Finset.mem_univ _, Finset.le_fold_max _ |>.2 (Or.inr ⟨c0, Finset.mem_univ _, le_of_eq (by rw [← h0])⟩)⟩)
  rw [hM]
  have hlt : (far e).val < 16384 := (far e).isLt
  have hb : ∀ r c, ((far e).val : ℤ) ≤ (if e (at8 r c) = e (far e) then word (at8 r c).val else 16384#32).toInt := fun r c => by
    have : (at8 r c).val < 16384 := (at8 r c).isLt
    split
    · rename_i he
      rw [toInt_word (by omega)]
      exact_mod_cast (hf.2 _ (Finset.mem_univ _)).2 he
    · have : (16384#32 : BitVec 32).toInt = 16384 := by decide
      omega
  have h2 : (2147483647#32 : BitVec 32).toInt = 2147483647 := by decide
  apply BitVec.eq_of_toInt_eq
  rw [toInt_fold_minsi, toInt_word (n := (far e).val) (by omega)]
  simp only [toInt_fold_minsi]
  apply le_antisymm
  · refine Finset.fold_min_le _ |>.2 (Or.inr ⟨r0, Finset.mem_univ _, Finset.fold_min_le _ |>.2 (Or.inr ⟨c0, Finset.mem_univ _, ?_⟩)⟩)
    rw [← h0, if_pos rfl, toInt_word (by omega)]
  · refine Finset.le_fold_min _ |>.2 ⟨by omega, fun r _ => Finset.le_fold_min _ |>.2 ⟨by omega, fun c _ => hb r c⟩⟩

theorem sum_pick (x : FVec Ideal S8x2048 .f32) (w : IVec S1x1 32) (p : Pt) (hw : w (ix2 0 0) = word p.val) (e : Pt → EReal) (h : ∀ r c, x (ix2 r c) = e (at8 r c)) :
    (∑ r : Fin 8, ∑ c : Fin 2048, Scalar.select (IntOp.cmpi .eq (k0_pay14 (ix2 r c)) (w (ix2 0 0))) (x (ix2 r c)) 0) = e p := by
  obtain ⟨r0, c0, rfl⟩ := at8_surj p
  have e1 : ∀ r c, Scalar.select (IntOp.cmpi .eq (k0_pay14 (ix2 r c)) (w (ix2 0 0))) (x (ix2 r c)) (0 : EReal) = if r = r0 ∧ c = c0 then e (at8 r c) else 0 := fun r c => by
    have h1 : (at8 r c).val < 16384 := (at8 r c).isLt
    have h2 : (at8 r0 c0).val < 16384 := (at8 r0 c0).isLt
    rw [select_eq, number_apply, hw, h]
    have : (word (at8 r c).val = word (at8 r0 c0).val) ↔ (r = r0 ∧ c = c0) :=
      ⟨fun e => at8_inj (Fin.ext (word_inj (by omega) (by omega) e)), fun e => by rw [e.1, e.2]⟩
    simp only [this]
  simp only [e1]
  rw [Finset.sum_eq_single r0, Finset.sum_eq_single c0]
  · simp
  · intro c _ hc; simp [hc]
  · simp
  · intro r _ hr; simp [hr]
  · simp

theorem pick_x (x : FVec Ideal S8x2048 .f32) (w : IVec S1x1 32) (p : Pt) (hw : w (ix2 0 0) = word p.val) (e : Pt → EReal) (h : ∀ r c, x (ix2 r c) = e (at8 r c)) :
    k0_pay3 x k0_pay14 w (ix2 0 0) = e p := by
  rw [← sum_pick x w p hw e h]
  pointwise [k0_pay3, k0_pay2]

theorem pick_y (x : FVec Ideal S8x2048 .f32) (w : IVec S1x1 32) (p : Pt) (hw : w (ix2 0 0) = word p.val) (e : Pt → EReal) (h : ∀ r c, x (ix2 r c) = e (at8 r c)) :
    k0_pay4 x k0_pay14 w (ix2 0 0) = e p := by
  rw [← sum_pick x w p hw e h]
  pointwise [k0_pay4, k0_pay2]

theorem pick_z (x : FVec Ideal S8x2048 .f32) (w : IVec S1x1 32) (p : Pt) (hw : w (ix2 0 0) = word p.val) (e : Pt → EReal) (h : ∀ r c, x (ix2 r c) = e (at8 r c)) :
    k0_pay5 x k0_pay14 w (ix2 0 0) = e p := by
  rw [← sum_pick x w p hw e h]
  pointwise [k0_pay5, k0_pay2]

/-- The blocks `x`, `y`, `z` are the coordinates `X`. -/
structure Coords (x y z : Vec Ideal S1x8x2048 .f32) (X : Pt → Fin 3 → EReal) : Prop where
  x : ∀ r c, x (ix3 0 r c) = X (at8 r c) 0
  y : ∀ r c, y (ix3 0 r c) = X (at8 r c) 1
  z : ∀ r c, z (ix3 0 r c) = X (at8 r c) 2

/-- The state is the sampling's after `k` steps. -/
structure Follows (X : Pt → Fin 3 → EReal) (s : Carry (F := Ideal) × FVec Ideal S8x2048 .f32) (k : ℕ) : Prop where
  cur : s.1.1 (ix2 0 0) = word (fps X k).1.val
  dist : ∀ r c, s.2 (ix2 r c) = (fps X k).2 (at8 r c)
  cx : ∀ j : Fin 512, j.val < k → s.1.2.1 (ix2 0 j) = X (fps X j.val).1 0
  cy : ∀ j : Fin 512, j.val < k → s.1.2.2.1 (ix2 0 j) = X (fps X j.val).1 1
  cz : ∀ j : Fin 512, j.val < k → s.1.2.2.2 (ix2 0 j) = X (fps X j.val).1 2

theorem column_eq (k : Fin k0_t1_loop.trips) (j : Fin 512) : (BitVec.ofNat 32 j.val = Scf.iv 0#32 1#32 k.val) = (j.val = k.val) := by
  have ht : k0_t1_loop.trips = 512 := by decide
  have hk := k.isLt
  have hiv : Scf.iv 0#32 1#32 k.val = word k.val := by simp [Scf.iv]
  rw [hiv]
  exact propext ⟨fun e => word_inj (by omega) (by omega) e, fun e => by rw [e]⟩

theorem follows_trip {x y z : Vec Ideal S1x8x2048 .f32} {X : Pt → Fin 3 → EReal} (hX : Coords x y z X) {s : Carry (F := Ideal) × FVec Ideal S8x2048 .f32}
    (k : Fin k0_t1_loop.trips) (h : Follows X s k.val) : Follows X (trip x y z k s) (k.val + 1) := by
  have ex : ∀ r c, k0_pay11 (F := Ideal) x (ix2 r c) = (fun n => X n 0) (at8 r c) := fun r c => by show _ = X (at8 r c) 0; rw [← hX.x]; pointwise [k0_pay11]
  have ey : ∀ r c, k0_pay12 (F := Ideal) y (ix2 r c) = (fun n => X n 1) (at8 r c) := fun r c => by show _ = X (at8 r c) 1; rw [← hX.y]; pointwise [k0_pay12]
  have ez : ∀ r c, k0_pay13 (F := Ideal) z (ix2 r c) = (fun n => X n 2) (at8 r c) := fun r c => by show _ = X (at8 r c) 2; rw [← hX.z]; pointwise [k0_pay13]
  have px := pick_x _ _ _ h.cur (fun n => X n 0) ex
  have py := pick_y _ _ _ h.cur (fun n => X n 1) ey
  have pz := pick_z _ _ _ h.cur (fun n => X n 2) ez
  have hd : ∀ r c, k0_pay10 (F := Ideal) (k0_pay11 x) (k0_pay12 y) (k0_pay13 z) k0_pay14 s.1.1 s.2 (ix2 r c) = (fps X (k.val + 1)).2 (at8 r c) := fun r c => by
    pointwise [k0_pay10]
    rw [px, py, pz, ex, ey, ez, h.dist]
    rfl
  have hc := argmax_apply _ _ hd
  rw [← fps_succ] at hc
  refine ⟨by unfold trip; with_reducible exact hc, fun r c => ?_, fun j hj => ?_, fun j hj => ?_, fun j hj => ?_⟩
  · rw [← hd]
    unfold trip
    pointwise [k0_pay18]
  · have e : k0_pay7 (F := Ideal) (k0_pay11 x) k0_pay14 (iota .tc S1x512 32 [1] iota_S1x512_d1_w32) 0#32 1#32 k s.1.1 s.1.2.1 (ix2 0 j)
        = if j.val = k.val then X (fps X k.val).1 0 else s.1.2.1 (ix2 0 j) := by
      pointwise [k0_pay7, k0_pay6]
      rw [select_eq, px]
      simp only [column_eq]
    refine e.trans ?_
    by_cases hjk : j.val = k.val
    · rw [if_pos hjk, hjk]
    · rw [if_neg hjk]
      exact h.cx j (by omega)
  · have e : k0_pay8 (F := Ideal) (k0_pay12 y) k0_pay14 (iota .tc S1x512 32 [1] iota_S1x512_d1_w32) 0#32 1#32 k s.1.1 s.1.2.2.1 (ix2 0 j)
        = if j.val = k.val then X (fps X k.val).1 1 else s.1.2.2.1 (ix2 0 j) := by
      pointwise [k0_pay8, k0_pay6]
      rw [select_eq, py]
      simp only [column_eq]
    refine e.trans ?_
    by_cases hjk : j.val = k.val
    · rw [if_pos hjk, hjk]
    · rw [if_neg hjk]
      exact h.cy j (by omega)
  · have e : k0_pay9 (F := Ideal) (k0_pay13 z) k0_pay14 (iota .tc S1x512 32 [1] iota_S1x512_d1_w32) 0#32 1#32 k s.1.1 s.1.2.2.2 (ix2 0 j)
        = if j.val = k.val then X (fps X k.val).1 2 else s.1.2.2.2 (ix2 0 j) := by
      pointwise [k0_pay9, k0_pay6]
      rw [select_eq, pz]
      simp only [column_eq]
    refine e.trans ?_
    by_cases hjk : j.val = k.val
    · rw [if_pos hjk, hjk]
    · rw [if_neg hjk]
      exact h.cz j (by omega)

theorem follows {x y z : Vec Ideal S1x8x2048 .f32} {X : Pt → Fin 3 → EReal} (hX : Coords x y z X) (k : ℕ) (hk : k ≤ k0_t1_loop.trips) :
    Follows X (st x y z k0_pay15 k) k := by
  induction k with
  | zero =>
    refine ⟨?_, fun r c => ?_, fun j hj => absurd hj (Nat.not_lt_zero _), fun j hj => absurd hj (Nat.not_lt_zero _), fun j hj => absurd hj (Nat.not_lt_zero _)⟩
    · show k0_pay17 (ix2 0 0) = _
      pointwise [k0_pay17]
      rfl
    · show k0_pay15 (F := Ideal) (ix2 r c) = _
      pointwise [k0_pay15]
      rw [top_eq]
      rfl
  | succ k ih =>
    have e : st x y z k0_pay15 (k + 1) = trip x y z ⟨k, hk⟩ (st x y z k0_pay15 k) := by rw [st, dif_pos]
    rw [e]
    exact follows_trip hX ⟨k, hk⟩ (ih (by omega))

/-- The three blocks the body writes: the coordinates of the chosen points. -/
theorem centers_apply {x y z : Vec Ideal S1x8x2048 .f32} {X : Pt → Fin 3 → EReal} (hX : Coords x y z X) (j : Fin 512) :
    k0_pay20 (F := Ideal) (last x y z).2.1 (ix3 0 0 j) = X (fps X j.val).1 0 ∧ k0_pay21 (F := Ideal) (last x y z).2.2.1 (ix3 0 0 j) = X (fps X j.val).1 1
      ∧ k0_pay1 (F := Ideal) (last x y z).2.2.2 (ix3 0 0 j) = X (fps X j.val).1 2 := by
  have h := follows hX k0_t1_loop.trips le_rfl
  have ht : k0_t1_loop.trips = 512 := by decide
  refine ⟨?_, ?_, ?_⟩
  · rw [← h.cx j (by omega)]; pointwise [k0_pay20]
  · rw [← h.cy j (by omega)]; pointwise [k0_pay21]
  · rw [← h.cz j (by omega)]; pointwise [k0_pay1]

end Cert.Proof.Fps

end
-- ==== Proof.Answer.lean ====
/-
  The answer of the whole problem, in plain terms: per batch the 512 farthest points, of each its 32 nearest points in
  order of distance (the earlier of two at the same distance first), as numbers of rows in the array of all batches' points,
  and the points those rows hold.
-/
module

public import proofs.«01_k».proof.Proof.Nearest
public import proofs.«01_k».proof.Proof.Farthest
public import proofs.«01_k».proof.Proof.Picked
public import Idealize.ShloMosaic.Lib.Pointwise

@[expose] public section

noncomputable section

namespace Cert.Proof.Answer

open Idealize.ShloMosaic Cert.Proof.Nearest Cert.Proof.Farthest

/-- The shape of the points: 4 batches of 16384. -/
abbrev Points : Shape := ⟨3, ![4, 16384, 3]⟩

variable (x : Points.Idx → EReal)

/-- Batch `b`'s points. -/
def pts (b : Fin 4) : Pt → Fin 3 → EReal := fun n i => x (ix3 b n i)

/-- Batch `b`'s `j`-th center. -/
def center (b : Fin 4) (j : Fin 512) : Fin 3 → EReal := pts x b (fps (pts x b) j.val).1

def dot (p q : Fin 3 → EReal) : EReal := p 0 * q 0 + p 1 * q 1 + p 2 * q 2

/-- The distance of two points. -/
def gap (c p : Fin 3 → EReal) : EReal := Ideal.sqrt (max (dot c c + dot p p - Ideal.ofBits .f32 1073741824#32 * dot c p) 0)

/-- The number of the `k`-th nearest point to batch `b`'s `j`-th center. -/
def near (b : Fin 4) (j : Fin 512) (k : ℕ) : Pt := nth (fun n => gap (center x b j) (pts x b n)) k

/-- The word that names it: its row in the array of all the batches' points. -/
def name (b : Fin 4) (j : Fin 512) (k : ℕ) : BitVec 32 := word (near x b j k).val + word b.val * 16384#32

theorem name_lt (b : Fin 4) (j : Fin 512) (k : ℕ) : (name x b j k).toNat < 65536 := by
  have h1 := (near x b j k).isLt
  have h2 := b.isLt
  simp only [name, word, BitVec.toNat_add, BitVec.toNat_mul, BitVec.toNat_ofNat]
  omega

/-- The words, batch by batch and center by center. -/
def names : Words.Idx → BitVec 32 := fun q => name x ⟨(q 0).val / 16384, by have := (q 0).isLt; simp at this; omega⟩ ⟨(q 0).val / 32 % 512, by omega⟩ ((q 0).val % 32)

/-- All coordinates are real numbers. -/
def Finite : Prop := ∀ i, x i ≠ ⊤ ∧ x i ≠ ⊥

variable {x}

theorem Finite.pts (h : Finite x) (b : Fin 4) : Real (pts x b) := fun n i => h (ix3 b n i)

theorem gap_real {c p : Fin 3 → EReal} (hc : ∀ i, c i ≠ ⊤ ∧ c i ≠ ⊥) (hp : ∀ i, p i ≠ ⊤ ∧ p i ≠ ⊥) : ⊥ < gap c p ∧ gap c p < ⊤ := by
  have lift : ∀ {c : Fin 3 → EReal}, (∀ i, c i ≠ ⊤ ∧ c i ≠ ⊥) → ∃ r : Fin 3 → ℝ, c = fun i => (r i : EReal) := fun {c} h =>
    ⟨fun i => (c i).toReal, funext fun i => (EReal.coe_toReal (h i).1 (h i).2).symm⟩
  obtain ⟨c, rfl⟩ := lift hc
  obtain ⟨p, rfl⟩ := lift hp
  have h2 : Ideal.ofBits .f32 1073741824#32 = ((2 : ℝ) : EReal) := by
    simp [Ideal.ofBits, Ideal.ieee]
    rw [← EReal.coe_mul]
    norm_num
  have hm : ∃ r : ℝ, max (dot (fun i => (c i : EReal)) (fun i => (c i : EReal)) + dot (fun i => (p i : EReal)) (fun i => (p i : EReal))
      - Ideal.ofBits .f32 1073741824#32 * dot (fun i => (c i : EReal)) (fun i => (p i : EReal))) 0 = (r : EReal) := by
    refine ⟨max (c 0 * c 0 + c 1 * c 1 + c 2 * c 2 + (p 0 * p 0 + p 1 * p 1 + p 2 * p 2) - 2 * (c 0 * p 0 + c 1 * p 1 + c 2 * p 2)) 0, ?_⟩
    rw [h2]
    simp only [dot]
    rw [EReal.coe_strictMono.monotone.map_max]
    norm_cast
  obtain ⟨r, hr⟩ := hm
  unfold gap
  have h0 : 0 ≤ r := by
    have : (0 : EReal) ≤ (r : EReal) := hr ▸ le_max_right _ _
    exact_mod_cast this
  have hs : Ideal.sqrt (r : EReal) = (Real.sqrt r : EReal) := by
    show (if r < 0 then ⊥ else ((Real.sqrt r : ℝ) : EReal)) = _
    rw [if_neg (not_lt.2 h0)]
  rw [hr, hs]
  exact ⟨EReal.bot_lt_coe _, EReal.coe_lt_top _⟩

end Cert.Proof.Answer

end
-- ==== Proof.WholeValue.lean ====
/-
  What the whole program's run leaves, at the ideal values, of points whose coordinates are all real: the words are
  `Answer.names` and the points are those they name.
-/
module

public import proofs.«01_k».proof.Proof.WholeRun
public import proofs.«01_k».proof.Proof.WholeArrays
public import proofs.«01_k».proof.Proof.KnnValue
public import proofs.«01_k».proof.Proof.FpsValue
public import proofs.«01_k».proof.Proof.Answer
public import proofs.«01_k».proof.Proof.GatherValue

@[expose] public section

noncomputable section

namespace Cert.Proof.Whole

open Cert.KernelIdeal Cert.KernelIdeal.Gen
open Idealize.ShloMosaic Idealize.ShloMosaic.TcCoe Idealize.ShloMosaic.StableHlo
open Cert.Proof.Nearest Cert.Proof.Farthest Cert.Proof.Answer

variable (m : (ℓ : Loc nD τ sig) → Buf (Elt Ideal) ℓ) (d : Dev nD)

/-- The points the program is called with. -/
abbrev given : S4x16384x3.Idx → EReal := m (xLoc d)

/-! ## The coordinates -/

abbrev coord0 : FVec Ideal S4x16384 .f32 := shapeCast S4x16384 (extractStridedSlice S4x16384x1 ![0, 0, 0] (given m d) slices_S4x16384x3_S4x16384x1_0_0_0) shapeCasts_S4x16384x1_S4x16384
abbrev coord1 : FVec Ideal S4x16384 .f32 := shapeCast S4x16384 (extractStridedSlice S4x16384x1 ![0, 0, 1] (given m d) slices_S4x16384x3_S4x16384x1_0_0_1) shapeCasts_S4x16384x1_S4x16384
abbrev coord2 : FVec Ideal S4x16384 .f32 := shapeCast S4x16384 (extractStridedSlice S4x16384x1 ![0, 0, 2] (given m d) slices_S4x16384x3_S4x16384x1_0_0_2) shapeCasts_S4x16384x1_S4x16384

theorem VA_v1 : VA m d (ref main_v1) = coord0 m d := by unfold VA; after_results <;> rfl
theorem VA_v3 : VA m d (ref main_v3) = coord1 m d := by unfold VA; after_results <;> rfl
theorem VA_v5 : VA m d (ref main_v5) = coord2 m d := by unfold VA; after_results <;> rfl
theorem VA_v6 : VA m d (ref main_v6) = shapeCast S4x8x2048 (coord0 m d) shapeCasts_S4x16384_S4x8x2048 := by unfold VA; after_results <;> rfl
theorem VA_v7 : VA m d (ref main_v7) = shapeCast S4x8x2048 (coord1 m d) shapeCasts_S4x16384_S4x8x2048 := by unfold VA; after_results <;> rfl
theorem VA_v8 : VA m d (ref main_v8) = shapeCast S4x8x2048 (coord2 m d) shapeCasts_S4x16384_S4x8x2048 := by unfold VA; after_results <;> rfl
theorem VA_arg : VA m d (ref main_arg0) = given m d := by unfold VA; after_results <;> rfl

theorem coords (b : Fin 4) : Fps.Coords (blk0 (VA m d) 0 (batch b)) (blk0 (VA m d) 1 (batch b)) (blk0 (VA m d) 2 (batch b)) (pts (given m d) b) := by
  refine ⟨fun r c => ?_, fun r c => ?_, fun r c => ?_⟩
  · refine (blk0_0_apply (VA m d) b r c).trans ?_
    rw [VA_v6]; pointwise; rfl
  · refine (blk0_1_apply (VA m d) b r c).trans ?_
    rw [VA_v7]; pointwise; rfl
  · refine (blk0_2_apply (VA m d) b r c).trans ?_
    rw [VA_v8]; pointwise; rfl

/-! ## The centers -/

theorem VA'_v9 (b : Fin 4) (j : Fin 512) : VA' m d (ref main_v9_0) (ix3 b 0 j) = center (given m d) b j 0
    ∧ VA' m d (ref main_v9_1) (ix3 b 0 j) = center (given m d) b j 1 ∧ VA' m d (ref main_v9_2) (ix3 b 0 j) = center (given m d) b j 2 := by
  obtain ⟨h0, h1, h2⟩ := Fps.centers_apply (coords m d b) j
  unfold VA'
  rw [left0_v9_0, left0_v9_1, left0_v9_2]
  exact ⟨(arr0_3 _ d b j).trans h0, (arr0_4 _ d b j).trans h1, (arr0_5 _ d b j).trans h2⟩

theorem VB_v13 : VB m d (ref main_v13) = shapeCast S4x64x8x1 (shapeCast S4x512 (VA' m d (ref main_v9_0)) shapeCasts_S4x1x512_S4x512) shapeCasts_S4x512_S4x64x8x1 := by unfold VB; after_results <;> rfl
theorem VB_v14 : VB m d (ref main_v14) = shapeCast S4x64x8x1 (shapeCast S4x512 (VA' m d (ref main_v9_1)) shapeCasts_S4x1x512_S4x512) shapeCasts_S4x512_S4x64x8x1 := by unfold VB; after_results <;> rfl
theorem VB_v15 : VB m d (ref main_v15) = shapeCast S4x64x8x1 (shapeCast S4x512 (VA' m d (ref main_v9_2)) shapeCasts_S4x1x512_S4x512) shapeCasts_S4x512_S4x64x8x1 := by unfold VB; after_results <;> rfl

theorem VA'_kept {b : DevRef τ sig} (h0 : b ≠ ref main_v9_0) (h1 : b ≠ ref main_v9_1) (h2 : b ≠ ref main_v9_2) : VA' m d b = VA m d b := left0_ne _ d h0 h1 h2

theorem VB_v16 : VB m d (ref main_v16) = shapeCast S4x128x128 (coord0 m d) shapeCasts_S4x16384_S4x128x128 := by
  rw [← VA_v1, ← VA'_kept m d (b := ref main_v1) (by decide) (by decide) (by decide)]; unfold VB; after_results <;> rfl
theorem VB_v17 : VB m d (ref main_v17) = shapeCast S4x128x128 (coord1 m d) shapeCasts_S4x16384_S4x128x128 := by
  rw [← VA_v3, ← VA'_kept m d (b := ref main_v3) (by decide) (by decide) (by decide)]; unfold VB; after_results <;> rfl
theorem VB_v18 : VB m d (ref main_v18) = shapeCast S4x128x128 (coord2 m d) shapeCasts_S4x16384_S4x128x128 := by
  rw [← VA_v5, ← VA'_kept m d (b := ref main_v5) (by decide) (by decide) (by decide)]; unfold VB; after_results <;> rfl
theorem VB_arg : VB m d (ref main_arg0) = given m d := by
  rw [← VA_arg, ← VA'_kept m d (b := ref main_arg0) (by decide) (by decide) (by decide)]; unfold VB; after_results <;> rfl

/-! ## The distances and the nearest points -/

theorem dist_apply (x y z : Vec Ideal S1x128x128 .f32) (cx cy cz : Vec Ideal S1x1x8x1 .f32) (s : Fin 8) (r l : Fin 128) (c p : Fin 3 → EReal)
    (hc0 : cx (ix4 0 0 s 0) = c 0) (hc1 : cy (ix4 0 0 s 0) = c 1) (hc2 : cz (ix4 0 0 s 0) = c 2)
    (h0 : x (ix3 0 r l) = p 0) (h1 : y (ix3 0 r l) = p 1) (h2 : z (ix3 0 r l) = p 2) :
    Knn.dist x y z cx cy cz (ix3 s r l) = gap c p := by
  unfold Knn.dist gap dot
  pointwise [k1_pay50, k1_pay41, k1_pay44, k1_pay45, k1_pay46, k1_pay47, k1_pay48, k1_pay49, k1_pay39, k1_pay40, k1_pay42, k1_pay43]
  rw [hc0, hc1, hc2, h0, h1, h2]

theorem distOf_eq (b : Fin 4) (g : Fin 64) (s : Fin 8) :
    Knn.distOf (Knn.dist (blk1 (VB m d) 0 (group b g)) (blk1 (VB m d) 1 (group b g)) (blk1 (VB m d) 2 (group b g)) (blk1 (VB m d) 3 (group b g)) (blk1 (VB m d) 4 (group b g)) (blk1 (VB m d) 5 (group b g))) s
      = fun n => gap (center (given m d) b ⟨g.val * 8 + s.val, by omega⟩) (pts (given m d) b n) := by
  funext n
  obtain ⟨h0, h1, h2⟩ := VA'_v9 m d b ⟨g.val * 8 + s.val, by omega⟩
  obtain ⟨j, hn⟩ := pt_row n
  rw [hn, Knn.distOf_pt]
  refine dist_apply _ _ _ _ _ _ s j (lane n) _ _ ?_ ?_ ?_ ?_ ?_ ?_
  · refine (blk1_3_apply _ b g s).trans (Eq.trans ?_ h0)
    rw [VB_v13]; pointwise
  · refine (blk1_4_apply _ b g s).trans (Eq.trans ?_ h1)
    rw [VB_v14]; pointwise
  · refine (blk1_5_apply _ b g s).trans (Eq.trans ?_ h2)
    rw [VB_v15]; pointwise
  · refine (blk1_0_apply _ b g j (lane n)).trans ?_
    rw [VB_v16]; pointwise; rfl
  · refine (blk1_1_apply _ b g j (lane n)).trans ?_
    rw [VB_v17]; pointwise; rfl
  · refine (blk1_2_apply _ b g j (lane n)).trans ?_
    rw [VB_v18]; pointwise; rfl

variable {m d}

theorem listed_apply (hx : Answer.Finite (given m d)) (b : Fin 4) (g : Fin 64) (s : Fin 8) (k : Fin 32) :
    listed (VB m d) (group b g) (ix3 0 s k) = name (given m d) b ⟨g.val * 8 + s.val, by omega⟩ k.val := by
  have hg : ∀ (s : Fin 8) n, ⊥ < gap (center (given m d) b ⟨g.val * 8 + s.val, by omega⟩) (pts (given m d) b n)
      ∧ gap (center (given m d) b ⟨g.val * 8 + s.val, by omega⟩) (pts (given m d) b n) < ⊤ := fun s n => gap_real (fun i => hx.pts b _ i) (fun i => hx.pts b n i)
  unfold listed
  pointwise [k1_pay21]
  rw [Knn.nearest_apply _ _ (fun r x => by rw [distOf_eq]; exact (hg r x).2) (fun r x => by rw [distOf_eq]; exact (hg r x).1), distOf_eq, first1, group_div]
  rfl

/-- The words the program leaves. -/
theorem words_apply (hx : Answer.Finite (given m d)) : words m d = names (given m d) := by
  have h : words m d = shapeCast S65536 (VB' m d (ref main_v19)) shapeCasts_S4x512x32_S65536 := by
    unfold words VC; after_results <;> rfl
  rw [h]
  funext q
  obtain ⟨p, rfl⟩ : ∃ p : Fin 65536, q = ix1 p := ⟨q 0, by funext a; match a with | ⟨0, _⟩ => rfl⟩
  pointwise
  unfold VB'
  rw [left1_v19]
  have hp := p.isLt
  have e := arr1_6 (VB m d) d ⟨p.val / 16384, by omega⟩ ⟨p.val / 32 % 512 / 8, by omega⟩ ⟨p.val / 32 % 8, by omega⟩ ⟨p.val % 32, by omega⟩
  rw [listed_apply hx] at e
  have e2 : (⟨p.val / 32 % 512 / 8 * 8 + p.val / 32 % 8, by omega⟩ : Fin 512) = ⟨p.val / 32 % 512, by omega⟩ := Fin.ext (by show p.val / 32 % 512 / 8 * 8 + p.val / 32 % 8 = p.val / 32 % 512; omega)
  simp only [e2] at e
  exact e

variable (m d)

theorem VB'_arg : VB' m d (ref main_arg0) = given m d := (left1_ne _ d (by decide)).trans (VB_arg m d)

theorem table_eq : table m d = Tiles.tableOf (F := Ideal) (given m d) := by
  rw [← VB'_arg]
  unfold table VC; after_results <;> rfl

/-- The points the named rows hold. -/
def rows (x : S4x16384x3.Idx → EReal) : S4x512x32x3.Idx → EReal :=
  shapeCast S4x512x32x3 (picked (w := 3) (names x) (shapeCast S65536x3 x shapeCasts_S4x16384x3_S65536x3)) shapeCasts_S65536x3_S4x512x32x3

theorem VD_v20 : VD m d (ref main_v20) = words m d := by
  have h : VC' m d (ref main_v20) = words m d := Function.update_of_ne (by decide) _ _
  rw [← h]
  unfold VD; after_results <;> rfl

theorem VD_arg : VD m d (ref main_arg0) = given m d := by
  have h : VC' m d (ref main_arg0) = VC m d (ref main_arg0) := Function.update_of_ne (by decide) _ _
  have h2 : VC m d (ref main_arg0) = VB' m d (ref main_arg0) := by unfold VC; after_results <;> rfl
  rw [← VB'_arg, ← h2, ← h]
  unfold VD; after_results <;> rfl

theorem VD_v26 : VD m d (ref main_v26) = shapeCast S4x512x32x3 (extractStridedSlice S65536x3 ![0, 0] (result (words m) (table m) d) slices_S65536x16_S65536x3_0_0) shapeCasts_S65536x3_S4x512x32x3 := by
  have h : VC' m d (ref main_v24) = result (words m) (table m) d := Function.update_self _ _ _
  rw [← h]
  unfold VD; after_results <;> rfl

variable {m d}

/-- The points the program leaves. -/
theorem rows_apply (hx : Answer.Finite (given m d)) : VD m d (ref main_v26) = rows (given m d) := by
  have h : result (words m) (table m) d = picked (w := 16) (names (given m d)) (Tiles.tableOf (F := Ideal) (given m d)) := by
    rw [← words_apply hx, ← table_eq]
  rw [VD_v26, h]
  exact congrArg (fun r => shapeCast S4x512x32x3 r shapeCasts_S65536x3_S4x512x32x3) (cut_picked (F := Ideal) (names (given m d)) (given m d))

theorem in_range (hx : ∀ d, Answer.Finite (given m d)) : InRange (words m) := fun d j => by
  rw [words_apply (hx d)]
  exact name_lt _ _ _ _

end Cert.Proof.Whole

end
-- ==== Proof.RefRun.lean ====
/-
  The reference's run. `@main` is a stretch of operations, a loop of 512 trips that samples the farthest points, and two
  stretches that find each sampled point's nearest points and read them: every array ends at the operations' fold over what
  the arrays held.
-/
module

public import proofs.«01_k».proof.ReferenceIdeal
public import proofs.«01_k».proof.Proof.Gen.ReferenceIdeal
public import Idealize.ShloMosaic.Lib.StableHlo.RunLoop
public import Idealize.ShloMosaic.Lib.Scf.ExitTest
public import Idealize.ShloMosaic.Lib.Scf.Counter

@[expose] public section

noncomputable section

namespace Cert.Proof.Ref

open Cert.ReferenceIdeal Cert.ReferenceIdeal.Gen
open Idealize.ShloMosaic Idealize.ShloMosaic.TcCoe Idealize.ShloMosaic.StableHlo
open Idealize.ShloMosaic.Tactic
open Idealize.SL Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-- The stretch before the loop. -/
abbrev preOps : List (HloOp τ sig (Elt F)) :=
  [nullary main_c (constantI S_ 32 0#32),
    unary main_c main_v0 (broadcastInDim S4x512 ![] bcast_S_S4x512 : (⟨S_, .i32⟩ : BufTy).Contents (Elt F) → (⟨S4x512, .i32⟩ : BufTy).Contents (Elt F)),
    nullary main_cst (constant S_ .f32 0x7F800000#32),
    unary main_cst main_v1 (broadcastInDim S4x16384 ![] bcast_S_S4x16384 : (⟨S_, .f32⟩ : BufTy).Contents (Elt F) → (⟨S4x16384, .f32⟩ : BufTy).Contents (Elt F)),
    nullary main_c_0 (constantI S_ 32 0#32),
    unary main_c_0 main_v2 (broadcastInDim S4 ![] bcast_S_S4 : (⟨S_, .i32⟩ : BufTy).Contents (Elt F) → (⟨S4, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id]
theorem preOps_sub : (preOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩
/-- The loop's test. -/
abbrev condOps : List (HloOp τ sig (Elt F)) :=
  [nullary main_while0c_c_19 (constantI S_ 32 512#32),
    binary main_v3_1 main_while0c_c_19 main_while0c_v54 (cmpi .slt : (⟨S_, .i32⟩ : BufTy).Contents (Elt F) → (⟨S_, .i32⟩ : BufTy).Contents (Elt F) → (⟨S_, .i1⟩ : BufTy).Contents (Elt F))]
theorem condOps_sub : (condOps : List (HloOp τ sig (Elt F))).Forall fun op => op.bufs ⊆ tcRefs τ sig :=
  ⟨nullary_bufs_sub .., binary_bufs_sub ..⟩
/-- One trip of the loop. -/
abbrev bodyOps : List (HloOp τ sig (Elt F)) :=
  [nullary main_while0b_c_19 (constantI S_ 32 1#32),
    binary main_v3_2 main_while0b_c_19 main_while0b_v54 (addi : (⟨S_, .i32⟩ : BufTy).Contents (Elt F) → (⟨S_, .i32⟩ : BufTy).Contents (Elt F) → (⟨S_, .i32⟩ : BufTy).Contents (Elt F)),
    nullary main_while0b_c_20 (constantI S_ 32 0#32),
    binary main_v3_2 main_while0b_c_20 main_while0b_v55 (cmpi .slt : (⟨S_, .i32⟩ : BufTy).Contents (Elt F) → (⟨S_, .i32⟩ : BufTy).Contents (Elt F) → (⟨S_, .i1⟩ : BufTy).Contents (Elt F)),
    nullary main_while0b_c_21 (constantI S_ 32 512#32),
    binary main_v3_2 main_while0b_c_21 main_while0b_v56 (addi : (⟨S_, .i32⟩ : BufTy).Contents (Elt F) → (⟨S_, .i32⟩ : BufTy).Contents (Elt F) → (⟨S_, .i32⟩ : BufTy).Contents (Elt F)),
    ternary main_while0b_v55 main_while0b_v56 main_v3_2 main_while0b_v57 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v57 main_while0b_v58 (id : (⟨S_, .i32⟩ : BufTy).Contents (Elt F) → (⟨S_, .i32⟩ : BufTy).Contents (Elt F)),
    unary main_while0b_v58 main_while0b_v59 (broadcastInDim S1 ![] bcast_S_S1 : (⟨S_, .i32⟩ : BufTy).Contents (Elt F) → (⟨S1, .i32⟩ : BufTy).Contents (Elt F)),
    ternary main_v3_3 main_while0b_v59 main_v3_5 main_while0b_v60 ((fun x i u => Host.scatter scatter_S4x512_S1_S4_0_1_1_0 (fun _ b => b) x i u) : (⟨S4x512, .i32⟩ : BufTy).Contents (Elt F) → (⟨S1, .i32⟩ : BufTy).Contents (Elt F) → (⟨S4, .i32⟩ : BufTy).Contents (Elt F) → (⟨S4x512, .i32⟩ : BufTy).Contents (Elt F)),
    nullary main_while0b_v61 (iotaInDim S4 32 0),
    nullary main_while0b_c_22 (constantI S_ 32 0#32),
    unary main_while0b_c_22 main_while0b_v62 (broadcastInDim S4 ![] bcast_S_S4 : (⟨S_, .i32⟩ : BufTy).Contents (Elt F) → (⟨S4, .i32⟩ : BufTy).Contents (Elt F)),
    binary main_while0b_v61 main_while0b_v62 main_while0b_v63 (cmpi .slt : (⟨S4, .i32⟩ : BufTy).Contents (Elt F) → (⟨S4, .i32⟩ : BufTy).Contents (Elt F) → (⟨S4, .i1⟩ : BufTy).Contents (Elt F)),
    nullary main_while0b_c_23 (constantI S_ 32 4#32),
    unary main_while0b_c_23 main_while0b_v64 (broadcastInDim S4 ![] bcast_S_S4 : (⟨S_, .i32⟩ : BufTy).Contents (Elt F) → (⟨S4, .i32⟩ : BufTy).Contents (Elt F)),
    binary main_while0b_v61 main_while0b_v64 main_while0b_v65 (addi : (⟨S4, .i32⟩ : BufTy).Contents (Elt F) → (⟨S4, .i32⟩ : BufTy).Contents (Elt F) → (⟨S4, .i32⟩ : BufTy).Contents (Elt F)),
    ternary main_while0b_v63 main_while0b_v65 main_while0b_v61 main_while0b_v66 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_while0b_c_24 (constantI S_ 32 0#32),
    unary main_while0b_c_24 main_while0b_v67 (broadcastInDim S4 ![] bcast_S_S4 : (⟨S_, .i32⟩ : BufTy).Contents (Elt F) → (⟨S4, .i32⟩ : BufTy).Contents (Elt F)),
    binary main_v3_5 main_while0b_v67 main_while0b_v68 (cmpi .slt : (⟨S4, .i32⟩ : BufTy).Contents (Elt F) → (⟨S4, .i32⟩ : BufTy).Contents (Elt F) → (⟨S4, .i1⟩ : BufTy).Contents (Elt F)),
    nullary main_while0b_c_25 (constantI S_ 32 16384#32),
    unary main_while0b_c_25 main_while0b_v69 (broadcastInDim S4 ![] bcast_S_S4 : (⟨S_, .i32⟩ : BufTy).Contents (Elt F) → (⟨S4, .i32⟩ : BufTy).Contents (Elt F)),
    binary main_v3_5 main_while0b_v69 main_while0b_v70 (addi : (⟨S4, .i32⟩ : BufTy).Contents (Elt F) → (⟨S4, .i32⟩ : BufTy).Contents (Elt F) → (⟨S4, .i32⟩ : BufTy).Contents (Elt F)),
    ternary main_while0b_v68 main_while0b_v70 main_v3_5 main_while0b_v71 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_while0b_v66 main_while0b_v72 (broadcastInDim S4x1 ![0] bcast_S4_S4x1_0 : (⟨S4, .i32⟩ : BufTy).Contents (Elt F) → (⟨S4x1, .i32⟩ : BufTy).Contents (Elt F)),
    unary main_while0b_v71 main_while0b_v73 (broadcastInDim S4x1 ![0] bcast_S4_S4x1_0 : (⟨S4, .i32⟩ : BufTy).Contents (Elt F) → (⟨S4x1, .i32⟩ : BufTy).Contents (Elt F)),
    binary main_while0b_v72 main_while0b_v73 main_while0b_v74 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v3_0 main_while0b_v74 main_while0b_v75 ((fun x i => Host.gather gather_S4x16384x3_S4x2_S4x3_1_01_n_n_01_1_113 x i) : (⟨S4x16384x3, .f32⟩ : BufTy).Contents (Elt F) → (⟨S4x2, .i32⟩ : BufTy).Contents (Elt F) → (⟨S4x3, .f32⟩ : BufTy).Contents (Elt F)),
    unary main_while0b_v75 main_while0b_v76 (broadcastInDim S4x1x3 ![0, 2] bcast_S4x3_S4x1x3_0_2 : (⟨S4x3, .f32⟩ : BufTy).Contents (Elt F) → (⟨S4x1x3, .f32⟩ : BufTy).Contents (Elt F)),
    unary main_while0b_v76 main_while0b_v77 (broadcastInDim S4x16384x3 ![0, 1, 2] bcast_S4x1x3_S4x16384x3_0_1_2 : (⟨S4x1x3, .f32⟩ : BufTy).Contents (Elt F) → (⟨S4x16384x3, .f32⟩ : BufTy).Contents (Elt F)),
    binary main_v3_0 main_while0b_v77 main_while0b_v78 (subf : (⟨S4x16384x3, .f32⟩ : BufTy).Contents (Elt F) → (⟨S4x16384x3, .f32⟩ : BufTy).Contents (Elt F) → (⟨S4x16384x3, .f32⟩ : BufTy).Contents (Elt F)),
    binary main_while0b_v78 main_while0b_v78 main_while0b_v79 (mulf : (⟨S4x16384x3, .f32⟩ : BufTy).Contents (Elt F) → (⟨S4x16384x3, .f32⟩ : BufTy).Contents (Elt F) → (⟨S4x16384x3, .f32⟩ : BufTy).Contents (Elt F)),
    nullary main_while0b_cst_26 (constant S_ .f32 0x00000000#32),
    binary main_while0b_v79 main_while0b_cst_26 main_while0b_v80 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    binary main_v3_4 main_while0b_v80 main_while0b_v81 (minimumf : (⟨S4x16384, .f32⟩ : BufTy).Contents (Elt F) → (⟨S4x16384, .f32⟩ : BufTy).Contents (Elt F) → (⟨S4x16384, .f32⟩ : BufTy).Contents (Elt F)),
    TRef.nullary main_while0b_call0.v0 (iotaInDim S4x16384 32 1),
    TRef.nullary main_while0b_call0.cst (constant S_ .f32 0xFF800000#32),
    TRef.nullary main_while0b_call0.c (constantI S_ 32 0#32),
    TRef.quaternary (.of main_while0b_v81) main_while0b_call0.v0 main_while0b_call0.cst main_while0b_call0.c main_while0b_call0.v1_0 (fun x y u v j => (Host.argReduce reducer_argmax_f32_i32 x y u v reducesTo_S4x16384_S4_d1 h_S_ j).1),
    TRef.quaternary (.of main_while0b_v81) main_while0b_call0.v0 main_while0b_call0.cst main_while0b_call0.c main_while0b_call0.v1_1 (fun x y u v j => (Host.argReduce reducer_argmax_f32_i32 x y u v reducesTo_S4x16384_S4_d1 h_S_ j).2),
    nullary main_while0b_c_27 (constantI S_ 32 1#32),
    binary main_v3_1 main_while0b_c_27 main_while0b_v83 (addi : (⟨S_, .i32⟩ : BufTy).Contents (Elt F) → (⟨S_, .i32⟩ : BufTy).Contents (Elt F) → (⟨S_, .i32⟩ : BufTy).Contents (Elt F)),
    unary main_while0b_v83 main_v3_1 id,
    unary main_while0b_v54 main_v3_2 id,
    unary main_while0b_v60 main_v3_3 id,
    unary main_while0b_v81 main_v3_4 id,
    unary main_while0b_v82 main_v3_5 id]
theorem bodyOps_sub : (bodyOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., unary_bufs_sub .., unary_bufs_sub .., unary_bufs_sub .., unary_bufs_sub .., unary_bufs_sub ..⟩
/-- After the loop: the centers, their distances to the points and the nearest. -/
abbrev distOps : List (HloOp τ sig (Elt F)) :=
  [nullary main_v4 (iotaInDim S4 32 0),
    unary main_v4 main_v5 (broadcastInDim S4x1 ![0] bcast_S4_S4x1_0 : (⟨S4, .i32⟩ : BufTy).Contents (Elt F) → (⟨S4x1, .i32⟩ : BufTy).Contents (Elt F)),
    nullary main_c_3 (constantI S_ 32 0#32),
    unary main_c_3 main_v6 (broadcastInDim S4x1 ![] bcast_S_S4x1 : (⟨S_, .i32⟩ : BufTy).Contents (Elt F) → (⟨S4x1, .i32⟩ : BufTy).Contents (Elt F)),
    binary main_v5 main_v6 main_v7 (cmpi .slt : (⟨S4x1, .i32⟩ : BufTy).Contents (Elt F) → (⟨S4x1, .i32⟩ : BufTy).Contents (Elt F) → (⟨S4x1, .i1⟩ : BufTy).Contents (Elt F)),
    nullary main_c_4 (constantI S_ 32 4#32),
    unary main_c_4 main_v8 (broadcastInDim S4x1 ![] bcast_S_S4x1 : (⟨S_, .i32⟩ : BufTy).Contents (Elt F) → (⟨S4x1, .i32⟩ : BufTy).Contents (Elt F)),
    binary main_v5 main_v8 main_v9 (addi : (⟨S4x1, .i32⟩ : BufTy).Contents (Elt F) → (⟨S4x1, .i32⟩ : BufTy).Contents (Elt F) → (⟨S4x1, .i32⟩ : BufTy).Contents (Elt F)),
    ternary main_v7 main_v9 main_v5 main_v10 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_5 (constantI S_ 32 0#32),
    unary main_c_5 main_v11 (broadcastInDim S4x512 ![] bcast_S_S4x512 : (⟨S_, .i32⟩ : BufTy).Contents (Elt F) → (⟨S4x512, .i32⟩ : BufTy).Contents (Elt F)),
    binary main_v3_3 main_v11 main_v12 (cmpi .slt : (⟨S4x512, .i32⟩ : BufTy).Contents (Elt F) → (⟨S4x512, .i32⟩ : BufTy).Contents (Elt F) → (⟨S4x512, .i1⟩ : BufTy).Contents (Elt F)),
    nullary main_c_6 (constantI S_ 32 16384#32),
    unary main_c_6 main_v13 (broadcastInDim S4x512 ![] bcast_S_S4x512 : (⟨S_, .i32⟩ : BufTy).Contents (Elt F) → (⟨S4x512, .i32⟩ : BufTy).Contents (Elt F)),
    binary main_v3_3 main_v13 main_v14 (addi : (⟨S4x512, .i32⟩ : BufTy).Contents (Elt F) → (⟨S4x512, .i32⟩ : BufTy).Contents (Elt F) → (⟨S4x512, .i32⟩ : BufTy).Contents (Elt F)),
    ternary main_v12 main_v14 main_v3_3 main_v15 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    unary main_v10 main_v16 (broadcastInDim S4x512 ![0, 1] bcast_S4x1_S4x512_0_1 : (⟨S4x1, .i32⟩ : BufTy).Contents (Elt F) → (⟨S4x512, .i32⟩ : BufTy).Contents (Elt F)),
    unary main_v16 main_v17 (broadcastInDim S4x512x1 ![0, 1] bcast_S4x512_S4x512x1_0_1 : (⟨S4x512, .i32⟩ : BufTy).Contents (Elt F) → (⟨S4x512x1, .i32⟩ : BufTy).Contents (Elt F)),
    unary main_v15 main_v18 (broadcastInDim S4x512x1 ![0, 1] bcast_S4x512_S4x512x1_0_1 : (⟨S4x512, .i32⟩ : BufTy).Contents (Elt F) → (⟨S4x512x1, .i32⟩ : BufTy).Contents (Elt F)),
    binary main_v17 main_v18 main_v19 ((fun a b => concatenate S4x512x2 2 [⟨S4x512x1, a⟩, ⟨S4x512x1, b⟩] concatenates_S4x512x1_S4x512x1_S4x512x2_d2) : (⟨S4x512x1, .i32⟩ : BufTy).Contents (Elt F) → (⟨S4x512x1, .i32⟩ : BufTy).Contents (Elt F) → (⟨S4x512x2, .i32⟩ : BufTy).Contents (Elt F)),
    binary main_arg0 main_v19 main_v20 ((fun x i => Host.gather gather_S4x16384x3_S4x512x2_S4x512x3_2_01_n_n_01_2_113 x i) : (⟨S4x16384x3, .f32⟩ : BufTy).Contents (Elt F) → (⟨S4x512x2, .i32⟩ : BufTy).Contents (Elt F) → (⟨S4x512x3, .f32⟩ : BufTy).Contents (Elt F)),
    binary main_v20 main_v20 main_v21 (mulf : (⟨S4x512x3, .f32⟩ : BufTy).Contents (Elt F) → (⟨S4x512x3, .f32⟩ : BufTy).Contents (Elt F) → (⟨S4x512x3, .f32⟩ : BufTy).Contents (Elt F)),
    nullary main_cst_7 (constant S_ .f32 0x00000000#32),
    binary main_v21 main_cst_7 main_v22 ((fun x v => Host.reduceAdd x v reducesTo_S4x512x3_S4x512_d2 h_S_) : (⟨S4x512x3, .f32⟩ : BufTy).Contents (Elt F) → (⟨S_, .f32⟩ : BufTy).Contents (Elt F) → (⟨S4x512, .f32⟩ : BufTy).Contents (Elt F)),
    unary main_v22 main_v23 (broadcastInDim S4x512x1 ![0, 1] bcast_S4x512_S4x512x1_0_1 : (⟨S4x512, .f32⟩ : BufTy).Contents (Elt F) → (⟨S4x512x1, .f32⟩ : BufTy).Contents (Elt F)),
    binary main_arg0 main_arg0 main_v24 (mulf : (⟨S4x16384x3, .f32⟩ : BufTy).Contents (Elt F) → (⟨S4x16384x3, .f32⟩ : BufTy).Contents (Elt F) → (⟨S4x16384x3, .f32⟩ : BufTy).Contents (Elt F)),
    nullary main_cst_8 (constant S_ .f32 0x00000000#32),
    binary main_v24 main_cst_8 main_v25 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    unary main_v25 main_v26 (broadcastInDim S4x1x16384 ![0, 2] bcast_S4x16384_S4x1x16384_0_2 : (⟨S4x16384, .f32⟩ : BufTy).Contents (Elt F) → (⟨S4x1x16384, .f32⟩ : BufTy).Contents (Elt F)),
    binary main_v20 main_arg0 main_v27 ((fun l r => Host.dotGeneral dot_S4x512x3_S4x16384x3_S4x512x16384_2_2_1_1_0_0 none l r) : (⟨S4x512x3, .f32⟩ : BufTy).Contents (Elt F) → (⟨S4x16384x3, .f32⟩ : BufTy).Contents (Elt F) → (⟨S4x512x16384, .f32⟩ : BufTy).Contents (Elt F)),
    unary main_v23 main_v28 (broadcastInDim S4x512x16384 ![0, 1, 2] bcast_S4x512x1_S4x512x16384_0_1_2 : (⟨S4x512x1, .f32⟩ : BufTy).Contents (Elt F) → (⟨S4x512x16384, .f32⟩ : BufTy).Contents (Elt F)),
    unary main_v26 main_v29 (broadcastInDim S4x512x16384 ![0, 1, 2] bcast_S4x1x16384_S4x512x16384_0_1_2 : (⟨S4x1x16384, .f32⟩ : BufTy).Contents (Elt F) → (⟨S4x512x16384, .f32⟩ : BufTy).Contents (Elt F)),
    binary main_v28 main_v29 main_v30 (addf : (⟨S4x512x16384, .f32⟩ : BufTy).Contents (Elt F) → (⟨S4x512x16384, .f32⟩ : BufTy).Contents (Elt F) → (⟨S4x512x16384, .f32⟩ : BufTy).Contents (Elt F)),
    nullary main_cst_9 (constant S_ .f32 0x40000000#32),
    unary main_cst_9 main_v31 (broadcastInDim S4x512x16384 ![] bcast_S_S4x512x16384 : (⟨S_, .f32⟩ : BufTy).Contents (Elt F) → (⟨S4x512x16384, .f32⟩ : BufTy).Contents (Elt F)),
    binary main_v31 main_v27 main_v32 (mulf : (⟨S4x512x16384, .f32⟩ : BufTy).Contents (Elt F) → (⟨S4x512x16384, .f32⟩ : BufTy).Contents (Elt F) → (⟨S4x512x16384, .f32⟩ : BufTy).Contents (Elt F)),
    binary main_v30 main_v32 main_v33 (subf : (⟨S4x512x16384, .f32⟩ : BufTy).Contents (Elt F) → (⟨S4x512x16384, .f32⟩ : BufTy).Contents (Elt F) → (⟨S4x512x16384, .f32⟩ : BufTy).Contents (Elt F)),
    nullary main_cst_10 (constant S_ .f32 0x00000000#32),
    unary main_cst_10 main_v34 (broadcastInDim S4x512x16384 ![] bcast_S_S4x512x16384 : (⟨S_, .f32⟩ : BufTy).Contents (Elt F) → (⟨S4x512x16384, .f32⟩ : BufTy).Contents (Elt F)),
    binary main_v33 main_v34 main_v35 (maximumf : (⟨S4x512x16384, .f32⟩ : BufTy).Contents (Elt F) → (⟨S4x512x16384, .f32⟩ : BufTy).Contents (Elt F) → (⟨S4x512x16384, .f32⟩ : BufTy).Contents (Elt F)),
    unary main_v35 main_v36 (Host.sqrt : (⟨S4x512x16384, .f32⟩ : BufTy).Contents (Elt F) → (⟨S4x512x16384, .f32⟩ : BufTy).Contents (Elt F)),
    unary main_v36 main_v37 (Host.negf : (⟨S4x512x16384, .f32⟩ : BufTy).Contents (Elt F) → (⟨S4x512x16384, .f32⟩ : BufTy).Contents (Elt F)),
    unary main_v37 main_values ((fun x => (Host.topK S4x512x32 2 (FloatOps.cmpfTotal .gt) x sliceFits_S4x512x16384_S4x512x32).1) : (⟨S4x512x16384, .f32⟩ : BufTy).Contents (Elt F) → (⟨S4x512x32, .f32⟩ : BufTy).Contents (Elt F)),
    unary main_v37 main_indices ((fun x => (Host.topK S4x512x32 2 (FloatOps.cmpfTotal .gt) x sliceFits_S4x512x16384_S4x512x32).2) : (⟨S4x512x16384, .f32⟩ : BufTy).Contents (Elt F) → (⟨S4x512x32, .i32⟩ : BufTy).Contents (Elt F)),
    nullary main_v38 (iotaInDim S4 32 0)]
theorem distOps_sub : (distOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., nullary_bufs_sub ..⟩
/-- Last: the rows they are, and the points those hold. -/
abbrev nameOps : List (HloOp τ sig (Elt F)) :=
  [nullary main_c_11 (constantI S_ 32 16384#32),
    unary main_c_11 main_v39 (broadcastInDim S4 ![] bcast_S_S4 : (⟨S_, .i32⟩ : BufTy).Contents (Elt F) → (⟨S4, .i32⟩ : BufTy).Contents (Elt F)),
    binary main_v38 main_v39 main_v40 (muli : (⟨S4, .i32⟩ : BufTy).Contents (Elt F) → (⟨S4, .i32⟩ : BufTy).Contents (Elt F) → (⟨S4, .i32⟩ : BufTy).Contents (Elt F)),
    reshape main_v40 main_v41 (rfl : (.i32 : EltTy) = .i32) shapeCasts_S4_S4x1x1,
    unary main_v41 main_v42 (broadcastInDim S4x512x32 ![0, 1, 2] bcast_S4x1x1_S4x512x32_0_1_2 : (⟨S4x1x1, .i32⟩ : BufTy).Contents (Elt F) → (⟨S4x512x32, .i32⟩ : BufTy).Contents (Elt F)),
    binary main_indices main_v42 main_v43 (addi : (⟨S4x512x32, .i32⟩ : BufTy).Contents (Elt F) → (⟨S4x512x32, .i32⟩ : BufTy).Contents (Elt F) → (⟨S4x512x32, .i32⟩ : BufTy).Contents (Elt F)),
    reshape main_v43 main_v44 (rfl : (.i32 : EltTy) = .i32) shapeCasts_S4x512x32_S65536,
    reshape main_arg0 main_v45 (rfl : (.f32 : EltTy) = .f32) shapeCasts_S4x16384x3_S65536x3,
    nullary main_c_12 (constantI S_ 32 0#32),
    unary main_c_12 main_v46 (broadcastInDim S65536 ![] bcast_S_S65536 : (⟨S_, .i32⟩ : BufTy).Contents (Elt F) → (⟨S65536, .i32⟩ : BufTy).Contents (Elt F)),
    binary main_v44 main_v46 main_v47 (cmpi .slt : (⟨S65536, .i32⟩ : BufTy).Contents (Elt F) → (⟨S65536, .i32⟩ : BufTy).Contents (Elt F) → (⟨S65536, .i1⟩ : BufTy).Contents (Elt F)),
    nullary main_c_13 (constantI S_ 32 65536#32),
    unary main_c_13 main_v48 (broadcastInDim S65536 ![] bcast_S_S65536 : (⟨S_, .i32⟩ : BufTy).Contents (Elt F) → (⟨S65536, .i32⟩ : BufTy).Contents (Elt F)),
    binary main_v44 main_v48 main_v49 (addi : (⟨S65536, .i32⟩ : BufTy).Contents (Elt F) → (⟨S65536, .i32⟩ : BufTy).Contents (Elt F) → (⟨S65536, .i32⟩ : BufTy).Contents (Elt F)),
    ternary main_v47 main_v49 main_v44 main_v50 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v50 main_v51 (broadcastInDim S65536x1 ![0] bcast_S65536_S65536x1_0 : (⟨S65536, .i32⟩ : BufTy).Contents (Elt F) → (⟨S65536x1, .i32⟩ : BufTy).Contents (Elt F)),
    binary main_v45 main_v51 main_v52 ((fun x i => Host.gather gather_S65536x3_S65536x1_S65536x3_1_0_n_n_0_1_13 x i) : (⟨S65536x3, .f32⟩ : BufTy).Contents (Elt F) → (⟨S65536x1, .i32⟩ : BufTy).Contents (Elt F) → (⟨S65536x3, .f32⟩ : BufTy).Contents (Elt F)),
    reshape main_v52 main_v53 (rfl : (.f32 : EltTy) = .f32) shapeCasts_S65536x3_S4x512x32x3]
theorem nameOps_sub : (nameOps : List (HloOp τ sig (Elt F))).Forall fun op => op.bufs ⊆ tcRefs τ sig :=
  ⟨nullary_bufs_sub .., unary_bufs_sub .., binary_bufs_sub .., reshape_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩

/-- The stretches before the loop, in its body and after it. -/
abbrev preI : List (List (HloOp τ sig (Elt F))) := [preOps]
abbrev bodyI : List (List (HloOp τ sig (Elt F))) := [bodyOps]
abbrev postI : List (List (HloOp τ sig (Elt F))) := [distOps, nameOps]

theorem plain_pre : Plain (preI (F := F)) := .cons preOps_sub .nil
theorem plain_body : Plain (bodyI (F := F)) := .cons bodyOps_sub .nil
theorem plain_post : Plain (postI (F := F)) := .cons distOps_sub (.cons nameOps_sub .nil)

/-- `@main` and the loop's body are those stretches in order. -/
theorem main_eq (c : Dev nD) : main (F := F) c = Pipeline.chain ((preI.map fun ops => (seq ops : Prog _ PUnit)) ++ HostLoop.enter 0 :: postI.map fun ops => (seq ops : Prog _ PUnit)) := by
  chain_rfl

theorem body_eq : main_while0_body (F := F) = Pipeline.chain (bodyI.map fun ops => (seq ops : Prog _ PUnit)) := by
  chain_rfl

/-! ## One trip, in terms of what it is entered with -/

/-- The batches' numbers. -/
def batches : IVec S4 32 :=
  select (cmpi .slt (iotaInDim S4 32 0) (broadcastInDim S4 ![] bcast_S_S4 (constantI S_ 32 0#32)))
    (addi (iotaInDim S4 32 0) (broadcastInDim S4 ![] bcast_S_S4 (constantI S_ 32 4#32))) (iotaInDim S4 32 0)

/-- A point's number, counted from the end where it is negative. -/
def sound (p : IVec S4 32) : IVec S4 32 :=
  select (cmpi .slt p (broadcastInDim S4 ![] bcast_S_S4 (constantI S_ 32 0#32)))
    (addi p (broadcastInDim S4 ![] bcast_S_S4 (constantI S_ 32 16384#32))) p

/-- Each batch's point `p`: its batch and its number. -/
def places (p : IVec S4 32) : IVec S4x2 32 :=
  concatenate S4x2 1 [⟨S4x1, broadcastInDim S4x1 ![0] bcast_S4_S4x1_0 batches⟩, ⟨S4x1, broadcastInDim S4x1 ![0] bcast_S4_S4x1_0 (sound p)⟩] concatenates_S4x1_S4x1_S4x2_d1

/-- The coordinates of each batch's point `p`. -/
def current (x : FVec F S4x16384x3 .f32) (p : IVec S4 32) : FVec F S4x3 .f32 :=
  Host.gather gather_S4x16384x3_S4x2_S4x3_1_01_n_n_01_1_113 x (places p)

/-- Every point's difference from its batch's point `p`. -/
def apart (x : FVec F S4x16384x3 .f32) (p : IVec S4 32) : FVec F S4x16384x3 .f32 :=
  subf x (broadcastInDim S4x16384x3 ![0, 1, 2] bcast_S4x1x3_S4x16384x3_0_1_2 (broadcastInDim S4x1x3 ![0, 2] bcast_S4x3_S4x1x3_0_2 (current x p)))

/-- The distances once `p` is chosen. -/
def shorter (x : FVec F S4x16384x3 .f32) (D : FVec F S4x16384 .f32) (p : IVec S4 32) : FVec F S4x16384 .f32 :=
  minimumf D (Host.reduceAdd (mulf (apart x p) (apart x p)) (constant S_ .f32 0x00000000#32) reducesTo_S4x16384x3_S4x16384_d2 h_S_)

/-- The farthest point. -/
def farthest (D : FVec F S4x16384 .f32) : IVec S4 32 := fun j =>
  (Host.argReduce reducer_argmax_f32_i32 D (iotaInDim S4x16384 32 1) (constant S_ .f32 0xFF800000#32) (constantI S_ 32 0#32) reducesTo_S4x16384_S4_d1 h_S_ j).2

/-- Column `n` of the chosen points' numbers set to `p`. -/
def chosen (C : IVec S4x512 32) (n : IVec S_ 32) (p : IVec S4 32) : IVec S4x512 32 :=
  Host.scatter scatter_S4x512_S1_S4_0_1_1_0 (fun _ b => b) C
    (broadcastInDim S1 ![] bcast_S_S1 (select (cmpi .slt n (constantI S_ 32 0#32)) (addi n (constantI S_ 32 512#32)) n)) p

/-- An array of the program as the device's. -/
abbrev ref (b : Ref sig .tc) : DevRef τ sig := Proc.devRef .tc b

section Trip

variable (V : Valuation τ sig (Elt F))

/-- The arrays after one trip. -/
abbrev tripped : Valuation τ sig (Elt F) := after bodyOps (after condOps V)

/-- What one trip leaves in each array the loop carries. -/
theorem trip_x : tripped V (ref main_v3_0) = V (ref main_v3_0) := by after_results <;> rfl
theorem trip_n1 : tripped V (ref main_v3_1) = addi (V (ref main_v3_1)) (constantI S_ 32 1#32) := by after_results <;> rfl
theorem trip_n2 : tripped V (ref main_v3_2) = addi (V (ref main_v3_2)) (constantI S_ 32 1#32) := by after_results <;> rfl
theorem trip_chosen : tripped V (ref main_v3_3) = chosen (V (ref main_v3_3)) (V (ref main_v3_2)) (V (ref main_v3_5)) := by
  after_results
  simp only [id_eq, chosen, ref]
theorem trip_shorter : tripped V (ref main_v3_4) = shorter (F := F) (V (ref main_v3_0)) (V (ref main_v3_4)) (V (ref main_v3_5)) := by after_results <;> rfl
theorem trip_farthest : tripped V (ref main_v3_5) = farthest (F := F) (shorter (V (ref main_v3_0)) (V (ref main_v3_4)) (V (ref main_v3_5))) := by
  after_results <;> rfl
theorem trip_arg : tripped V (ref main_arg0) = V (ref main_arg0) := by after_results <;> rfl

end Trip

/-! ## The loop's counter and condition, and the whole run -/

section Run

variable (m : (ℓ : Loc nD τ sig) → Buf (Elt F) ℓ)

/-- A device's buffers before the condition of trip `k`. -/
abbrev Wk (k : ℕ) (c : Dev nD) : Valuation τ sig (Elt F) := atTrip condOps bodyI (entryContents preI m) k c

/-- One trip more. -/
theorem Wk_succ (k : ℕ) (c : Dev nD) : Wk m (k + 1) c = tripped (Wk m k c) := rfl

/-- The counter starts at zero. -/
theorem entry_n1 (c : Dev nD) : entryContents preI m c (ref main_v3_1) = fun _ => (0#32 : BitVec 32) := by
  simp only [entryContents, afterL_cons, afterL_nil]
  after_results <;> rfl

/-- The counter before the condition of trip `k`. -/
theorem counter (c : Dev nD) : ∀ k, Wk m k c (ref main_v3_1) = fun _ => Scf.iv 0#32 1#32 k
  | 0 => by rw [show Wk m 0 c = entryContents preI m c from rfl, entry_n1, Scf.iv_zero]
  | k + 1 => by rw [Wk_succ, trip_n1, counter c k, Scf.iv_succ]; rfl

set_option backward.isDefEq.respectTransparency.types false in
/-- The condition leaves the arrays' contents after its two operations and answers whether fewer than 512 trips have run. -/
theorem cond_spec : CondSpec (pcfgs (F := F)) defs₀ loops (main_while0_cond (F := F)) condOps bodyI (entryContents preI m) 512 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v3_1 HostLoop.idx0)
        (HloOp.result _ (Wk m k c) main_while0c_c_19 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- What the run leaves in every array that no scope owns. -/
abbrev VR (c : Dev nD) : Valuation τ sig (Elt F) := finalContents condOps preI bodyI postI 512 m c

/-- The run. -/
theorem run_main [∀ e, Nonempty (Elt F e)] (ρ : Dev nD → PrngReg) :
    θ_run (Cert.ReferenceIdeal.defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = VR m c (ref b)) :=
  run_loop pcfgs defs₀ loops main 0 main_while0_cond main_while0_body rfl preI bodyI postI condOps plain_pre plain_body plain_post main_eq
    body_eq 512 m ρ (cond_spec m)

end Run

end Cert.Proof.Ref

end
-- ==== Proof.RefOps.lean ====
/-
  The reference's reads and writes by computed places, each at one element: a point's coordinates read by its batch and its
  number, and one column of the chosen points' numbers replaced.
-/
module

public import proofs.«01_k».proof.Proof.RefRun
public import proofs.«01_k».proof.Proof.Answer
public import Idealize.ShloMosaic.Lib.Pointwise
public import Idealize.ShloMosaic.Lib.Routing.OpsOne

@[expose] public section

noncomputable section

namespace Cert.Proof.Ref

open Cert.ReferenceIdeal Cert.ReferenceIdeal.Gen
open Idealize.ShloMosaic Cert.Proof.Nearest Cert.Proof.Farthest

/-- A number's word is not negative. -/
theorem slt_zero {n : ℕ} (h : n < 2147483648) : IntOp.cmpi .slt (word n) 0#32 = 0#1 := by
  show BitVec.ofBool ((word n).slt 0#32) = 0#1
  rw [BitVec.slt, toInt_word h, show (0#32 : BitVec 32).toInt = 0 from rfl, decide_eq_false (by omega)]
  rfl

/-- The coordinates of one point a batch, read by its batch and its number. -/
theorem take_one {α : Type} (x : S4x16384x3.Idx → α) (I : IVec S4x2 32) (b : Fin 4) (i : Fin 3) (c : Fin 4) (n : Fin 16384)
    (h0 : (I (ix2 b 0)).toInt = c.val) (h1 : (I (ix2 b 1)).toInt = n.val) :
    Host.gather gather_S4x16384x3_S4x2_S4x3_1_01_n_n_01_1_113 x I (ix2 b i) = x (ix3 c n i) := by
  unfold Host.gather
  congr 1
  funext a
  apply Fin.ext
  match a with
  | ⟨0, _⟩ =>
    show min (I _).toInt.toNat (4 - 1) + 0 + 0 = c.val
    rw [show GatherDims.siIdx gather_S4x16384x3_S4x2_S4x3_1_01_n_n_01_1_113 (ix2 b i) _ = ix2 b 0 from by
      funext e; match e with | ⟨0, _⟩ => rfl | ⟨1, _⟩ => rfl, h0]
    omega
  | ⟨1, _⟩ =>
    show min (I _).toInt.toNat (16384 - 1) + 0 + 0 = n.val
    rw [show GatherDims.siIdx gather_S4x16384x3_S4x2_S4x3_1_01_n_n_01_1_113 (ix2 b i) _ = ix2 b 1 from by
      funext e; match e with | ⟨0, _⟩ => rfl | ⟨1, _⟩ => rfl, h1]
    omega
  | ⟨2, _⟩ => show 0 + 0 + i.val = i.val; omega

/-- The coordinates of the 512 points a batch, read by their batches and their numbers. -/
theorem take_all {α : Type} (x : S4x16384x3.Idx → α) (I : IVec S4x512x2 32) (b : Fin 4) (j : Fin 512) (i : Fin 3) (c : Fin 4) (n : Fin 16384)
    (h0 : (I (ix3 b j 0)).toInt = c.val) (h1 : (I (ix3 b j 1)).toInt = n.val) :
    Host.gather gather_S4x16384x3_S4x512x2_S4x512x3_2_01_n_n_01_2_113 x I (ix3 b j i) = x (ix3 c n i) := by
  unfold Host.gather
  congr 1
  funext a
  apply Fin.ext
  match a with
  | ⟨0, _⟩ =>
    show min (I _).toInt.toNat (4 - 1) + 0 + 0 = c.val
    rw [show GatherDims.siIdx gather_S4x16384x3_S4x512x2_S4x512x3_2_01_n_n_01_2_113 (ix3 b j i) _ = ix3 b j 0 from by
      funext e; match e with | ⟨0, _⟩ => rfl | ⟨1, _⟩ => rfl | ⟨2, _⟩ => rfl, h0]
    omega
  | ⟨1, _⟩ =>
    show min (I _).toInt.toNat (16384 - 1) + 0 + 0 = n.val
    rw [show GatherDims.siIdx gather_S4x16384x3_S4x512x2_S4x512x3_2_01_n_n_01_2_113 (ix3 b j i) _ = ix3 b j 1 from by
      funext e; match e with | ⟨0, _⟩ => rfl | ⟨1, _⟩ => rfl | ⟨2, _⟩ => rfl, h1]
    omega
  | ⟨2, _⟩ => show 0 + 0 + i.val = i.val; omega

/-- Where update `c` of a column lands. -/
theorem lands (I : IVec S1 32) (k : Fin 512) (hk : (I (ix1 0)).toInt = k.val) (c b : Fin 4) (j : Fin 512) :
    ScatterDims.resultIdx? scatter_S4x512_S1_S4_0_1_1_0 (ix1 c) I = some (ix2 b j) ↔ c = b ∧ k = j := by
  rw [Routing.resultIdx?_eq_some]
  have h0 : ScatterDims.start scatter_S4x512_S1_S4_0_1_1_0 (ix1 c) I 0 + (ScatterDims.window scatter_S4x512_S1_S4_0_1_1_0 (ix1 c) 0 : Int) = c.val := by
    show (0 : Int) + ((c.val : ℕ) : Int) = _
    omega
  have h1 : ScatterDims.start scatter_S4x512_S1_S4_0_1_1_0 (ix1 c) I 1 + (ScatterDims.window scatter_S4x512_S1_S4_0_1_1_0 (ix1 c) 1 : Int) = k.val := by
    show (I _).toInt + ((0 : ℕ) : Int) = _
    rw [show ScatterDims.siIdx scatter_S4x512_S1_S4_0_1_1_0 (ix1 c) _ = ix1 0 from by
      funext e; match e with | ⟨0, _⟩ => rfl, hk]
    omega
  constructor
  · intro h
    have e0 := h 0
    have e1 := h 1
    rw [h0] at e0
    rw [h1] at e1
    exact ⟨Fin.ext (by exact_mod_cast e0), Fin.ext (by exact_mod_cast e1)⟩
  · rintro ⟨rfl, rfl⟩ a
    match a with
    | ⟨0, _⟩ => exact h0
    | ⟨1, _⟩ => exact h1

/-- The chosen points' numbers with column `k` replaced. -/
theorem chosen_apply (C : IVec S4x512 32) (n : IVec S_ 32) (p : IVec S4 32) (k : Fin 512) (hn : n ix0 = word k.val) (b : Fin 4) (j : Fin 512) :
    chosen C n p (ix2 b j) = if k = j then p (ix1 b) else C (ix2 b j) := by
  have hk : ((broadcastInDim S1 ![] bcast_S_S1 (select (cmpi .slt n (constantI S_ 32 0#32)) (addi n (constantI S_ 32 512#32)) n) : IVec S1 32) (ix1 0)).toInt = k.val := by
    pointwise []
    rw [hn, slt_zero (by omega)]
    exact toInt_word (by omega)
  unfold chosen
  split
  · rename_i h
    exact Routing.scatter_set_hit _ _ _ _ _ _ (fun c hc => by
      obtain ⟨c', rfl⟩ : ∃ c', c = ix1 c' := ⟨c 0, by funext e; match e with | ⟨0, _⟩ => rfl⟩
      rw [((lands _ k hk c' b j).1 hc).1]) (ix1 b) ((lands _ k hk b b j).2 ⟨rfl, h⟩)
  · rename_i h
    exact Routing.scatter_set_miss _ _ _ _ _ fun c hc => by
      obtain ⟨c', rfl⟩ : ∃ c', c = ix1 c' := ⟨c 0, by funext e; match e with | ⟨0, _⟩ => rfl⟩
      exact h ((lands _ k hk c' b j).1 hc).2

/-- The batches' numbers, a point's number and the places they make, at one element. -/
theorem batches_apply (b : Fin 4) : batches (ix1 b) = word b.val := by
  unfold batches
  pointwise []
  rw [slt_zero (by omega)]
  rfl

theorem sound_apply (p : IVec S4 32) (b : Fin 4) (q : Pt) (h : p (ix1 b) = word q.val) : sound p (ix1 b) = word q.val := by
  unfold sound
  pointwise []
  rw [h, slt_zero (by omega)]
  rfl

theorem places_batch (p : IVec S4 32) (b : Fin 4) : places p (ix2 b 0) = batches (ix1 b) := by
  unfold places
  pointwise []

theorem places_point (p : IVec S4 32) (b : Fin 4) : places p (ix2 b 1) = sound p (ix1 b) := by
  unfold places
  pointwise []

/-- Each batch's point. -/
theorem current_apply (x : FVec Ideal S4x16384x3 .f32) (p : IVec S4 32) (b : Fin 4) (q : Pt) (h : p (ix1 b) = word q.val) (i : Fin 3) :
    current x p (ix2 b i) = x (ix3 b q i) := by
  unfold current
  refine take_one x _ b i b q ?_ ?_
  · rw [places_batch, batches_apply, toInt_word (by omega)]
  · rw [places_point, sound_apply p b q h, toInt_word (by omega)]

/-- Every point's difference from its batch's point. -/
theorem apart_apply (x : FVec Ideal S4x16384x3 .f32) (p : IVec S4 32) (b : Fin 4) (q : Pt) (h : p (ix1 b) = word q.val) (n : Pt) (i : Fin 3) :
    apart x p (ix3 b n i) = x (ix3 b n i) - x (ix3 b q i) := by
  rw [← current_apply x p b q h i]
  unfold apart
  pointwise []

/-- The distances once a batch's point `q` is chosen. -/
theorem shorter_apply (x : FVec Ideal S4x16384x3 .f32) (D : FVec Ideal S4x16384 .f32) (p : IVec S4 32) (b : Fin 4) (q : Pt)
    (h : p (ix1 b) = word q.val) (n : Pt) :
    shorter x D p (ix2 b n) = closer (Answer.pts x b) (fun n => D (ix2 b n)) q n := by
  unfold shorter
  pointwise [apart_apply x p b q h]
  rw [Fin.sum_univ_three]
  rfl

/-- One step of the scan for the farthest point. -/
theorem step (a b : EReal) (u v : BitVec 32) :
    reducer_argmax_f32_i32 (F := Ideal) (a, u) (b, v) = if b < a ∨ (a = b ∧ u.toInt < v.toInt) then (a, u) else (b, v) := by
  have e1 : (FloatOps.cmpf (F := Ideal) (φ := .f32) CmpFPredicate.ogt a b : BitVec 1) = BitVec.ofBool (decide (b < a)) := rfl
  have e2 : (FloatOps.cmpf (F := Ideal) (φ := .f32) CmpFPredicate.une a a : BitVec 1) = 0#1 := by
    show BitVec.ofBool (decide (a ≠ a)) = 0#1
    simp
  have e3 : (FloatOps.cmpf (F := Ideal) (φ := .f32) CmpFPredicate.oeq a b : BitVec 1) = BitVec.ofBool (decide (a = b)) := rfl
  have e4 : IntOp.cmpi .slt u v = BitVec.ofBool (decide (u.toInt < v.toInt)) := rfl
  unfold reducer_argmax_f32_i32
  simp only [e1, e2, e3, e4]
  by_cases h1 : b < a
  · by_cases h2 : a = b <;> by_cases h3 : u.toInt < v.toInt <;> simp [h1, h2, h3, Scalar.select, IntOp.ori, IntOp.andi]
  · by_cases h2 : a = b
    · subst h2
      by_cases h3 : u.toInt < v.toInt <;> simp [h3, Scalar.select, IntOp.ori, IntOp.andi]
    · simp [h1, h2, Scalar.select, IntOp.ori, IntOp.andi]

/-- The scan over a list of points from the first farthest of those before it. -/
theorem scan_from (d : Pt → EReal) (L : List Pt) (S : Finset Pt) (x : Pt) (hx : FirstMax d S x) :
    ∃ y, FirstMax d (S ∪ L.toFinset) y ∧
      (L.map fun n => (d n, word n.val)).foldl (reducer_argmax_f32_i32 (F := Ideal)) (d x, word x.val) = (d y, word y.val) := by
  induction L generalizing S x with
  | nil => exact ⟨x, by simpa using hx, rfl⟩
  | cons n L ih =>
    rw [List.map_cons, List.foldl_cons, step, toInt_word (by omega), toInt_word (by omega)]
    have hS : S ∪ (n :: L).toFinset = (insert n S) ∪ L.toFinset := by
      ext z; simp only [List.toFinset_cons, Finset.mem_union, Finset.mem_insert]; tauto
    rw [hS]
    split
    · rename_i h
      refine ih (insert n S) x ⟨Finset.mem_insert_of_mem hx.1, fun y hy => ?_⟩
      rcases Finset.mem_insert.1 hy with rfl | hy
      · rcases h with h | ⟨h, h'⟩
        · exact ⟨h.le, fun e => absurd e h.ne⟩
        · exact ⟨h.ge, fun _ => by rw [Fin.le_def]; omega⟩
      · exact hx.2 y hy
    · rename_i h
      push Not at h
      refine ih (insert n S) n ⟨Finset.mem_insert_self _ _, fun y hy => ?_⟩
      rcases Finset.mem_insert.1 hy with rfl | hy
      · exact ⟨le_rfl, fun _ => le_rfl⟩
      · have hyx := hx.2 y hy
        refine ⟨hyx.1.trans h.1, fun e => ?_⟩
        have hxn : d x = d n := le_antisymm h.1 (e ▸ hyx.1)
        have h1 := h.2 hxn
        have h2 := hyx.2 (e.trans hxn.symm)
        rw [Fin.le_def] at h2 ⊢
        omega

/-- The scan over a list of points above `⊥` from `⊥`. -/
theorem scan (d : Pt → EReal) (hd : ∀ n, ⊥ < d n) (L : List Pt) (hL : ∀ n, n ∈ L) (u : BitVec 32) :
    (L.map fun n => (d n, word n.val)).foldl (reducer_argmax_f32_i32 (F := Ideal)) (⊥, u) = (d (far d), word (far d).val) := by
  cases L with
  | nil => exact absurd (hL 0) List.not_mem_nil
  | cons n L =>
    rw [List.map_cons, List.foldl_cons, step, if_neg (by
      push Not
      exact ⟨bot_le, fun h => absurd h (hd n).ne⟩)]
    obtain ⟨y, hy, e⟩ := scan_from d L {n} n ⟨Finset.mem_singleton_self n, fun y hy => by
      rw [Finset.mem_singleton.1 hy]; exact ⟨le_rfl, fun _ => le_rfl⟩⟩
    rw [e]
    have hall : ({n} ∪ L.toFinset : Finset Pt) = Finset.univ := by
      ext z
      have := hL z
      simp only [Finset.mem_union, Finset.mem_singleton, List.mem_toFinset, Finset.mem_univ, iff_true]
      rcases List.mem_cons.1 this with h | h
      · exact .inl h
      · exact .inr h
    rw [hall] at hy
    rw [hy.unique (far_firstMax d)]

/-- The farthest point of each batch. -/
theorem farthest_apply (D : FVec Ideal S4x16384 .f32) (b : Fin 4) (hD : ∀ n, ⊥ < D (ix2 b n)) :
    farthest D (ix1 b) = word (far fun n => D (ix2 b n)).val := by
  unfold farthest
  rw [Ideal.argReduce_eq_reduce2, Host.reduce2_eq_foldl_fiber]
  have hdrop : ∀ i : S4x16384.Idx, reducesTo_S4x16384_S4_d1.drop i = ix1 (i 0) := fun i => by
    funext e
    match e with
    | ⟨0, _⟩ => rfl
  have hix : ∀ i : S4x16384.Idx, i 0 = b → i = ix2 b (i 1) := fun i h => by
    funext e
    match e with
    | ⟨0, _⟩ => exact h
    | ⟨1, _⟩ => rfl
  let at1 : Fin S4x16384.numel → Pt := fun n => S4x16384.rowMajor.symm n 1
  let L : List (Fin S4x16384.numel) := (List.finRange S4x16384.numel).filter fun n => reducesTo_S4x16384_S4_d1.drop (S4x16384.rowMajor.symm n) = ix1 b
  have hf : Host.argReduceFiber D (iotaInDim S4x16384 32 1) reducesTo_S4x16384_S4_d1 (ix1 b)
      = (L.map at1).map fun n : Pt => (D (ix2 b n), word n.val) := by
    refine (List.map_congr_left fun n hn => ?_).trans (List.map_map (l := L)).symm
    have h0 : S4x16384.rowMajor.symm n 0 = b := by
      have := of_decide_eq_true (List.mem_filter.1 hn).2
      rw [hdrop] at this
      exact congrFun this 0
    exact congrArg (fun i => (D i, word (S4x16384.rowMajor.symm n 1).val)) (hix _ h0)
  rw [hf]
  have hL : ∀ n, n ∈ L.map at1 := fun n => by
    refine List.mem_map.2 ⟨S4x16384.rowMajor (ix2 b n), List.mem_filter.2 ⟨List.mem_finRange _, decide_eq_true ?_⟩, ?_⟩
    · rw [Equiv.symm_apply_apply, hdrop]
      rfl
    · show S4x16384.rowMajor.symm (S4x16384.rowMajor (ix2 b n)) 1 = n
      rw [Equiv.symm_apply_apply]
      rfl
  have h := scan (fun n => D (ix2 b n)) hD (L.map at1) hL 0#32
  have hb : Ideal.ofBits .f32 4286578688#32 = ⊥ := by simp [Ideal.ofBits, Ideal.ieee]
  rw [← hb] at h
  exact congrArg Prod.snd h

end Cert.Proof.Ref

end
-- ==== Proof.RefLoop.lean ====
/-
  The reference's loop: before trip `k` its arrays hold the first `k` farthest points of each batch, every point's distance to
  them, and the next.
-/
module

public import proofs.«01_k».proof.Proof.RefOps

@[expose] public section

noncomputable section

namespace Cert.Proof.Ref

open Cert.ReferenceIdeal Cert.ReferenceIdeal.Gen
open Idealize.ShloMosaic Idealize.ShloMosaic.TcCoe Idealize.ShloMosaic.StableHlo
open Idealize.ShloMosaic.Tactic
open Cert.Proof.Nearest Cert.Proof.Farthest Cert.Proof.Answer

/-- The arrays before trip `k`. -/
structure Sampled (V : Valuation τ sig (Elt Ideal)) (x : FVec Ideal S4x16384x3 .f32) (k : ℕ) : Prop where
  arg : V (ref main_arg0) = x
  points : V (ref main_v3_0) = x
  count : V (ref main_v3_2) = fun _ => word k
  dist : ∀ b n, V (ref main_v3_4) (ix2 b n) = (fps (pts x b) k).2 n
  next : ∀ b, V (ref main_v3_5) (ix1 b) = word (fps (pts x b) k).1.val
  past : ∀ b (j : Fin 512), j.val < k → V (ref main_v3_3) (ix2 b j) = word (fps (pts x b) j.val).1.val

/-- One trip chooses one point more. -/
theorem Sampled.step {V : Valuation τ sig (Elt Ideal)} {x : FVec Ideal S4x16384x3 .f32} {k : ℕ} (h : Sampled V x k) (hx : Answer.Finite x) (hk : k < 512) :
    Sampled (tripped V) x (k + 1) := by
  have hd : ∀ b n, shorter (F := Ideal) (V (ref main_v3_0)) (V (ref main_v3_4)) (V (ref main_v3_5)) (ix2 b n) = (fps (pts x b) (k + 1)).2 n := fun b n => by
    rw [shorter_apply _ _ _ b _ (h.next b), h.points, show (fun n => V (ref main_v3_4) (ix2 b n)) = (fps (pts x b) k).2 from funext (h.dist b)]
    rfl
  refine ⟨?_, ?_, ?_, fun b n => ?_, fun b => ?_, fun b j hj => ?_⟩
  · rw [trip_arg, h.arg]
  · rw [trip_x, h.points]
  · rw [trip_n2, h.count]
    funext i
    show word k + 1#32 = word (k + 1)
    exact (BitVec.ofNat_add k 1).symm
  · rw [trip_shorter, hd]
  · rw [trip_farthest, farthest_apply _ b fun n => by rw [hd]; exact bot_lt_fps (hx.pts b) _ _, fps_succ]
    exact congrArg (fun d => word (far d).val) (funext (hd b))
  · rw [trip_chosen, chosen_apply _ _ _ ⟨k, hk⟩ (by rw [h.count]) b j]
    split
    · rename_i e
      subst e
      exact h.next b
    · rename_i e
      exact h.past b j (by have : j.val ≠ k := fun q => e (Fin.ext q.symm); omega)

variable (m : (ℓ : Loc nD τ sig) → Buf (Elt Ideal) ℓ)

/-- The points a device is given. -/
abbrev given (c : Dev nD) : FVec Ideal S4x16384x3 .f32 := m ((c.tc : Thread nD τ).loc main_arg0)

/-- At the loop's entry nothing is chosen and point 0 is next. -/
theorem sampled_entry (c : Dev nD) : Sampled (entryContents preI m c) (given m c) 0 := by
  have e4 : entryContents preI m c (ref main_v3_4) = broadcastInDim S4x16384 ![] bcast_S_S4x16384 (constant (F := Ideal) S_ .f32 0x7F800000#32) := by
    simp only [entryContents, afterL_cons, afterL_nil]
    after_results <;> rfl
  have e5 : entryContents preI m c (ref main_v3_5) = broadcastInDim S4 ![] bcast_S_S4 (constantI S_ 32 0#32) := by
    simp only [entryContents, afterL_cons, afterL_nil]
    after_results <;> rfl
  refine ⟨?_, ?_, ?_, fun b n => ?_, fun b => ?_, fun b j hj => absurd hj (Nat.not_lt_zero _)⟩
  · simp only [entryContents, afterL_cons, afterL_nil]
    after_results <;> rfl
  · simp only [entryContents, afterL_cons, afterL_nil]
    after_results <;> rfl
  · simp only [entryContents, afterL_cons, afterL_nil]
    after_results <;> rfl
  · rw [e4]
    show Ideal.ofBits .f32 0x7F800000#32 = ⊤
    simp [Ideal.ofBits, Ideal.ieee]
  · rw [e5]
    rfl

/-- Before every trip, and after the last. -/
theorem sampled (c : Dev nD) (hx : Answer.Finite (given m c)) : ∀ k ≤ 512, Sampled (Wk m k c) (given m c) k
  | 0, _ => sampled_entry m c
  | k + 1, hk => (sampled c hx k (by omega)).step hx (by omega)

end Cert.Proof.Ref

end
-- ==== Proof.RefTail.lean ====
/-
  What the reference computes after its loop, as functions of the points and of the chosen points' numbers: the chosen points'
  coordinates, the negated distance of every point from each, the 32 nearest, and the numbers and rows they name.
-/
module

public import proofs.«01_k».proof.Proof.RefRun

@[expose] public section

noncomputable section

namespace Cert.Proof.Ref

open Cert.ReferenceIdeal Cert.ReferenceIdeal.Gen
open Idealize.ShloMosaic Idealize.ShloMosaic.TcCoe Idealize.ShloMosaic.StableHlo
open Idealize.ShloMosaic.Tactic

variable {F : FTy → Type} [FloatOps F]

/-- Each chosen point's batch and number. -/
def spots (C : IVec S4x512 32) : IVec S4x512x2 32 :=
  concatenate S4x512x2 2
    [⟨S4x512x1, broadcastInDim S4x512x1 ![0, 1] bcast_S4x512_S4x512x1_0_1 (broadcastInDim S4x512 ![0, 1] bcast_S4x1_S4x512_0_1
        (select (cmpi .slt (broadcastInDim S4x1 ![0] bcast_S4_S4x1_0 (iotaInDim S4 32 0)) (broadcastInDim S4x1 ![] bcast_S_S4x1 (constantI S_ 32 0#32)))
          (addi (broadcastInDim S4x1 ![0] bcast_S4_S4x1_0 (iotaInDim S4 32 0)) (broadcastInDim S4x1 ![] bcast_S_S4x1 (constantI S_ 32 4#32)))
          (broadcastInDim S4x1 ![0] bcast_S4_S4x1_0 (iotaInDim S4 32 0))))⟩,
     ⟨S4x512x1, broadcastInDim S4x512x1 ![0, 1] bcast_S4x512_S4x512x1_0_1
        (select (cmpi .slt C (broadcastInDim S4x512 ![] bcast_S_S4x512 (constantI S_ 32 0#32)))
          (addi C (broadcastInDim S4x512 ![] bcast_S_S4x512 (constantI S_ 32 16384#32))) C)⟩]
    concatenates_S4x512x1_S4x512x1_S4x512x2_d2

/-- The chosen points' coordinates. -/
def centers (x : FVec F S4x16384x3 .f32) (C : IVec S4x512 32) : FVec F S4x512x3 .f32 :=
  Host.gather gather_S4x16384x3_S4x512x2_S4x512x3_2_01_n_n_01_2_113 x (spots C)

/-- The negated distance of every point from each of the chosen points `c`. -/
def away (x : FVec F S4x16384x3 .f32) (c : FVec F S4x512x3 .f32) : FVec F S4x512x16384 .f32 :=
  Host.negf (Host.sqrt (maximumf
    (subf
      (addf
        (broadcastInDim S4x512x16384 ![0, 1, 2] bcast_S4x512x1_S4x512x16384_0_1_2 (broadcastInDim S4x512x1 ![0, 1] bcast_S4x512_S4x512x1_0_1
          (Host.reduceAdd (mulf c c) (constant S_ .f32 0x00000000#32) reducesTo_S4x512x3_S4x512_d2 h_S_)))
        (broadcastInDim S4x512x16384 ![0, 1, 2] bcast_S4x1x16384_S4x512x16384_0_1_2 (broadcastInDim S4x1x16384 ![0, 2] bcast_S4x16384_S4x1x16384_0_2
          (Host.reduceAdd (mulf x x) (constant S_ .f32 0x00000000#32) reducesTo_S4x16384x3_S4x16384_d2 h_S_))))
      (mulf (broadcastInDim S4x512x16384 ![] bcast_S_S4x512x16384 (constant S_ .f32 0x40000000#32))
        (Host.dotGeneral dot_S4x512x3_S4x16384x3_S4x512x16384_2_2_1_1_0_0 none c x)))
    (broadcastInDim S4x512x16384 ![] bcast_S_S4x512x16384 (constant S_ .f32 0x00000000#32))))

/-- The numbers, in its batch, of the 32 points of greatest value. -/
def greatest (N : FVec F S4x512x16384 .f32) : IVec S4x512x32 32 :=
  (Host.topK S4x512x32 2 (FloatOps.cmpfTotal .gt) N sliceFits_S4x512x16384_S4x512x32).2

/-- The rows that the numbers `I` name. -/
def flat (I : IVec S4x512x32 32) : IVec S65536 32 :=
  shapeCast S65536 (addi I (broadcastInDim S4x512x32 ![0, 1, 2] bcast_S4x1x1_S4x512x32_0_1_2
    (shapeCast S4x1x1 (muli (iotaInDim S4 32 0) (broadcastInDim S4 ![] bcast_S_S4 (constantI S_ 32 16384#32))) shapeCasts_S4_S4x1x1)))
    shapeCasts_S4x512x32_S65536

/-- The rows `J` of the points. -/
def taken (x : FVec F S4x16384x3 .f32) (J : IVec S65536 32) : FVec F S4x512x32x3 .f32 :=
  shapeCast S4x512x32x3 (Host.gather gather_S65536x3_S65536x1_S65536x3_1_0_n_n_0_1_13
      (shapeCast S65536x3 x shapeCasts_S4x16384x3_S65536x3)
      (broadcastInDim S65536x1 ![0] bcast_S65536_S65536x1_0
        (select (cmpi .slt J (broadcastInDim S65536 ![] bcast_S_S65536 (constantI S_ 32 0#32)))
          (addi J (broadcastInDim S65536 ![] bcast_S_S65536 (constantI S_ 32 65536#32))) J)))
    shapeCasts_S65536x3_S4x512x32x3

variable (V : Valuation τ sig (Elt F))

theorem dist_centers : after distOps V (ref main_v20) = centers (V (ref main_arg0)) (V (ref main_v3_3)) := by after_results <;> rfl

theorem dist_away : after distOps V (ref main_v37) = away (V (ref main_arg0)) (centers (V (ref main_arg0)) (V (ref main_v3_3))) := by
  after_results <;> rfl

theorem dist_greatest : after distOps V (ref main_indices) = greatest (away (V (ref main_arg0)) (centers (V (ref main_arg0)) (V (ref main_v3_3)))) := by
  after_results <;> rfl

theorem dist_iota : after distOps V (ref main_v38) = iotaInDim S4 32 0 := by after_results <;> rfl

theorem dist_arg : after distOps V (ref main_arg0) = V (ref main_arg0) := by after_results <;> rfl

theorem name_flat (h : V (ref main_v38) = iotaInDim S4 32 0) : after nameOps V (ref main_v44) = flat (V (ref main_indices)) := by
  unfold flat
  rw [← h]
  after_results <;> rfl

theorem name_taken (h : V (ref main_v38) = iotaInDim S4 32 0) : after nameOps V (ref main_v53) = taken (V (ref main_arg0)) (flat (V (ref main_indices))) := by
  unfold taken flat
  rw [← h]
  after_results <;> rfl

theorem name_arg : after nameOps V (ref main_arg0) = V (ref main_arg0) := by after_results <;> rfl

end Cert.Proof.Ref

end
-- ==== Proof.Sorted.lean ====
/-
  A stable sort of all points by a distance lists them by distance and, at equal distances, by number: place `k` of the sorted list
  is the `k`-th nearest.
-/
module

public import proofs.«01_k».proof.Proof.Nearest
public import Idealize.ShloMosaic.Lib.SortFacts

@[expose] public section

noncomputable section

namespace Cert.Proof.Nearest

open Idealize.ShloMosaic

variable {N : ℕ} (D : Fin N → EReal)

/-- Inserting a point of lower number than those of a sorted list keeps the list sorted. -/
theorem pairwise_insert (before : Fin N → Fin N → Bool) (hb : ∀ i j, before i j = true ↔ D i < D j) (a : Fin N) (l : List (Fin N))
    (ha : ∀ b ∈ l, a < b) (hl : l.Pairwise fun i j => key D i < key D j) : (insertBefore before a l).Pairwise fun i j => key D i < key D j := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore before a l).mem_iff.1 hc) with rfl | hc
      · exact (key_lt D).2 (.inl ((hb _ _).1 h))
      · exact hl.1 c hc
    · rename_i h
      have hab : key D a < key D b := by
        rw [key_lt]
        rcases lt_or_eq_of_le (not_lt.1 fun q => h ((hb b a).2 q)) with q | q
        · exact .inl q
        · exact .inr ⟨q, ha b List.mem_cons_self⟩
      refine List.pairwise_cons.2 ⟨fun c hc => ?_, List.pairwise_cons.2 hl⟩
      rcases List.mem_cons.1 hc with rfl | hc
      · exact hab
      · exact hab.trans (hl.1 c hc)

/-- The stable sort sorts by distance and then by number. -/
theorem pairwise_sort (before : Fin N → Fin N → Bool) (hb : ∀ i j, before i j = true ↔ D i < D j) (l : List (Fin N))
    (hl : l.Pairwise fun i j => i < j) : (stableSort before l).Pairwise fun i j => key D i < key D j := by
  induction l with
  | nil => exact List.Pairwise.nil
  | cons a l ih =>
    rw [List.pairwise_cons] at hl
    exact pairwise_insert D before hb a _ (fun b h => hl.1 b ((perm_stableSort before l).mem_iff.1 h)) (ih hl.2)

/-- Place `k` of the sorted points. -/
theorem sortedFrom_eq [NeZero N] (before : Fin N → Fin N → Bool) (hb : ∀ i j, before i j = true ↔ D i < D j) (k : Fin N) :
    sortedFrom before k = nth D k.val := by
  refine eq_nth D (sortedFrom before) (sortedFrom_surjective before) (fun i j h => ?_) k
  have hp := List.pairwise_iff_get.1 (pairwise_sort D before hb (List.finRange N) (List.pairwise_lt_finRange N))
  exact hp (i.cast (length_sortPositions N before).symm) (j.cast (length_sortPositions N before).symm) h

end Cert.Proof.Nearest

end
-- ==== Proof.RefValue.lean ====
/-
  The reference's two results over the extended reals: the numbers and the rows that `Answer` states of the points.
-/
module

public import proofs.«01_k».proof.Proof.RefLoop
public import proofs.«01_k».proof.Proof.RefTail
public import proofs.«01_k».proof.Proof.Sorted
public import proofs.«01_k».proof.Proof.GatherValue

@[expose] public section

noncomputable section

namespace Cert.Proof.Ref

open Cert.ReferenceIdeal Cert.ReferenceIdeal.Gen
open Idealize.ShloMosaic Idealize.ShloMosaic.TcCoe Idealize.ShloMosaic.StableHlo
open Idealize.ShloMosaic.Tactic
open Cert.Proof.Nearest Cert.Proof.Farthest Cert.Proof.Answer

/-- The points of greatest value, where the values are negated distances. -/
theorem greatest_of (N : FVec Ideal S4x512x16384 .f32) (b : Fin 4) (j : Fin 512) (D : Pt → EReal) (hN : ∀ n, N (ix3 b j n) = - D n) (k : Fin 32) :
    greatest N (ix3 b j k) = word (nth D k.val).val := by
  let i : S4x512x16384.Idx := ix3 b j (Fin.castLE (by decide) k)
  have hi : ∀ n : Pt, i.along 2 n = ix3 b j n := fun n => by
    funext a
    match a with
    | ⟨0, _⟩ => rfl
    | ⟨1, _⟩ => rfl
    | ⟨2, _⟩ => rfl
  have hw : ∀ n : Pt, iotaInDim S4x512x16384 32 2 (i.along 2 n) = word n.val := fun n => by rw [hi]; rfl
  have h := sortedFrom_eq D (fun n n' => FloatOps.cmpfTotal (F := Ideal) .gt (N (i.along 2 n)) (N (i.along 2 n')) == 1#1)
    (fun n n' => by
      rw [hi, hi, hN, hN]
      show (BitVec.ofBool (decide (- D n' < - D n)) == 1#1) = true ↔ _
      simp only [EReal.neg_lt_neg_iff]
      by_cases q : D n < D n' <;> simp [q])
    (Fin.castLE (by decide) k)
  show extractStridedSlice S4x512x32 (fun _ => 0)
    (Host.sort2 S4x512x16384 2 (fun l r => FloatOps.cmpfTotal .gt l.1 r.1) N (fun i => iotaInDim S4x512x16384 32 2 i)).2
    sliceFits_S4x512x16384_S4x512x32 (ix3 b j k) = _
  refine (extractStridedSlice_apply (fun _ => 0) _ _ (ix3 b j k) i (fun a => ?_)).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide)]
    refine Eq.trans ?_ (congrArg (fun n : Pt => word n.val) h)
    refine Eq.trans (b := iotaInDim S4x512x16384 32 2 (i.along 2 (sortedFrom (fun n n' => FloatOps.cmpfTotal (F := Ideal) .gt (N (i.along 2 n)) (N (i.along 2 n')) == 1#1) (i 2)))) rfl ?_
    exact hw _

section Values

variable (x : FVec Ideal S4x16384x3 .f32) (C : IVec S4x512 32) (hC : ∀ b (j : Fin 512), C (ix2 b j) = word (fps (pts x b) j.val).1.val)
include hC

/-- The chosen points. -/
theorem centers_apply (b : Fin 4) (j : Fin 512) (i : Fin 3) : centers x C (ix3 b j i) = center x b j i := by
  unfold centers
  refine take_all x _ b j i b (fps (pts x b) j.val).1 ?_ ?_
  · unfold spots
    pointwise []
    rw [slt_zero (by omega)]
    exact toInt_word (by omega)
  · unfold spots
    pointwise []
    rw [hC, slt_zero (by omega)]
    exact toInt_word (by omega)

/-- The distances from them, negated. -/
theorem away_apply (b : Fin 4) (j : Fin 512) (n : Pt) : away x (centers x C) (ix3 b j n) = - gap (center x b j) (pts x b n) := by
  unfold away
  pointwise [centers_apply x C hC]
  simp only [Fin.sum_univ_three]
  rfl

/-- The nearest points. -/
theorem greatest_apply (b : Fin 4) (j : Fin 512) (k : Fin 32) : greatest (away x (centers x C)) (ix3 b j k) = word (near x b j k.val).val :=
  greatest_of _ b j _ (away_apply x C hC b j) k

/-- The rows they name. -/
theorem flat_apply : flat (greatest (away x (centers x C))) = names x := by
  funext q
  unfold flat
  pointwise [greatest_apply x C hC]
  rfl

end Values

variable (m : (ℓ : Loc nD τ sig) → Buf (Elt Ideal) ℓ) (c : Dev nD)

/-- After the loop. -/
abbrev VL : Valuation τ sig (Elt Ideal) := after condOps (Wk m 512 c)

theorem last_arg : VL m c (ref main_arg0) = Wk m 512 c (ref main_arg0) := by after_results <;> rfl
theorem last_past : VL m c (ref main_v3_3) = Wk m 512 c (ref main_v3_3) := by after_results <;> rfl

theorem VR_eq : VR m c = after nameOps (after distOps (VL m c)) := rfl

variable {m c} (hx : Answer.Finite (given m c))
include hx

/-- What the run leaves in the argument and in the two results. -/
theorem VR_arg : VR m c (ref main_arg0) = given m c := by
  rw [VR_eq, name_arg, dist_arg, last_arg, (sampled m c hx 512 le_rfl).arg]

theorem VR_names : VR m c (ref main_v44) = names (given m c) := by
  have h := sampled m c hx 512 le_rfl
  rw [VR_eq, name_flat _ (dist_iota _), dist_greatest, last_arg, last_past, h.arg]
  exact flat_apply _ _ fun b j => h.past b j j.isLt

theorem VR_rows : VR m c (ref main_v53) = taken (F := Ideal) (given m c) (names (given m c)) := by
  rw [← VR_names hx, VR_eq, name_flat _ (dist_iota _), name_taken _ (dist_iota _), dist_arg, last_arg, (sampled m c hx 512 le_rfl).arg]

end Cert.Proof.Ref

end
-- ==== Proof.WholeClaims.lean ====
/-
  The claims of the whole program over the extended reals, its points finite: it and its reference run, and both results of the
  one are both results of the other.
-/
module

public import proofs.«01_k».proof.Defs
public import proofs.«01_k».proof.Proof.Gen.Pre_finite
public import proofs.«01_k».proof.Proof.WholeValue
public import proofs.«01_k».proof.Proof.RefValue

@[expose] public section

noncomputable section

namespace Cert.Proof

open Idealize.ShloMosaic Idealize.ShloMosaic.TcCoe Idealize.SL.Sem

/-- The precondition gives every coordinate as finite. -/
theorem finite_of_pre (x : FVec Ideal Cert.Pre_finite.S4x16384x3 .f32) (h : Cert.Pre_finite.fn (F := Ideal) x = fun _ => 1#1) : Answer.Finite x := fun i => by
  haveI : Subsingleton Cert.Pre_finite.S_.Idx := ⟨fun a b => funext fun i => i.elim0⟩
  have e := congrFun h (fun i => i.elim0)
  unfold Cert.Pre_finite.fn at e
  have e' := Host.reduce_andi_all _ _ _ _ _ e i
  have e2 : BitVec.ofBool (decide (max (x i) (-(x i)) < Ideal.ofBits .f32 2139095040#32)) = 1#1 := e'
  have ht : Ideal.ofBits .f32 2139095040#32 = ⊤ := by simp [Ideal.ofBits, Ideal.ieee]
  rw [ht] at e2
  have e3 : max (x i) (-(x i)) < ⊤ := by
    by_contra q
    simp [q] at e2
  constructor
  · rintro q
    simp [q] at e3
  · rintro q
    simp [q] at e3

/-- The reference's rows are the kernel's. -/
theorem taken_eq (x : FVec Ideal Cert.ReferenceIdeal.S4x16384x3 .f32) :
    Ref.taken (F := Ideal) x (Answer.names x) = Whole.rows x :=
  (reference_value (F := Ideal) (Answer.names x) x (fun _ => Answer.name_lt _ _ _ _)).trans
    (congrArg (fun r => shapeCast Cert.GatherIdeal.S4x512x32x3 r Cert.GatherIdeal.Gen.shapeCasts_S65536x3_S4x512x32x3)
      (cut_picked (F := Ideal) (Answer.names x) x))

theorem quiescent_Whole : Cert.quiescent_KernelIdeal := fun m g hpre =>
  have hx : ∀ d, Answer.Finite (Whole.given m d) := fun d => finite_of_pre _ (hpre d)
  (θ_run Cert.KernelIdeal.defs _ _).mono (fun _ h => ⟨fun c => (h.1 c).2.2.trans (Whole.VD_arg m c), h.2⟩)
    (Whole.run_main (F := Ideal) m g (Whole.in_range hx))

theorem quiescent_WholeRef : Cert.quiescent_ReferenceIdeal := fun m g hpre =>
  (θ_run Cert.ReferenceIdeal.defs _ _).mono
    (fun r h => ⟨fun c => (h c _ rfl).trans (Ref.VR_arg (finite_of_pre _ (hpre c))), sem_eq_zero_of_no_sems (by decide) r.2⟩)
    (Ref.run_main (F := Ideal) m g)

theorem algebraic_Whole : Cert.algebraic_KernelIdeal_ReferenceIdeal := fun m g m' g' hpre hargs =>
  have hx : ∀ d, Answer.Finite (Whole.given m d) := fun d => finite_of_pre _ (hpre d)
  have hx' : ∀ d, Answer.Finite (Ref.given m' d) := fun d => by
    have := hx d
    rw [show Ref.given m' d = Whole.given m d from hargs d]
    exact this
  ⟨fun c => Answer.names (Whole.given m c), fun c => Whole.rows (Whole.given m c),
    (θ_run Cert.KernelIdeal.defs _ _).mono
      (fun _ h c => ⟨(h.1 c).1.trans ((Whole.VD_v20 m c).trans (Whole.words_apply (hx c))), (h.1 c).2.1.trans (Whole.rows_apply (hx c)),
        (h.1 c).2.2.trans (Whole.VD_arg m c)⟩)
      (Whole.run_main (F := Ideal) m g (Whole.in_range hx)),
    (θ_run Cert.ReferenceIdeal.defs _ _).mono
      (fun _ h c => ⟨(h c _ rfl).trans ((Ref.VR_names (hx' c)).trans (congrArg Answer.names (hargs c))),
        (h c _ rfl).trans ((Ref.VR_rows (hx' c)).trans ((taken_eq _).trans (congrArg Whole.rows (hargs c)))),
        (h c _ rfl).trans (Ref.VR_arg (hx' c))⟩)
      (Ref.run_main (F := Ideal) m' g')⟩

end Cert.Proof

end
-- ==== Proof.lean ====
/-
  The certificate's claims, together.
-/
module

public import proofs.«01_k».proof.Defs
public import proofs.«01_k».proof.Proof.Gen.Gather
public import proofs.«01_k».proof.Proof.Gen.GatherIdeal
public import proofs.«01_k».proof.Proof.Gen.GatherRef
public import proofs.«01_k».proof.Proof.Gen.GatherRefIdeal
public import proofs.«01_k».proof.Proof.Gen.Pre_rows_exist
public import proofs.«01_k».proof.Proof.Gen.Pre_finite
public import proofs.«01_k».proof.Proof.Gen.KernelIdeal
public import proofs.«01_k».proof.Proof.Gen.KernelIdeal.Launch
public import proofs.«01_k».proof.Proof.Gen.KernelIdeal.Regions
public import proofs.«01_k».proof.Proof.Gen.KernelIdeal.Points
public import proofs.«01_k».proof.Proof.Gen.KernelIdeal.Loops
public import proofs.«01_k».proof.Proof.Gen.ReferenceIdeal
public import proofs.«01_k».proof.Proof.GatherClaims
public import proofs.«01_k».proof.Proof.WholeClaims

@[expose] public section

noncomputable section

namespace Cert.Proof

theorem claim : Cert.Claim :=
  ⟨Cert.Gather.Gen.facts, Cert.GatherIdeal.Gen.facts, Cert.GatherRefIdeal.Gen.facts, Cert.GatherRef.Gen.facts, Cert.KernelIdeal.Gen.facts,
    Cert.ReferenceIdeal.Gen.facts, Cert.Pre_rows_exist.Gen.facts, Cert.Pre_finite.Gen.facts,
    quiescent_Gather, quiescent_GatherIdeal, quiescent_GatherRefIdeal, quiescent_GatherRef, quiescent_Whole, quiescent_WholeRef,
    trivial, algebraic_Gather, bitexact_Gather, algebraic_Whole⟩

end Cert.Proof

end
